-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "log2e_8" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v32_0)) (v1 : (c : Dev Cert.KernelIdeal.nD) → Buf (Elt Ideal) ((c.tc : Thread Cert.KernelIdeal.nD Cert.KernelIdeal.τ).loc Cert.KernelIdeal.main_v32_1)) (v2 : (c : Dev Cert.KernelIdeal.nD) → Buf (Elt Ideal) ((c.tc : Thread Cert.KernelIdeal.nD Cert.KernelIdeal.τ).loc Cert.KernelIdeal.main_v32_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32_0) = v0 c
          ∧ r.2.mem ((c.tc : Thread Cert.KernelIdeal.nD Cert.KernelIdeal.τ).loc Cert.KernelIdeal.main_v32_1) = v1 c
          ∧ r.2.mem ((c.tc : Thread Cert.KernelIdeal.nD Cert.KernelIdeal.τ).loc Cert.KernelIdeal.main_v32_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v4_0)) (v1 : (c : Dev Cert.Kernel2Ideal.nD) → Buf (Elt Ideal) ((c.tc : Thread Cert.Kernel2Ideal.nD Cert.Kernel2Ideal.τ).loc Cert.Kernel2Ideal.main_v4_1)) (v2 : (c : Dev Cert.Kernel2Ideal.nD) → Buf (Elt Ideal) ((c.tc : Thread Cert.Kernel2Ideal.nD Cert.Kernel2Ideal.τ).loc Cert.Kernel2Ideal.main_v4_2)) (v3 : (c : Dev Cert.Kernel2Ideal.nD) → Buf (Elt Ideal) ((c.tc : Thread Cert.Kernel2Ideal.nD Cert.Kernel2Ideal.τ).loc Cert.Kernel2Ideal.main_v4_3)) (v4 : (c : Dev Cert.Kernel2Ideal.nD) → Buf (Elt Ideal) ((c.tc : Thread Cert.Kernel2Ideal.nD Cert.Kernel2Ideal.τ).loc Cert.Kernel2Ideal.main_v4_4)) (v5 : (c : Dev Cert.Kernel2Ideal.nD) → Buf (Elt Ideal) ((c.tc : Thread Cert.Kernel2Ideal.nD Cert.Kernel2Ideal.τ).loc Cert.Kernel2Ideal.main_v4_5)) (v6 : (c : Dev Cert.Kernel2Ideal.nD) → Buf (Elt Ideal) ((c.tc : Thread Cert.Kernel2Ideal.nD Cert.Kernel2Ideal.τ).loc Cert.Kernel2Ideal.main_v4_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4_0) = v0 c
          ∧ r.2.mem ((c.tc : Thread Cert.Kernel2Ideal.nD Cert.Kernel2Ideal.τ).loc Cert.Kernel2Ideal.main_v4_1) = v1 c
          ∧ r.2.mem ((c.tc : Thread Cert.Kernel2Ideal.nD Cert.Kernel2Ideal.τ).loc Cert.Kernel2Ideal.main_v4_2) = v2 c
          ∧ r.2.mem ((c.tc : Thread Cert.Kernel2Ideal.nD Cert.Kernel2Ideal.τ).loc Cert.Kernel2Ideal.main_v4_3) = v3 c
          ∧ r.2.mem ((c.tc : Thread Cert.Kernel2Ideal.nD Cert.Kernel2Ideal.τ).loc Cert.Kernel2Ideal.main_v4_4) = v4 c
          ∧ r.2.mem ((c.tc : Thread Cert.Kernel2Ideal.nD Cert.Kernel2Ideal.τ).loc Cert.Kernel2Ideal.main_v4_5) = v5 c
          ∧ r.2.mem ((c.tc : Thread Cert.Kernel2Ideal.nD Cert.Kernel2Ideal.τ).loc Cert.Kernel2Ideal.main_v4_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v81) = v0 c
          ∧ r.2.mem ((c.tc : Thread Cert.Reference2Ideal.nD Cert.Reference2Ideal.τ).loc Cert.Reference2Ideal.main_v83) = v1 c
          ∧ r.2.mem ((c.tc : Thread Cert.Reference2Ideal.nD Cert.Reference2Ideal.τ).loc Cert.Reference2Ideal.main_v86) = v2 c
          ∧ r.2.mem ((c.tc : Thread Cert.Reference2Ideal.nD Cert.Reference2Ideal.τ).loc Cert.Reference2Ideal.main_v87) = v3 c
          ∧ r.2.mem ((c.tc : Thread Cert.Reference2Ideal.nD Cert.Reference2Ideal.τ).loc Cert.Reference2Ideal.main_v88) = v4 c
          ∧ r.2.mem ((c.tc : Thread Cert.Reference2Ideal.nD Cert.Reference2Ideal.τ).loc Cert.Reference2Ideal.main_v91) = v5 c
          ∧ r.2.mem ((c.tc : Thread Cert.Reference2Ideal.nD Cert.Reference2Ideal.τ).loc Cert.Reference2Ideal.main_v94) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v14)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v14)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S32x256x1024 : Shape := ⟨3, ![32, 256, 1024]⟩
abbrev S2x8x3072 : Shape := ⟨3, ![2, 8, 3072]⟩
abbrev S1x1024x2560 : Shape := ⟨3, ![1, 1024, 2560]⟩
abbrev S1x64 : Shape := ⟨2, ![1, 64]⟩
abbrev S1x1024x1024 : Shape := ⟨3, ![1, 1024, 1024]⟩
abbrev S2x1024 : Shape := ⟨2, ![2, 1024]⟩
abbrev S_ : Shape := ⟨0, ![]⟩

class Facts : Prop where
  bcast_S_S1x64 : S_.BroadcastsInDim S1x64 (![] : Fin 0 → Fin S1x64.rank)

variable [Facts]

def fn {F : FTy → Type} [FloatOps F] (main_arg0 : FVec F S32x256x1024 .f32) (main_arg1 : FVec F S2x8x3072 .f32) (main_arg2 : FVec F S1x1024x2560 .f32) (main_arg3 : FVec F S1x64 .f32) (main_arg4 : FVec F S1x64 .f32) (main_arg5 : FVec F S1x1024x1024 .f32) (main_arg6 : FVec F S2x1024 .f32) (main_arg7 : FVec F S2x1024 .f32) : IVec S1x64 1 × IVec S1x64 1 :=
  let main_v0 : FVec F S1x64 .f32 := Host.absf main_arg3
  let main_cst : FVec F S_ .f32 := constant S_ .f32 0x7F800000#32
  let main_v1 : FVec F S1x64 .f32 := broadcastInDim S1x64 ![] bcast_S_S1x64 main_cst
  let main_v2 : IVec S1x64 1 := cmpf .olt main_v0 main_v1
  let main_v3 : FVec F S1x64 .f32 := Host.absf main_arg4
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  (main_v2, main_v5)
-- ==== Kernel.lean ====
abbrev S32x256x1024 : Shape := ⟨3, ![32, 256, 1024]⟩
abbrev S2x8x3072 : Shape := ⟨3, ![2, 8, 3072]⟩
abbrev S1x1024x2560 : Shape := ⟨3, ![1, 1024, 2560]⟩
abbrev S1x64 : Shape := ⟨2, ![1, 64]⟩
abbrev S1x1024x1024 : Shape := ⟨3, ![1, 1024, 1024]⟩
abbrev S2x1024 : Shape := ⟨2, ![2, 1024]⟩
abbrev S2x8x1x3072 : Shape := ⟨4, ![2, 8, 1, 3072]⟩
abbrev S8192x1024 : Shape := ⟨2, ![8192, 1024]⟩
abbrev S1024x2560 : Shape := ⟨2, ![1024, 2560]⟩
abbrev S1024x1024 : Shape := ⟨2, ![1024, 1024]⟩
abbrev S64 : Shape := ⟨1, ![64]⟩
abbrev S4x64 : Shape := ⟨2, ![4, 64]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S_ : Shape := ⟨0, ![]⟩
abbrev S1x1024 : Shape := ⟨2, ![1, 1024]⟩
abbrev S1024 : Shape := ⟨1, ![1024]⟩
abbrev S32x256x4x64 : Shape := ⟨4, ![32, 256, 4, 64]⟩
abbrev S2x256x1024 : Shape := ⟨3, ![2, 256, 1024]⟩
abbrev S1x1x1x3072 : Shape := ⟨4, ![1, 1, 1, 3072]⟩
abbrev S2x256x4x64 : Shape := ⟨4, ![2, 256, 4, 64]⟩
abbrev S256x1024 : Shape := ⟨2, ![256, 1024]⟩
abbrev S2x4x256x256 : Shape := ⟨4, ![2, 4, 256, 256]⟩
abbrev S2x256x256 : Shape := ⟨3, ![2, 256, 256]⟩
abbrev S2x1024x256 : Shape := ⟨3, ![2, 1024, 256]⟩
abbrev S1x3072 : Shape := ⟨2, ![1, 3072]⟩
abbrev S1x256x1024 : Shape := ⟨3, ![1, 256, 1024]⟩
abbrev S1024x256 : Shape := ⟨2, ![1024, 256]⟩
abbrev S256x128 : Shape := ⟨2, ![256, 128]⟩
abbrev S256x4x64 : Shape := ⟨3, ![256, 4, 64]⟩
abbrev S1x256x4x64 : Shape := ⟨4, ![1, 256, 4, 64]⟩
abbrev S1x1x256x256 : Shape := ⟨4, ![1, 1, 256, 256]⟩
abbrev S8x256 : Shape := ⟨2, ![8, 256]⟩
abbrev S1x256x256 : Shape := ⟨3, ![1, 256, 256]⟩
abbrev S64x256 : Shape := ⟨2, ![64, 256]⟩
abbrev S16x256 : Shape := ⟨2, ![16, 256]⟩
abbrev S80x256 : Shape := ⟨2, ![80, 256]⟩
abbrev S1x1024x256 : Shape := ⟨3, ![1, 1024, 256]⟩

abbrev nBuf : Space → Nat
  | .hbm => 47
  | .vmem => 24
  | .smem => 0
  | _ => 0

abbrev bufTy : (tb : Table) → Fin (tcTables nBuf tb) → BufTy
  | .hbm, ⟨0, _⟩ => ⟨S32x256x1024, .f32⟩
  | .hbm, ⟨1, _⟩ => ⟨S2x8x3072, .f32⟩
  | .hbm, ⟨2, _⟩ => ⟨S1x1024x2560, .f32⟩
  | .hbm, ⟨3, _⟩ => ⟨S1x64, .f32⟩
  | .hbm, ⟨4, _⟩ => ⟨S1x64, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S2x8x1x3072, .f32⟩
  | .hbm, ⟨9, _⟩ => ⟨S8192x1024, .f32⟩
  | .hbm, ⟨10, _⟩ => ⟨S1024x2560, .f32⟩
  | .hbm, ⟨11, _⟩ => ⟨S1024x2560, .bf16⟩
  | .hbm, ⟨12, _⟩ => ⟨S1024x1024, .f32⟩
  | .hbm, ⟨13, _⟩ => ⟨S1024x1024, .bf16⟩
  | .hbm, ⟨14, _⟩ => ⟨S64, .f32⟩
  | .hbm, ⟨15, _⟩ => ⟨S1x64, .f32⟩
  | .hbm, ⟨16, _⟩ => ⟨S4x64, .f32⟩
  | .hbm, ⟨17, _⟩ => ⟨S256, .f32⟩
  | .hbm, ⟨18, _⟩ => ⟨S1x256, .f32⟩
  | .hbm, ⟨19, _⟩ => ⟨S64, .f32⟩
  | .hbm, ⟨20, _⟩ => ⟨S1x64, .f32⟩
  | .hbm, ⟨21, _⟩ => ⟨S4x64, .f32⟩
  | .hbm, ⟨22, _⟩ => ⟨S256, .f32⟩
  | .hbm, ⟨23, _⟩ => ⟨S1x256, .f32⟩
  | .hbm, ⟨24, _⟩ => ⟨S4x64, .i32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i1⟩
  | .hbm, ⟨31, _⟩ => ⟨S_, .f32⟩
  | .hbm, ⟨32, _⟩ => ⟨S_, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .bf16⟩
  | .hbm, ⟨37, _⟩ => ⟨S1x1024, .f32⟩
  | .hbm, ⟨38, _⟩ => ⟨S1024, .f32⟩
  | .hbm, ⟨39, _⟩ => ⟨S1x1024, .f32⟩
  | .hbm, ⟨40, _⟩ => ⟨S1x1024, .f32⟩
  | .hbm, ⟨41, _⟩ => ⟨S1024, .f32⟩
  | .hbm, ⟨42, _⟩ => ⟨S1x1024, .f32⟩
  | .hbm, ⟨43, _⟩ => ⟨S32x256x1024, .f32⟩
  | .hbm, ⟨44, _⟩ => ⟨S32x256x1024, .f32⟩
  | .hbm, ⟨45, _⟩ => ⟨S32x256x4x64, .f32⟩
  | .hbm, ⟨46, _⟩ => ⟨S32x256x4x64, .f32⟩
  | .local _ .vmem, ⟨0, _⟩ => ⟨S2x256x1024, .f32⟩
  | .local _ .vmem, ⟨1, _⟩ => ⟨S2x256x1024, .f32⟩
  | .local _ .vmem, ⟨2, _⟩ => ⟨S1x1x1x3072, .f32⟩
  | .local _ .vmem, ⟨3, _⟩ => ⟨S1024x2560, .bf16⟩
  | .local _ .vmem, ⟨4, _⟩ => ⟨S256x256, .bf16⟩
  | .local _ .vmem, ⟨5, _⟩ => ⟨S1x256, .f32⟩
  | .local _ .vmem, ⟨6, _⟩ => ⟨S1x256, .f32⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S2x256x1024, .f32⟩
  | .local _ .vmem, ⟨11, _⟩ => ⟨S2x256x1024, .f32⟩
  | .local _ .vmem, ⟨12, _⟩ => ⟨S2x256x4x64, .f32⟩
  | .local _ .vmem, ⟨13, _⟩ => ⟨S2x256x4x64, .f32⟩
  | .local _ .vmem, ⟨14, _⟩ => ⟨S2x256x4x64, .f32⟩
  | .local _ .vmem, ⟨15, _⟩ => ⟨S2x256x4x64, .f32⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x256, .bf16⟩
  | .local _ .vmem, ⟨20, _⟩ => ⟨S2x256x1024, .bf16⟩
  | .local _ .vmem, ⟨21, _⟩ => ⟨S2x4x256x256, .f32⟩
  | .local _ .vmem, ⟨22, _⟩ => ⟨S2x256x256, .bf16⟩
  | .local _ .vmem, ⟨23, _⟩ => ⟨S2x1024x256, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32_0 : Ref sig .tc := ⟨.hbm, 44, rfl⟩
abbrev main_v32_1 : Ref sig .tc := ⟨.hbm, 45, rfl⟩
abbrev main_v32_2 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x4x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x4x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log2e_8" => some (((8 * (Real.log 2))⁻¹ : ℝ) : EReal)
  | _ => none
-- ==== ReferenceIdeal.lean ====
abbrev S32x256x1024 : Shape := ⟨3, ![32, 256, 1024]⟩
abbrev S2x8x3072 : Shape := ⟨3, ![2, 8, 3072]⟩
abbrev S1x1024x2560 : Shape := ⟨3, ![1, 1024, 2560]⟩
abbrev S1x64 : Shape := ⟨2, ![1, 64]⟩
abbrev S1x1024x1024 : Shape := ⟨3, ![1, 1024, 1024]⟩
abbrev S2x1024 : Shape := ⟨2, ![2, 1024]⟩
abbrev S1x1x3072 : Shape := ⟨3, ![1, 1, 3072]⟩
abbrev S3072 : Shape := ⟨1, ![3072]⟩
abbrev S1024 : Shape := ⟨1, ![1024]⟩
abbrev S_ : Shape := ⟨0, ![]⟩
abbrev S1x1x1024 : Shape := ⟨3, ![1, 1, 1024]⟩
abbrev S1024x2560 : Shape := ⟨2, ![1024, 2560]⟩
abbrev S32x256x2560 : Shape := ⟨3, ![32, 256, 2560]⟩
abbrev S32x256x256 : Shape := ⟨3, ![32, 256, 256]⟩
abbrev S32x256x16x64 : Shape := ⟨4, ![32, 256, 16, 64]⟩
abbrev S64 : Shape := ⟨1, ![64]⟩
abbrev S32x256x16 : Shape := ⟨3, ![32, 256, 16]⟩
abbrev S32x256x16x1 : Shape := ⟨4, ![32, 256, 16, 1]⟩
abbrev S1x1x1x64 : Shape := ⟨4, ![1, 1, 1, 64]⟩
abbrev S32x256x4x64 : Shape := ⟨4, ![32, 256, 4, 64]⟩
abbrev S32x256x4 : Shape := ⟨3, ![32, 256, 4]⟩
abbrev S32x256x4x1 : Shape := ⟨4, ![32, 256, 4, 1]⟩
abbrev S32x256x4x4x64 : Shape := ⟨5, ![32, 256, 4, 4, 64]⟩
abbrev S32x4x256x256x4 : Shape := ⟨5, ![32, 4, 256, 256, 4]⟩
abbrev S32x4x4x256x256 : Shape := ⟨5, ![32, 4, 4, 256, 256]⟩
abbrev S32x4x4x256 : Shape := ⟨4, ![32, 4, 4, 256]⟩
abbrev S32x4x4x256x1 : Shape := ⟨5, ![32, 4, 4, 256, 1]⟩
abbrev S32x4x64x4x256 : Shape := ⟨5, ![32, 4, 64, 4, 256]⟩
abbrev S1024x1024 : Shape := ⟨2, ![1024, 1024]⟩
abbrev S1x1024 : Shape := ⟨2, ![1, 1024]⟩
abbrev S32x256 : Shape := ⟨2, ![32, 256]⟩
abbrev S32x256x1 : Shape := ⟨3, ![32, 256, 1]⟩

abbrev nBuf : Space → Nat
  | .hbm => 140
  | .vmem => 0
  | .smem => 0
  | _ => 0

abbrev hbmTy0_0 (i : Nat) : BufTy := match i % 128 with
  | 0 => ⟨S32x256x1024, .f32⟩
  | 1 => ⟨S2x8x3072, .f32⟩
  | 2 => ⟨S1x1024x2560, .f32⟩
  | 3 => ⟨S1x64, .f32⟩
  | 4 => ⟨S1x64, .f32⟩
  | 5 => ⟨S1x1024x1024, .f32⟩
  | 6 => ⟨S2x1024, .f32⟩
  | 7 => ⟨S2x1024, .f32⟩
  | 8 => ⟨S1x1x3072, .f32⟩
  | 9 => ⟨S3072, .f32⟩
  | 10 => ⟨S1024, .f32⟩
  | 11 => ⟨S1024, .f32⟩
  | 12 => ⟨S1024, .f32⟩
  | 13 => ⟨S_, .f32⟩
  | 14 => ⟨S1024, .f32⟩
  | 15 => ⟨S1024, .f32⟩
  | 16 => ⟨S1x1x1024, .f32⟩
  | 17 => ⟨S32x256x1024, .f32⟩
  | 18 => ⟨S32x256x1024, .f32⟩
  | 19 => ⟨S1x1x1024, .f32⟩
  | 20 => ⟨S32x256x1024, .f32⟩
  | 21 => ⟨S32x256x1024, .f32⟩
  | 22 => ⟨S1024x2560, .f32⟩
  | 23 => ⟨S32x256x2560, .f32⟩
  | 24 => ⟨S32x256x1024, .f32⟩
  | 25 => ⟨S32x256x256, .f32⟩
  | 26 => ⟨S32x256x256, .f32⟩
  | 27 => ⟨S32x256x1024, .f32⟩
  | 28 => ⟨S32x256x16x64, .f32⟩
  | 29 => ⟨S64, .f32⟩
  | 30 => ⟨S32x256x16x64, .f32⟩
  | 31 => ⟨S_, .f32⟩
  | 32 => ⟨S32x256x16, .f32⟩
  | 33 => ⟨S32x256x16x1, .f32⟩
  | 34 => ⟨S_, .f32⟩
  | 35 => ⟨S32x256x16x1, .f32⟩
  | 36 => ⟨S32x256x16x1, .f32⟩
  | 37 => ⟨S_, .f32⟩
  | 38 => ⟨S32x256x16x1, .f32⟩
  | 39 => ⟨S32x256x16x1, .f32⟩
  | 40 => ⟨S32x256x16x1, .f32⟩
  | 41 => ⟨S32x256x16x64, .f32⟩
  | 42 => ⟨S32x256x16x64, .f32⟩
  | 43 => ⟨S1x1x1x64, .f32⟩
  | 44 => ⟨S32x256x16x64, .f32⟩
  | 45 => ⟨S32x256x16x64, .f32⟩
  | 46 => ⟨S32x256x4x64, .f32⟩
  | 47 => ⟨S64, .f32⟩
  | 48 => ⟨S32x256x4x64, .f32⟩
  | 49 => ⟨S_, .f32⟩
  | 50 => ⟨S32x256x4, .f32⟩
  | 51 => ⟨S32x256x4x1, .f32⟩
  | 52 => ⟨S_, .f32⟩
  | 53 => ⟨S32x256x4x1, .f32⟩
  | 54 => ⟨S32x256x4x1, .f32⟩
  | 55 => ⟨S_, .f32⟩
  | 56 => ⟨S32x256x4x1, .f32⟩
  | 57 => ⟨S32x256x4x1, .f32⟩
  | 58 => ⟨S32x256x4x1, .f32⟩
  | 59 => ⟨S32x256x4x64, .f32⟩
  | 60 => ⟨S32x256x4x64, .f32⟩
  | 61 => ⟨S1x1x1x64, .f32⟩
  | 62 => ⟨S32x256x4x64, .f32⟩
  | 63 => ⟨S32x256x4x64, .f32⟩
  | 64 => ⟨S32x256x4x64, .f32⟩
  | 65 => ⟨S32x256x4x4x64, .f32⟩
  | 66 => ⟨S32x4x256x256x4, .f32⟩
  | 67 => ⟨S32x4x4x256x256, .f32⟩
  | 68 => ⟨S_, .f32⟩
  | 69 => ⟨S32x4x4x256x256, .f32⟩
  | 70 => ⟨S32x4x4x256x256, .f32⟩
  | 71 => ⟨S_, .f32⟩
  | 72 => ⟨S32x4x4x256, .f32⟩
  | 73 => ⟨S_, .f32⟩
  | 74 => ⟨S32x4x4x256, .f32⟩
  | 75 => ⟨S32x4x4x256, .f32⟩
  | 76 => ⟨S32x4x4x256x1, .f32⟩
  | 77 => ⟨S32x4x4x256x256, .f32⟩
  | 78 => ⟨S32x4x4x256x256, .f32⟩
  | 79 => ⟨S32x4x4x256x256, .f32⟩
  | 80 => ⟨S_, .f32⟩
  | 81 => ⟨S32x4x4x256, .f32⟩
  | 82 => ⟨S32x4x4x256x1, .f32⟩
  | 83 => ⟨S32x4x4x256x256, .f32⟩
  | 84 => ⟨S32x4x4x256x256, .f32⟩
  | 85 => ⟨S32x4x64x4x256, .f32⟩
  | 86 => ⟨S32x256x4x4x64, .f32⟩
  | 87 => ⟨S32x256x1024, .f32⟩
  | 88 => ⟨S32x256x1024, .f32⟩
  | 89 => ⟨S32x256x1024, .f32⟩
  | 90 => ⟨S_, .f32⟩
  | 91 => ⟨S32x256x1024, .f32⟩
  | 92 => ⟨S32x256x1024, .f32⟩
  | 93 => ⟨S_, .f32⟩
  | 94 => ⟨S32x256x1024, .f32⟩
  | 95 => ⟨S32x256x1024, .f32⟩
  | 96 => ⟨S32x256x1024, .f32⟩
  | 97 => ⟨S32x256x1024, .f32⟩
  | 98 => ⟨S1024x1024, .f32⟩
  | 99 => ⟨S32x256x1024, .f32⟩
  | 100 => ⟨S_, .f32⟩
  | 101 => ⟨S32x256x1024, .f32⟩
  | 102 => ⟨S32x256x1024, .f32⟩
  | 103 => ⟨S1x1x1024, .f32⟩
  | 104 => ⟨S32x256x1024, .f32⟩
  | 105 => ⟨S32x256x1024, .f32⟩
  | 106 => ⟨S32x256x1024, .f32⟩
  | 107 => ⟨S1x1024, .f32⟩
  | 108 => ⟨S1024, .f32⟩
  | 109 => ⟨S1x1024, .f32⟩
  | 110 => ⟨S1024, .f32⟩
  | 111 => ⟨S_, .f32⟩
  | 112 => ⟨S32x256, .f32⟩
  | 113 => ⟨S32x256x1, .f32⟩
  | 114 => ⟨S_, .f32⟩
  | 115 => ⟨S32x256x1, .f32⟩
  | 116 => ⟨S32x256x1, .f32⟩
  | 117 => ⟨S32x256x1024, .f32⟩
  | 118 => ⟨S32x256x1024, .f32⟩
  | 119 => ⟨S32x256x1024, .f32⟩
  | 120 => ⟨S_, .f32⟩
  | 121 => ⟨S32x256, .f32⟩
  | 122 => ⟨S32x256x1, .f32⟩
  | 123 => ⟨S_, .f32⟩
  | 124 => ⟨S32x256x1, .f32⟩
  | 125 => ⟨S32x256x1, .f32⟩
  | 126 => ⟨S32x256x1024, .f32⟩
  | 127 => ⟨S32x256x1024, .f32⟩
  | _ => ⟨S32x256x1024, .f32⟩

abbrev hbmTy0_1 (i : Nat) : BufTy := match i % 128 with
  | 0 => ⟨S_, .f32⟩
  | 1 => ⟨S32x256x1, .f32⟩
  | 2 => ⟨S32x256x1, .f32⟩
  | 3 => ⟨S32x256x1, .f32⟩
  | 4 => ⟨S32x256x1024, .f32⟩
  | 5 => ⟨S32x256x1024, .f32⟩
  | 6 => ⟨S1x1x1024, .f32⟩
  | 7 => ⟨S32x256x1024, .f32⟩
  | 8 => ⟨S32x256x1024, .f32⟩
  | 9 => ⟨S1x1x1024, .f32⟩
  | 10 => ⟨S32x256x1024, .f32⟩
  | 11 => ⟨S32x256x1024, .f32⟩
  | _ => ⟨S32x256x1024, .f32⟩

abbrev hbmTy (i : Nat) : BufTy := match i / 128 with
  | 0 => hbmTy0_0 i
  | 1 => hbmTy0_1 i
  | _ => ⟨S32x256x1024, .f32⟩

abbrev bufTy : (tb : Table) → Fin (tcTables nBuf tb) → BufTy
  | .hbm, ⟨i, _⟩ => hbmTy i
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_0 : Ref sig .tc := ⟨.hbm, 31, rfl⟩
abbrev main_v22 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_cst_7 : Ref sig .tc := ⟨.hbm, 71, rfl⟩
abbrev main_v55 : Ref sig .tc := ⟨.hbm, 72, rfl⟩
abbrev main_cst_8 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_9 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_10 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_11 : Ref sig .tc := ⟨.hbm, 111, rfl⟩
abbrev main_v83 : Ref sig .tc := ⟨.hbm, 112, rfl⟩
abbrev main_v84 : Ref sig .tc := ⟨.hbm, 113, rfl⟩
abbrev main_cst_12 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_cst_13 : Ref sig .tc := ⟨.hbm, 120, rfl⟩
abbrev main_v90 : Ref sig .tc := ⟨.hbm, 121, rfl⟩
abbrev main_v91 : Ref sig .tc := ⟨.hbm, 122, rfl⟩
abbrev main_cst_14 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_15 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩

abbrev nD : Nat := 1
abbrev τ : Topo := Topo.v7x

variable {F : FTy → Type} [FloatOps F]
-- ==== Kernel2.lean ====
abbrev S32x256x1024 : Shape := ⟨3, ![32, 256, 1024]⟩
abbrev S2x8x3072 : Shape := ⟨3, ![2, 8, 3072]⟩
abbrev S1x1024x5120 : Shape := ⟨3, ![1, 1024, 5120]⟩
abbrev S2x1024 : Shape := ⟨2, ![2, 1024]⟩
abbrev S2x8x1x3072 : Shape := ⟨4, ![2, 8, 1, 3072]⟩
abbrev S8192x1024 : Shape := ⟨2, ![8192, 1024]⟩
abbrev S1024x5120 : Shape := ⟨2, ![1024, 5120]⟩
abbrev S32x2x1024x128 : Shape := ⟨4, ![32, 2, 1024, 128]⟩
abbrev S512x1024 : Shape := ⟨2, ![512, 1024]⟩
abbrev S1x1x1x3072 : Shape := ⟨4, ![1, 1, 1, 3072]⟩
abbrev S2x2x1024x128 : Shape := ⟨4, ![2, 2, 1024, 128]⟩
abbrev S1x3072 : Shape := ⟨2, ![1, 3072]⟩
abbrev S1x1024 : Shape := ⟨2, ![1, 1024]⟩
abbrev S1024x256 : Shape := ⟨2, ![1024, 256]⟩
abbrev S512x256 : Shape := ⟨2, ![512, 256]⟩
abbrev S256x512 : Shape := ⟨2, ![256, 512]⟩
abbrev S256x128 : Shape := ⟨2, ![256, 128]⟩
abbrev S1x1x256x128 : Shape := ⟨4, ![1, 1, 256, 128]⟩
abbrev S1x256 : Shape := ⟨2, ![1, 256]⟩

abbrev nBuf : Space → Nat
  | .hbm => 15
  | .vmem => 19
  | .smem => 0
  | _ => 0

abbrev bufTy : (tb : Table) → Fin (tcTables nBuf tb) → BufTy
  | .hbm, ⟨0, _⟩ => ⟨S32x256x1024, .f32⟩
  | .hbm, ⟨1, _⟩ => ⟨S2x8x3072, .f32⟩
  | .hbm, ⟨2, _⟩ => ⟨S1x1024x5120, .f32⟩
  | .hbm, ⟨3, _⟩ => ⟨S2x1024, .f32⟩
  | .hbm, ⟨4, _⟩ => ⟨S2x8x1x3072, .f32⟩
  | .hbm, ⟨5, _⟩ => ⟨S8192x1024, .f32⟩
  | .hbm, ⟨6, _⟩ => ⟨S1024x5120, .f32⟩
  | .hbm, ⟨7, _⟩ => ⟨S1024x5120, .bf16⟩
  | .hbm, ⟨8, _⟩ => ⟨S32x2x1024x128, .bf16⟩
  | .hbm, ⟨9, _⟩ => ⟨S8192x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S32x2x1024x128, .bf16⟩
  | .hbm, ⟨14, _⟩ => ⟨S32x2x1024x128, .bf16⟩
  | .local _ .vmem, ⟨0, _⟩ => ⟨S512x1024, .f32⟩
  | .local _ .vmem, ⟨1, _⟩ => ⟨S512x1024, .f32⟩
  | .local _ .vmem, ⟨2, _⟩ => ⟨S1x1x1x3072, .f32⟩
  | .local _ .vmem, ⟨3, _⟩ => ⟨S1024x5120, .bf16⟩
  | .local _ .vmem, ⟨4, _⟩ => ⟨S2x1024, .f32⟩
  | .local _ .vmem, ⟨5, _⟩ => ⟨S2x2x1024x128, .bf16⟩
  | .local _ .vmem, ⟨6, _⟩ => ⟨S2x2x1024x128, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S2x2x1024x128, .bf16⟩
  | .local _ .vmem, ⟨16, _⟩ => ⟨S2x2x1024x128, .bf16⟩
  | .local _ .vmem, ⟨17, _⟩ => ⟨S2x2x1024x128, .bf16⟩
  | .local _ .vmem, ⟨18, _⟩ => ⟨S2x2x1024x128, .bf16⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev main_v4_4 : Ref sig .tc := ⟨.hbm, 12, rfl⟩
abbrev main_v4_5 : Ref sig .tc := ⟨.hbm, 13, rfl⟩
abbrev main_v4_6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

def cc0_transform_10 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, v26.toNat, c0_i32_11.toNat, c0_i32_12.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2x1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S32x256x1024 : Shape := ⟨3, ![32, 256, 1024]⟩
abbrev S2x8x3072 : Shape := ⟨3, ![2, 8, 3072]⟩
abbrev S1x1024x5120 : Shape := ⟨3, ![1, 1024, 5120]⟩
abbrev S2x1024 : Shape := ⟨2, ![2, 1024]⟩
abbrev S1x1x3072 : Shape := ⟨3, ![1, 1, 3072]⟩
abbrev S3072 : Shape := ⟨1, ![3072]⟩
abbrev S1024 : Shape := ⟨1, ![1024]⟩
abbrev S_ : Shape := ⟨0, ![]⟩
abbrev S1x1x1024 : Shape := ⟨3, ![1, 1, 1024]⟩
abbrev S1024x5120 : Shape := ⟨2, ![1024, 5120]⟩
abbrev S32x256x5120 : Shape := ⟨3, ![32, 256, 5120]⟩
abbrev S1x1024 : Shape := ⟨2, ![1, 1024]⟩
abbrev S32x2x128x1024 : Shape := ⟨4, ![32, 2, 128, 1024]⟩
abbrev S32x2x1024x128 : Shape := ⟨4, ![32, 2, 1024, 128]⟩
abbrev S8192x1024 : Shape := ⟨2, ![8192, 1024]⟩

abbrev nBuf : Space → Nat
  | .hbm => 128
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S2x8x3072, .f32⟩
  | .hbm, ⟨2, _⟩ => ⟨S1x1024x5120, .f32⟩
  | .hbm, ⟨3, _⟩ => ⟨S2x1024, .f32⟩
  | .hbm, ⟨4, _⟩ => ⟨S1x1x3072, .f32⟩
  | .hbm, ⟨5, _⟩ => ⟨S3072, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S1024, .f32⟩
  | .hbm, ⟨12, _⟩ => ⟨S1x1x1024, .f32⟩
  | .hbm, ⟨13, _⟩ => ⟨S32x256x1024, .f32⟩
  | .hbm, ⟨14, _⟩ => ⟨S32x256x1024, .f32⟩
  | .hbm, ⟨15, _⟩ => ⟨S1x1x1024, .f32⟩
  | .hbm, ⟨16, _⟩ => ⟨S32x256x1024, .f32⟩
  | .hbm, ⟨17, _⟩ => ⟨S32x256x1024, .f32⟩
  | .hbm, ⟨18, _⟩ => ⟨S1024x5120, .f32⟩
  | .hbm, ⟨19, _⟩ => ⟨S32x256x5120, .f32⟩
  | .hbm, ⟨20, _⟩ => ⟨S32x256x1024, .f32⟩
  | .hbm, ⟨21, _⟩ => ⟨S32x256x1024, .f32⟩
  | .hbm, ⟨22, _⟩ => ⟨S32x256x1024, .f32⟩
  | .hbm, ⟨23, _⟩ => ⟨S32x256x1024, .f32⟩
  | .hbm, ⟨24, _⟩ => ⟨S32x256x1024, .f32⟩
  | .hbm, ⟨25, _⟩ => ⟨S1x1024, .f32⟩
  | .hbm, ⟨26, _⟩ => ⟨S1024, .f32⟩
  | .hbm, ⟨27, _⟩ => ⟨S_, .f32⟩
  | .hbm, ⟨28, _⟩ => ⟨S1024, .f32⟩
  | .hbm, ⟨29, _⟩ => ⟨S1024, .f32⟩
  | .hbm, ⟨30, _⟩ => ⟨S32x256x1024, .f32⟩
  | .hbm, ⟨31, _⟩ => ⟨S32x256x1024, .f32⟩
  | .hbm, ⟨32, _⟩ => ⟨S_, .f32⟩
  | .hbm, ⟨33, _⟩ => ⟨S32x256x1024, .f32⟩
  | .hbm, ⟨34, _⟩ => ⟨S32x256x1024, .f32⟩
  | .hbm, ⟨35, _⟩ => ⟨S_, .f32⟩
  | .hbm, ⟨36, _⟩ => ⟨S32x256x1024, .f32⟩
  | .hbm, ⟨37, _⟩ => ⟨S32x256x1024, .f32⟩
  | .hbm, ⟨38, _⟩ => ⟨S1x1x1024, .f32⟩
  | .hbm, ⟨39, _⟩ => ⟨S32x256x1024, .f32⟩
  | .hbm, ⟨40, _⟩ => ⟨S32x256x1024, .f32⟩
  | .hbm, ⟨41, _⟩ => ⟨S1x1x1024, .f32⟩
  | .hbm, ⟨42, _⟩ => ⟨S32x256x1024, .f32⟩
  | .hbm, ⟨43, _⟩ => ⟨S32x256x1024, .f32⟩
  | .hbm, ⟨44, _⟩ => ⟨S32x256x1024, .f32⟩
  | .hbm, ⟨45, _⟩ => ⟨S_, .f32⟩
  | .hbm, ⟨46, _⟩ => ⟨S1024, .f32⟩
  | .hbm, ⟨47, _⟩ => ⟨S1024, .f32⟩
  | .hbm, ⟨48, _⟩ => ⟨S32x256x1024, .f32⟩
  | .hbm, ⟨49, _⟩ => ⟨S32x256x1024, .f32⟩
  | .hbm, ⟨50, _⟩ => ⟨S32x256x1024, .f32⟩
  | .hbm, ⟨51, _⟩ => ⟨S_, .f32⟩
  | .hbm, ⟨52, _⟩ => ⟨S32x256x1024, .f32⟩
  | .hbm, ⟨53, _⟩ => ⟨S32x256x1024, .f32⟩
  | .hbm, ⟨54, _⟩ => ⟨S_, .f32⟩
  | .hbm, ⟨55, _⟩ => ⟨S32x256x1024, .f32⟩
  | .hbm, ⟨56, _⟩ => ⟨S32x256x1024, .f32⟩
  | .hbm, ⟨57, _⟩ => ⟨S1x1x1024, .f32⟩
  | .hbm, ⟨58, _⟩ => ⟨S32x256x1024, .f32⟩
  | .hbm, ⟨59, _⟩ => ⟨S32x256x1024, .f32⟩
  | .hbm, ⟨60, _⟩ => ⟨S1x1024, .f32⟩
  | .hbm, ⟨61, _⟩ => ⟨S1024, .f32⟩
  | .hbm, ⟨62, _⟩ => ⟨S_, .f32⟩
  | .hbm, ⟨63, _⟩ => ⟨S1024, .f32⟩
  | .hbm, ⟨64, _⟩ => ⟨S1024, .f32⟩
  | .hbm, ⟨65, _⟩ => ⟨S32x256x1024, .f32⟩
  | .hbm, ⟨66, _⟩ => ⟨S32x256x1024, .f32⟩
  | .hbm, ⟨67, _⟩ => ⟨S_, .f32⟩
  | .hbm, ⟨68, _⟩ => ⟨S32x256x1024, .f32⟩
  | .hbm, ⟨69, _⟩ => ⟨S32x256x1024, .f32⟩
  | .hbm, ⟨70, _⟩ => ⟨S_, .f32⟩
  | .hbm, ⟨71, _⟩ => ⟨S32x256x1024, .f32⟩
  | .hbm, ⟨72, _⟩ => ⟨S32x256x1024, .f32⟩
  | .hbm, ⟨73, _⟩ => ⟨S1x1x1024, .f32⟩
  | .hbm, ⟨74, _⟩ => ⟨S32x256x1024, .f32⟩
  | .hbm, ⟨75, _⟩ => ⟨S32x256x1024, .f32⟩
  | .hbm, ⟨76, _⟩ => ⟨S1x1x1024, .f32⟩
  | .hbm, ⟨77, _⟩ => ⟨S32x256x1024, .f32⟩
  | .hbm, ⟨78, _⟩ => ⟨S32x256x1024, .f32⟩
  | .hbm, ⟨79, _⟩ => ⟨S32x256x1024, .f32⟩
  | .hbm, ⟨80, _⟩ => ⟨S_, .f32⟩
  | .hbm, ⟨81, _⟩ => ⟨S1024, .f32⟩
  | .hbm, ⟨82, _⟩ => ⟨S1024, .f32⟩
  | .hbm, ⟨83, _⟩ => ⟨S32x256x1024, .f32⟩
  | .hbm, ⟨84, _⟩ => ⟨S32x256x1024, .f32⟩
  | .hbm, ⟨85, _⟩ => ⟨S32x256x1024, .f32⟩
  | .hbm, ⟨86, _⟩ => ⟨S_, .f32⟩
  | .hbm, ⟨87, _⟩ => ⟨S32x256x1024, .f32⟩
  | .hbm, ⟨88, _⟩ => ⟨S32x256x1024, .f32⟩
  | .hbm, ⟨89, _⟩ => ⟨S_, .f32⟩
  | .hbm, ⟨90, _⟩ => ⟨S32x256x1024, .f32⟩
  | .hbm, ⟨91, _⟩ => ⟨S32x256x1024, .f32⟩
  | .hbm, ⟨92, _⟩ => ⟨S1x1x1024, .f32⟩
  | .hbm, ⟨93, _⟩ => ⟨S32x256x1024, .f32⟩
  | .hbm, ⟨94, _⟩ => ⟨S32x256x1024, .f32⟩
  | .hbm, ⟨95, _⟩ => ⟨S32x256x1024, .f32⟩
  | .hbm, ⟨96, _⟩ => ⟨S32x256x1024, .f32⟩
  | .hbm, ⟨97, _⟩ => ⟨S_, .f32⟩
  | .hbm, ⟨98, _⟩ => ⟨S32x256x1024, .f32⟩
  | .hbm, ⟨99, _⟩ => ⟨S32x256x1024, .f32⟩
  | .hbm, ⟨100, _⟩ => ⟨S_, .f32⟩
  | .hbm, ⟨101, _⟩ => ⟨S32x256x1024, .f32⟩
  | .hbm, ⟨102, _⟩ => ⟨S32x256x1024, .f32⟩
  | .hbm, ⟨103, _⟩ => ⟨S32x256x1024, .f32⟩
  | .hbm, ⟨104, _⟩ => ⟨S32x2x128x1024, .f32⟩
  | .hbm, ⟨105, _⟩ => ⟨S32x2x1024x128, .f32⟩
  | .hbm, ⟨106, _⟩ => ⟨S32x2x1024x128, .bf16⟩
  | .hbm, ⟨107, _⟩ => ⟨S8192x1024, .f32⟩
  | .hbm, ⟨108, _⟩ => ⟨S8192x1024, .bf16⟩
  | .hbm, ⟨109, _⟩ => ⟨S32x256x1024, .f32⟩
  | .hbm, ⟨110, _⟩ => ⟨S32x256x1024, .f32⟩
  | .hbm, ⟨111, _⟩ => ⟨S_, .f32⟩
  | .hbm, ⟨112, _⟩ => ⟨S32x256x1024, .f32⟩
  | .hbm, ⟨113, _⟩ => ⟨S32x256x1024, .f32⟩
  | .hbm, ⟨114, _⟩ => ⟨S_, .f32⟩
  | .hbm, ⟨115, _⟩ => ⟨S32x256x1024, .f32⟩
  | .hbm, ⟨116, _⟩ => ⟨S32x256x1024, .f32⟩
  | .hbm, ⟨117, _⟩ => ⟨S32x256x1024, .f32⟩
  | .hbm, ⟨118, _⟩ => ⟨S8192x1024, .f32⟩
  | .hbm, ⟨119, _⟩ => ⟨S8192x1024, .bf16⟩
  | .hbm, ⟨120, _⟩ => ⟨S8192x1024, .f32⟩
  | .hbm, ⟨121, _⟩ => ⟨S8192x1024, .f32⟩
  | .hbm, ⟨122, _⟩ => ⟨S32x2x128x1024, .f32⟩
  | .hbm, ⟨123, _⟩ => ⟨S32x2x1024x128, .f32⟩
  | .hbm, ⟨124, _⟩ => ⟨S32x2x1024x128, .bf16⟩
  | .hbm, ⟨125, _⟩ => ⟨S32x2x128x1024, .f32⟩
  | .hbm, ⟨126, _⟩ => ⟨S32x2x1024x128, .f32⟩
  | .hbm, ⟨127, _⟩ => ⟨S32x2x1024x128, .bf16⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_1 : Ref sig .tc := ⟨.hbm, 32, rfl⟩
abbrev main_v26 : Ref sig .tc := ⟨.hbm, 33, rfl⟩
abbrev main_v27 : Ref sig .tc := ⟨.hbm, 34, rfl⟩
abbrev main_cst_2 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_4 : Ref sig .tc := ⟨.hbm, 51, rfl⟩
abbrev main_v42 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_7 : Ref sig .tc := ⟨.hbm, 67, rfl⟩
abbrev main_v55 : Ref sig .tc := ⟨.hbm, 68, rfl⟩
abbrev main_v56 : Ref sig .tc := ⟨.hbm, 69, rfl⟩
abbrev main_cst_8 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_cst_9 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_10 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_call0_v0 : Ref sig .tc := ⟨.hbm, 95, rfl⟩
abbrev main_call0_v1 : Ref sig .tc := ⟨.hbm, 96, rfl⟩
abbrev main_call0_cst : Ref sig .tc := ⟨.hbm, 97, rfl⟩
abbrev main_call0_v2 : Ref sig .tc := ⟨.hbm, 98, rfl⟩
abbrev main_call0_v3 : Ref sig .tc := ⟨.hbm, 99, rfl⟩
abbrev main_call0_cst_0 : Ref sig .tc := ⟨.hbm, 100, rfl⟩
abbrev main_call0_v4 : Ref sig .tc := ⟨.hbm, 101, rfl⟩
abbrev main_call0_v5 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_call1_v0 : Ref sig .tc := ⟨.hbm, 109, rfl⟩
abbrev main_call1_v1 : Ref sig .tc := ⟨.hbm, 110, rfl⟩
abbrev main_call1_cst : Ref sig .tc := ⟨.hbm, 111, rfl⟩
abbrev main_call1_v2 : Ref sig .tc := ⟨.hbm, 112, rfl⟩
abbrev main_call1_v3 : Ref sig .tc := ⟨.hbm, 113, rfl⟩
abbrev main_call1_cst_0 : Ref sig .tc := ⟨.hbm, 114, rfl⟩
abbrev main_call1_v4 : Ref sig .tc := ⟨.hbm, 115, rfl⟩
abbrev main_call1_v5 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩

abbrev nD : Nat := 1
abbrev τ : Topo := Topo.v7x

variable {F : FTy → Type} [FloatOps F]
-- ==== Kernel3.lean ====
abbrev S32x256x1024 : Shape := ⟨3, ![32, 256, 1024]⟩
abbrev S2x8x3072 : Shape := ⟨3, ![2, 8, 3072]⟩
abbrev S1x128 : Shape := ⟨2, ![1, 128]⟩
abbrev S1x1024x1024 : Shape := ⟨3, ![1, 1024, 1024]⟩
abbrev S2x1024 : Shape := ⟨2, ![2, 1024]⟩
abbrev S8192x1024 : Shape := ⟨2, ![8192, 1024]⟩
abbrev S2x8x1x3072 : Shape := ⟨4, ![2, 8, 1, 3072]⟩
abbrev S128 : Shape := ⟨1, ![128]⟩
abbrev S1024x1024 : Shape := ⟨2, ![1024, 1024]⟩
abbrev S1x1024 : Shape := ⟨2, ![1, 1024]⟩
abbrev S1024 : Shape := ⟨1, ![1024]⟩
abbrev S1x1x1x3072 : Shape := ⟨4, ![1, 1, 1, 3072]⟩
abbrev S1x3072 : Shape := ⟨2, ![1, 3072]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩

abbrev nBuf : Space → Nat
  | .hbm => 23
  | .vmem => 13
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .bf16⟩
  | .hbm, ⟨2, _⟩ => ⟨S32x256x1024, .f32⟩
  | .hbm, ⟨3, _⟩ => ⟨S2x8x3072, .f32⟩
  | .hbm, ⟨4, _⟩ => ⟨S1x128, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S8192x1024, .f32⟩
  | .hbm, ⟨9, _⟩ => ⟨S8192x1024, .bf16⟩
  | .hbm, ⟨10, _⟩ => ⟨S8192x1024, .f32⟩
  | .hbm, ⟨11, _⟩ => ⟨S2x8x1x3072, .f32⟩
  | .hbm, ⟨12, _⟩ => ⟨S128, .f32⟩
  | .hbm, ⟨13, _⟩ => ⟨S1x128, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x3072, .f32⟩
  | .local _ .vmem, ⟨7, _⟩ => ⟨S1x128, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S32x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32x256x1024 : Shape := ⟨3, ![32, 256, 1024]⟩
abbrev S2x8x3072 : Shape := ⟨3, ![2, 8, 3072]⟩
abbrev S1x128 : Shape := ⟨2, ![1, 128]⟩
abbrev S1x1024x1024 : Shape := ⟨3, ![1, 1024, 1024]⟩
abbrev S2x1024 : Shape := ⟨2, ![2, 1024]⟩
abbrev S1x1x3072 : Shape := ⟨3, ![1, 1, 3072]⟩
abbrev S3072 : Shape := ⟨1, ![3072]⟩
abbrev S1024 : Shape := ⟨1, ![1024]⟩
abbrev S32x256x8x128 : Shape := ⟨4, ![32, 256, 8, 128]⟩
abbrev S128 : Shape := ⟨1, ![128]⟩
abbrev S_ : Shape := ⟨0, ![]⟩
abbrev S32x256x8 : Shape := ⟨3, ![32, 256, 8]⟩
abbrev S32x256x8x1 : Shape := ⟨4, ![32, 256, 8, 1]⟩
abbrev S1x1x1x128 : Shape := ⟨4, ![1, 1, 1, 128]⟩
abbrev S1024x1024 : Shape := ⟨2, ![1024, 1024]⟩
abbrev S1x1x1024 : Shape := ⟨3, ![1, 1, 1024]⟩
abbrev S1x1024 : Shape := ⟨2, ![1, 1024]⟩
abbrev S32x256 : Shape := ⟨2, ![32, 256]⟩
abbrev S32x256x1 : Shape := ⟨3, ![32, 256, 1]⟩
abbrev S8192x1024 : Shape := ⟨2, ![8192, 1024]⟩

abbrev nBuf : Space → Nat
  | .hbm => 77
  | .vmem => 0
  | .smem => 0
  | _ => 0

abbrev bufTy : (tb : Table) → Fin (tcTables nBuf tb) → BufTy
  | .hbm, ⟨0, _⟩ => ⟨S32x256x1024, .f32⟩
  | .hbm, ⟨1, _⟩ => ⟨S32x256x1024, .bf16⟩
  | .hbm, ⟨2, _⟩ => ⟨S32x256x1024, .f32⟩
  | .hbm, ⟨3, _⟩ => ⟨S2x8x3072, .f32⟩
  | .hbm, ⟨4, _⟩ => ⟨S1x128, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S1x1x3072, .f32⟩
  | .hbm, ⟨9, _⟩ => ⟨S3072, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S32x256x8x128, .f32⟩
  | .hbm, ⟨14, _⟩ => ⟨S128, .f32⟩
  | .hbm, ⟨15, _⟩ => ⟨S32x256x8x128, .f32⟩
  | .hbm, ⟨16, _⟩ => ⟨S_, .f32⟩
  | .hbm, ⟨17, _⟩ => ⟨S32x256x8, .f32⟩
  | .hbm, ⟨18, _⟩ => ⟨S32x256x8x1, .f32⟩
  | .hbm, ⟨19, _⟩ => ⟨S_, .f32⟩
  | .hbm, ⟨20, _⟩ => ⟨S32x256x8x1, .f32⟩
  | .hbm, ⟨21, _⟩ => ⟨S32x256x8x1, .f32⟩
  | .hbm, ⟨22, _⟩ => ⟨S_, .f32⟩
  | .hbm, ⟨23, _⟩ => ⟨S32x256x8x1, .f32⟩
  | .hbm, ⟨24, _⟩ => ⟨S32x256x8x1, .f32⟩
  | .hbm, ⟨25, _⟩ => ⟨S32x256x8x1, .f32⟩
  | .hbm, ⟨26, _⟩ => ⟨S32x256x8x128, .f32⟩
  | .hbm, ⟨27, _⟩ => ⟨S32x256x8x128, .f32⟩
  | .hbm, ⟨28, _⟩ => ⟨S1x1x1x128, .f32⟩
  | .hbm, ⟨29, _⟩ => ⟨S32x256x8x128, .f32⟩
  | .hbm, ⟨30, _⟩ => ⟨S32x256x8x128, .f32⟩
  | .hbm, ⟨31, _⟩ => ⟨S32x256x1024, .f32⟩
  | .hbm, ⟨32, _⟩ => ⟨S32x256x1024, .f32⟩
  | .hbm, ⟨33, _⟩ => ⟨S32x256x1024, .f32⟩
  | .hbm, ⟨34, _⟩ => ⟨S1024x1024, .f32⟩
  | .hbm, ⟨35, _⟩ => ⟨S32x256x1024, .f32⟩
  | .hbm, ⟨36, _⟩ => ⟨S_, .f32⟩
  | .hbm, ⟨37, _⟩ => ⟨S32x256x1024, .f32⟩
  | .hbm, ⟨38, _⟩ => ⟨S32x256x1024, .f32⟩
  | .hbm, ⟨39, _⟩ => ⟨S1x1x1024, .f32⟩
  | .hbm, ⟨40, _⟩ => ⟨S32x256x1024, .f32⟩
  | .hbm, ⟨41, _⟩ => ⟨S32x256x1024, .f32⟩
  | .hbm, ⟨42, _⟩ => ⟨S32x256x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S_, .f32⟩
  | .hbm, ⟨48, _⟩ => ⟨S32x256, .f32⟩
  | .hbm, ⟨49, _⟩ => ⟨S32x256x1, .f32⟩
  | .hbm, ⟨50, _⟩ => ⟨S_, .f32⟩
  | .hbm, ⟨51, _⟩ => ⟨S32x256x1, .f32⟩
  | .hbm, ⟨52, _⟩ => ⟨S32x256x1, .f32⟩
  | .hbm, ⟨53, _⟩ => ⟨S32x256x1024, .f32⟩
  | .hbm, ⟨54, _⟩ => ⟨S32x256x1024, .f32⟩
  | .hbm, ⟨55, _⟩ => ⟨S32x256x1024, .f32⟩
  | .hbm, ⟨56, _⟩ => ⟨S_, .f32⟩
  | .hbm, ⟨57, _⟩ => ⟨S32x256, .f32⟩
  | .hbm, ⟨58, _⟩ => ⟨S32x256x1, .f32⟩
  | .hbm, ⟨59, _⟩ => ⟨S_, .f32⟩
  | .hbm, ⟨60, _⟩ => ⟨S32x256x1, .f32⟩
  | .hbm, ⟨61, _⟩ => ⟨S32x256x1, .f32⟩
  | .hbm, ⟨62, _⟩ => ⟨S32x256x1024, .f32⟩
  | .hbm, ⟨63, _⟩ => ⟨S32x256x1024, .f32⟩
  | .hbm, ⟨64, _⟩ => ⟨S_, .f32⟩
  | .hbm, ⟨65, _⟩ => ⟨S32x256x1, .f32⟩
  | .hbm, ⟨66, _⟩ => ⟨S32x256x1, .f32⟩
  | .hbm, ⟨67, _⟩ => ⟨S32x256x1, .f32⟩
  | .hbm, ⟨68, _⟩ => ⟨S32x256x1024, .f32⟩
  | .hbm, ⟨69, _⟩ => ⟨S32x256x1024, .f32⟩
  | .hbm, ⟨70, _⟩ => ⟨S1x1x1024, .f32⟩
  | .hbm, ⟨71, _⟩ => ⟨S32x256x1024, .f32⟩
  | .hbm, ⟨72, _⟩ => ⟨S32x256x1024, .f32⟩
  | .hbm, ⟨73, _⟩ => ⟨S1x1x1024, .f32⟩
  | .hbm, ⟨74, _⟩ => ⟨S32x256x1024, .f32⟩
  | .hbm, ⟨75, _⟩ => ⟨S32x256x1024, .f32⟩
  | .hbm, ⟨76, _⟩ => ⟨S8192x1024, .f32⟩
  | _, _ => ⟨S32x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Kernel4.lean ====
abbrev S4x1024x1024 : Shape := ⟨3, ![4, 1024, 1024]⟩
abbrev S2x8x3072 : Shape := ⟨3, ![2, 8, 3072]⟩
abbrev S1x128 : Shape := ⟨2, ![1, 128]⟩
abbrev S1x1024x1024 : Shape := ⟨3, ![1, 1024, 1024]⟩
abbrev S2x1024 : Shape := ⟨2, ![2, 1024]⟩
abbrev S4096x1024 : Shape := ⟨2, ![4096, 1024]⟩
abbrev S2x8x1x3072 : Shape := ⟨4, ![2, 8, 1, 3072]⟩
abbrev S128 : Shape := ⟨1, ![128]⟩
abbrev S1024x1024 : Shape := ⟨2, ![1024, 1024]⟩
abbrev S1x1024 : Shape := ⟨2, ![1, 1024]⟩
abbrev S1024 : Shape := ⟨1, ![1024]⟩
abbrev S1x1x1x3072 : Shape := ⟨4, ![1, 1, 1, 3072]⟩
abbrev S1x3072 : Shape := ⟨2, ![1, 3072]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩

abbrev nBuf : Space → Nat
  | .hbm => 23
  | .vmem => 14
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .bf16⟩
  | .hbm, ⟨2, _⟩ => ⟨S4x1024x1024, .f32⟩
  | .hbm, ⟨3, _⟩ => ⟨S2x8x3072, .f32⟩
  | .hbm, ⟨4, _⟩ => ⟨S1x128, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S4096x1024, .f32⟩
  | .hbm, ⟨9, _⟩ => ⟨S4096x1024, .bf16⟩
  | .hbm, ⟨10, _⟩ => ⟨S4096x1024, .f32⟩
  | .hbm, ⟨11, _⟩ => ⟨S2x8x1x3072, .f32⟩
  | .hbm, ⟨12, _⟩ => ⟨S128, .f32⟩
  | .hbm, ⟨13, _⟩ => ⟨S1x128, .f32⟩
  | .hbm, ⟨14, _⟩ => ⟨S1024x1024, .f32⟩
  | .hbm, ⟨15, _⟩ => ⟨S1024x1024, .bf16⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1x3072, .f32⟩
  | .local _ .vmem, ⟨7, _⟩ => ⟨S1x1x1x3072, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.addi c1_i32_5 v16
  let c1_i32_6 : BitVec 32 := 1#32
  let c0_i32_7 : BitVec 32 := 0#32
  let c0_i32_8 : BitVec 32 := 0#32
  let c0_i32_9 : BitVec 32 := 0#32
  ![c1_i32_6.toNat, v17.toNat, c0_i32_7.toNat, c0_i32_8.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S4x1024x1024 : Shape := ⟨3, ![4, 1024, 1024]⟩
abbrev S2x8x3072 : Shape := ⟨3, ![2, 8, 3072]⟩
abbrev S1x128 : Shape := ⟨2, ![1, 128]⟩
abbrev S1x1024x1024 : Shape := ⟨3, ![1, 1024, 1024]⟩
abbrev S2x1024 : Shape := ⟨2, ![2, 1024]⟩
abbrev S1x4x3072 : Shape := ⟨3, ![1, 4, 3072]⟩
abbrev S4x3072 : Shape := ⟨2, ![4, 3072]⟩
abbrev S4x1024 : Shape := ⟨2, ![4, 1024]⟩
abbrev S4x1x1024 : Shape := ⟨3, ![4, 1, 1024]⟩
abbrev S4x1024x8x128 : Shape := ⟨4, ![4, 1024, 8, 128]⟩
abbrev S128 : Shape := ⟨1, ![128]⟩
abbrev S_ : Shape := ⟨0, ![]⟩
abbrev S4x1024x8 : Shape := ⟨3, ![4, 1024, 8]⟩
abbrev S4x1024x8x1 : Shape := ⟨4, ![4, 1024, 8, 1]⟩
abbrev S1x1x1x128 : Shape := ⟨4, ![1, 1, 1, 128]⟩
abbrev S1024x1024 : Shape := ⟨2, ![1024, 1024]⟩
abbrev S1x1024 : Shape := ⟨2, ![1, 1024]⟩
abbrev S1024 : Shape := ⟨1, ![1024]⟩
abbrev S4x1024x1 : Shape := ⟨3, ![4, 1024, 1]⟩
abbrev S1x1x1024 : Shape := ⟨3, ![1, 1, 1024]⟩
abbrev S4096x1024 : Shape := ⟨2, ![4096, 1024]⟩

abbrev nBuf : Space → Nat
  | .hbm => 77
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .bf16⟩
  | .hbm, ⟨2, _⟩ => ⟨S4x1024x1024, .f32⟩
  | .hbm, ⟨3, _⟩ => ⟨S2x8x3072, .f32⟩
  | .hbm, ⟨4, _⟩ => ⟨S1x128, .f32⟩
  | .hbm, ⟨5, _⟩ => ⟨S1x1024x1024, .f32⟩
  | .hbm, ⟨6, _⟩ => ⟨S2x1024, .f32⟩
  | .hbm, ⟨7, _⟩ => ⟨S2x1024, .f32⟩
  | .hbm, ⟨8, _⟩ => ⟨S1x4x3072, .f32⟩
  | .hbm, ⟨9, _⟩ => ⟨S4x3072, .f32⟩
  | .hbm, ⟨10, _⟩ => ⟨S4x1024, .f32⟩
  | .hbm, ⟨11, _⟩ => ⟨S4x1024, .f32⟩
  | .hbm, ⟨12, _⟩ => ⟨S4x1024, .f32⟩
  | .hbm, ⟨13, _⟩ => ⟨S4x1x1024, .f32⟩
  | .hbm, ⟨14, _⟩ => ⟨S4x1024x8x128, .f32⟩
  | .hbm, ⟨15, _⟩ => ⟨S128, .f32⟩
  | .hbm, ⟨16, _⟩ => ⟨S4x1024x8x128, .f32⟩
  | .hbm, ⟨17, _⟩ => ⟨S_, .f32⟩
  | .hbm, ⟨18, _⟩ => ⟨S4x1024x8, .f32⟩
  | .hbm, ⟨19, _⟩ => ⟨S4x1024x8x1, .f32⟩
  | .hbm, ⟨20, _⟩ => ⟨S_, .f32⟩
  | .hbm, ⟨21, _⟩ => ⟨S4x1024x8x1, .f32⟩
  | .hbm, ⟨22, _⟩ => ⟨S4x1024x8x1, .f32⟩
  | .hbm, ⟨23, _⟩ => ⟨S_, .f32⟩
  | .hbm, ⟨24, _⟩ => ⟨S4x1024x8x1, .f32⟩
  | .hbm, ⟨25, _⟩ => ⟨S4x1024x8x1, .f32⟩
  | .hbm, ⟨26, _⟩ => ⟨S4x1024x8x1, .f32⟩
  | .hbm, ⟨27, _⟩ => ⟨S4x1024x8x128, .f32⟩
  | .hbm, ⟨28, _⟩ => ⟨S4x1024x8x128, .f32⟩
  | .hbm, ⟨29, _⟩ => ⟨S1x1x1x128, .f32⟩
  | .hbm, ⟨30, _⟩ => ⟨S4x1024x8x128, .f32⟩
  | .hbm, ⟨31, _⟩ => ⟨S4x1024x8x128, .f32⟩
  | .hbm, ⟨32, _⟩ => ⟨S4x1024x1024, .f32⟩
  | .hbm, ⟨33, _⟩ => ⟨S4x1024x1024, .f32⟩
  | .hbm, ⟨34, _⟩ => ⟨S4x1024x1024, .f32⟩
  | .hbm, ⟨35, _⟩ => ⟨S1024x1024, .f32⟩
  | .hbm, ⟨36, _⟩ => ⟨S4x1024x1024, .f32⟩
  | .hbm, ⟨37, _⟩ => ⟨S_, .f32⟩
  | .hbm, ⟨38, _⟩ => ⟨S4x1024x1024, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S4x1024x1024, .f32⟩
  | .hbm, ⟨43, _⟩ => ⟨S1x1024, .f32⟩
  | .hbm, ⟨44, _⟩ => ⟨S1024, .f32⟩
  | .hbm, ⟨45, _⟩ => ⟨S1x1024, .f32⟩
  | .hbm, ⟨46, _⟩ => ⟨S1024, .f32⟩
  | .hbm, ⟨47, _⟩ => ⟨S_, .f32⟩
  | .hbm, ⟨48, _⟩ => ⟨S4x1024, .f32⟩
  | .hbm, ⟨49, _⟩ => ⟨S4x1024x1, .f32⟩
  | .hbm, ⟨50, _⟩ => ⟨S_, .f32⟩
  | .hbm, ⟨51, _⟩ => ⟨S4x1024x1, .f32⟩
  | .hbm, ⟨52, _⟩ => ⟨S4x1024x1, .f32⟩
  | .hbm, ⟨53, _⟩ => ⟨S4x1024x1024, .f32⟩
  | .hbm, ⟨54, _⟩ => ⟨S4x1024x1024, .f32⟩
  | .hbm, ⟨55, _⟩ => ⟨S4x1024x1024, .f32⟩
  | .hbm, ⟨56, _⟩ => ⟨S_, .f32⟩
  | .hbm, ⟨57, _⟩ => ⟨S4x1024, .f32⟩
  | .hbm, ⟨58, _⟩ => ⟨S4x1024x1, .f32⟩
  | .hbm, ⟨59, _⟩ => ⟨S_, .f32⟩
  | .hbm, ⟨60, _⟩ => ⟨S4x1024x1, .f32⟩
  | .hbm, ⟨61, _⟩ => ⟨S4x1024x1, .f32⟩
  | .hbm, ⟨62, _⟩ => ⟨S4x1024x1024, .f32⟩
  | .hbm, ⟨63, _⟩ => ⟨S4x1024x1024, .f32⟩
  | .hbm, ⟨64, _⟩ => ⟨S_, .f32⟩
  | .hbm, ⟨65, _⟩ => ⟨S4x1024x1, .f32⟩
  | .hbm, ⟨66, _⟩ => ⟨S4x1024x1, .f32⟩
  | .hbm, ⟨67, _⟩ => ⟨S4x1024x1, .f32⟩
  | .hbm, ⟨68, _⟩ => ⟨S4x1024x1024, .f32⟩
  | .hbm, ⟨69, _⟩ => ⟨S4x1024x1024, .f32⟩
  | .hbm, ⟨70, _⟩ => ⟨S1x1x1024, .f32⟩
  | .hbm, ⟨71, _⟩ => ⟨S4x1024x1024, .f32⟩
  | .hbm, ⟨72, _⟩ => ⟨S4x1024x1024, .f32⟩
  | .hbm, ⟨73, _⟩ => ⟨S1x1x1024, .f32⟩
  | .hbm, ⟨74, _⟩ => ⟨S4x1024x1024, .f32⟩
  | .hbm, ⟨75, _⟩ => ⟨S4x1024x1024, .f32⟩
  | .hbm, ⟨76, _⟩ => ⟨S4096x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_cst_4 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩

abbrev nD : Nat := 1
abbrev τ : Topo := Topo.v7x

variable {F : FTy → Type} [FloatOps F]
-- ==== Proof.Block.lean ====
module

public import proofs.«01_k».proof.Proof.Gen.KernelIdeal.Value
public import Idealize.ShloMosaic.Lib.Pipeline.ValueKit
public import Idealize.ShloMosaic.Lib.Pipeline.ReadBack

/-! The kernel body's own steps as functions of its input blocks: `x` the two sequences, `md` the modulation row, `w` the
input projection, `pn` the head-mean matrix, `qg`/`kg` the gains, `wo` the output projection, `lg`/`lb` the layer norm's
gain and bias. `s` is the sequence inside the block, `hd` the query head. -/

@[expose] public section

set_option maxRecDepth 16384

noncomputable section

namespace Cert.KernelIdeal.Blk

open Cert.KernelIdeal Cert.KernelIdeal.Gen Idealize.ShloMosaic Idealize.ShloMosaic.TcCoe Idealize.SL.Sem

variable {F : FTy → Type} [FloatOps F] [Named F]

/-! ## Bounds of the rectangles the body loads -/

theorem inb_seq (s : ℕ) : ∀ a, ![s % 2, 0, 0] a + ![1, 256, 1024] a ≤ S2x256x1024.size a := by
  intro a; fin_cases a <;> simp; omega

theorem inb_group (i : ℕ) : ∀ a, ![0, 256 * (i % 10)] a + ![1024, 256] a ≤ S1024x2560.size a := by
  intro a; fin_cases a <;> simp; omega

theorem inb_half (i : ℕ) : ∀ a, ![0, 128 * (i % 2)] a + ![256, 128] a ≤ S256x256.size a := by
  intro a; fin_cases a <;> simp; omega

theorem inb_slab (i : ℕ) : ∀ a, ![0, 128 * (i % 8)] a + ![256, 128] a ≤ S256x1024.size a := by
  intro a; fin_cases a <;> simp; omega

theorem inb_head (i : ℕ) : ∀ a, ![64 * (i % 4), 0] a + ![64, 256] a ≤ S256x256.size a := by
  intro a; fin_cases a <;> simp; omega

theorem slices_rows (r : ℕ) : S256x256.Slices ![8 * (r % 32), 0] S8x256 :=
  ⟨rfl, fun a => by fin_cases a <;> simp; omega⟩

/-! ## The projections and the head norms -/

/-- The modulation row's shift, scale and gate. -/
def modRow (md : Vec F S1x1x1x3072 .f32) : FVec F S1x3072 .f32 := shapeCast S1x3072 md shapeCasts_S1x1x1x3072_S1x3072

/-- The modulated activations of sequence `s`. -/
def hB (x : Vec F S2x256x1024 .f32) (md : Vec F S1x1x1x3072 .f32) (s : ℕ) : FVec F S256x1024 .bf16 :=
  shapeCast S256x1024 (truncf .bf16 (addf (mulf
    (shapeCast S256x1024 (View.ld x (Rect.unit ![s % 2, 0, 0] ![1, 256, 1024] (inb_seq s))) shapeCasts_S1x256x1024_S256x1024)
    (broadcastTo S256x1024 (addf (broadcast S1x1024 (Scalar.ofBits .f32 0x3F800000#32))
      (extractStridedSlice S1x1024 ![0, 1024] (modRow md) slices_S1x3072_o0_1024_S1x1024)) broadcasts_S1x1024_S256x1024))
    (broadcastTo S256x1024 (extractStridedSlice S1x1024 ![0, 0] (modRow md) slices_S1x3072_o0_0_S1x1024) broadcasts_S1x1024_S256x1024))
    bitsLt_bf16_f32) shapeCasts_S256x1024_S256x1024

/-- Lane group `i` of the input projection. -/
def proj (h : FVec F S256x1024 .bf16) (w : Vec F S1024x2560 .bf16) (i : ℕ) : FVec F S256x256 .f32 :=
  matmul dot_S256x1024_S1024x256_S256x256_1_0_0_1_n_n none h
    (shapeCast S1024x256 (View.ld w (Rect.unit ![0, 256 * (i % 10)] ![1024, 256] (inb_group i))) shapeCasts_S1024x256_S1024x256)
    (constant S256x256 .f32 0x00000000#32)

/-- RMS norm of each head's 64 lanes, the mean taken by a product with `pn`. -/
def headNorm (u : FVec F S256x256 .f32) (pn : Vec F S256x256 .bf16) (gain : FVec F S1x256 .f32) : FVec F S256x256 .f32 :=
  mulf (mulf u (rsqrt (addf (matmul dot_S256x256_S256x256_S256x256_1_0_0_1_n_n none (truncf .bf16 (mulf u u) bitsLt_bf16_f32)
      (shapeCast S256x256 pn shapeCasts_S256x256_S256x256) (constant S256x256 .f32 0x00000000#32))
      (broadcast S256x256 (Scalar.ofBits .f32 0x358637BD#32)))))
    (broadcastTo S256x256 gain broadcasts_S1x256_S256x256)

/-- The keys' gain, a head's 64 lanes four times. -/
def kGain (kg : Vec F S1x256 .f32) : FVec F S1x256 .f32 := shapeCast S1x256 kg shapeCasts_S1x256_S1x256

/-- The queries' gain, times the softmax's scale over `log 2`. -/
def qGain (qg : Vec F S1x256 .f32) : FVec F S1x256 .f32 :=
  mulf (shapeCast S1x256 qg shapeCasts_S1x256_S1x256) (broadcast S1x256 (Named.named Cert.KernelIdeal.κ "log2e_8" 0x3E38AA3B#32))

/-- Lane group `j` of the queries. -/
def qGroup (h : FVec F S256x1024 .bf16) (w : Vec F S1024x2560 .bf16) (pn : Vec F S256x256 .bf16) (qg : Vec F S1x256 .f32) (j : ℕ) :
    FVec F S256x256 .bf16 :=
  shapeCast S256x256 (truncf .bf16 (headNorm (proj h w j) pn (qGain qg)) bitsLt_bf16_f32) shapeCasts_S256x256_S256x256

/-- The lanes below one head's width. -/
def lowLanes : IVec S256x128 1 :=
  cmpi .slt (iota .tc S256x128 32 [1] iota_S256x128_d1_w32) (broadcast S256x128 64#32)

/-- 128 zeros a row. -/
def zeroSlab : FVec F S256x128 .f32 := broadcast S256x128 (Scalar.ofBits .f32 0x00000000#32)

/-- Each key head alone in its half of a slab, once in the low and once in the high half. -/
def keySlabs (k : FVec F S256x256 .f32) : FVec F S256x1024 .bf16 :=
  shapeCast S256x1024 (truncf .bf16 (concatenate S256x1024 1
    [⟨S256x128, select lowLanes (extractStridedSlice S256x128 ![0, 0] k slices_S256x256_o0_0_S256x128) zeroSlab⟩,
     ⟨S256x128, select lowLanes zeroSlab (dynamicRotate 1 64#32 none (extractStridedSlice S256x128 ![0, 0] k slices_S256x256_o0_0_S256x128) rotates_S256x128_d1)⟩,
     ⟨S256x128, select lowLanes (dynamicRotate 1 64#32 none (extractStridedSlice S256x128 ![0, 0] k slices_S256x256_o0_0_S256x128) rotates_S256x128_d1) zeroSlab⟩,
     ⟨S256x128, select lowLanes zeroSlab (extractStridedSlice S256x128 ![0, 0] k slices_S256x256_o0_0_S256x128)⟩,
     ⟨S256x128, select lowLanes (extractStridedSlice S256x128 ![0, 128] k slices_S256x256_o0_128_S256x128) zeroSlab⟩,
     ⟨S256x128, select lowLanes zeroSlab (dynamicRotate 1 64#32 none (extractStridedSlice S256x128 ![0, 128] k slices_S256x256_o0_128_S256x128) rotates_S256x128_d1)⟩,
     ⟨S256x128, select lowLanes (dynamicRotate 1 64#32 none (extractStridedSlice S256x128 ![0, 128] k slices_S256x256_o0_128_S256x128) rotates_S256x128_d1) zeroSlab⟩,
     ⟨S256x128, select lowLanes zeroSlab (extractStridedSlice S256x128 ![0, 128] k slices_S256x256_o0_128_S256x128)⟩]
    concatenates_S256x128_S256x128_S256x128_S256x128_S256x128_S256x128_S256x128_S256x128_S256x1024_d1) bitsLt_bf16_f32)
    shapeCasts_S256x1024_S256x1024

/-- The values, transposed. -/
def valT (v : FVec F S256x256 .f32) : FVec F S256x256 .bf16 :=
  shapeCast S256x256 (truncf .bf16 (transpose S256x256 [1, 0] v transposes_S256x256_p1_0_S256x256) bitsLt_bf16_f32) shapeCasts_S256x256_S256x256

/-- Lane group `i` of the gates, `u * sigmoid u`. -/
def gateGroup (u : FVec F S256x256 .f32) : FVec F S1x256x256 .bf16 :=
  shapeCast S1x256x256 (truncf .bf16 (mulf u (divf (broadcast S256x256 (Scalar.ofBits .f32 0x3F800000#32))
    (addf (broadcast S256x256 (Scalar.ofBits .f32 0x3F800000#32)) (exp (subf (broadcast S256x256 (Scalar.ofBits .f32 0x00000000#32)) u)))))
    bitsLt_bf16_f32) shapeCasts_S256x256_S1x256x256

/-! ## One head's attention, keys down the rows -/

/-- The scores: keys by queries. -/
def scoreT (q k : FVec F S256x128 .bf16) : FVec F S256x256 .f32 :=
  matmul dot_S256x128_S256x128_S256x256_1_1_0_0_n_n none k q (constant S256x256 .f32 0x00000000#32)

/-- Rows `8r … 8r+7`. -/
def rows8 (a : FVec F S256x256 .f32) (r : ℕ) : FVec F S8x256 .f32 := extractStridedSlice S8x256 ![8 * (r % 32), 0] a (slices_rows r)

/-- The maximum of the first `r+1` groups of eight rows. -/
def fold8 (a : FVec F S256x256 .f32) : ℕ → FVec F S8x256 .f32
  | 0 => rows8 a 0
  | r + 1 => maximumf (fold8 a r) (rows8 a (r + 1))

/-- Each column's maximum. -/
def colMax (a : FVec F S256x256 .f32) : FVec F S1x256 .f32 :=
  shapeCast S1x256 (multiReduction .maximumf [0] S256 (fold8 a 31) 0xFF800000#32 reduces_S8x256_S256 (.inl rfl) rfl) shapeCasts_S256_S1x256

/-- The unnormalised weights of one head. -/
def weightT (a : FVec F S256x256 .f32) : FVec F S256x256 .bf16 :=
  shapeCast S256x256 (shapeCast S1x256x256 (truncf .bf16 (exp2 (subf
    (shapeCast S256x256 (shapeCast S1x1x256x256 a shapeCasts_S256x256_S1x1x256x256) shapeCasts_S1x1x256x256_S256x256)
    (broadcastTo S256x256 (colMax a) broadcasts_S1x256_S256x256))) bitsLt_bf16_f32) shapeCasts_S256x256_S1x256x256) shapeCasts_S1x256x256_S256x256

/-- A head's values over rows of ones. -/
def valExt (v : FVec F S64x256 .bf16) : FVec F S80x256 .bf16 :=
  concatenate S80x256 0 [⟨S64x256, v⟩, ⟨S16x256, broadcast S16x256 (Scalar.ofBits .bf16 0x3F80#16)⟩] concatenates_S64x256_S16x256_S80x256_d0

/-- The weighted values and, below them, the weights' sums. -/
def accT (v : FVec F S64x256 .bf16) (p : FVec F S256x256 .bf16) : FVec F S80x256 .f32 :=
  matmul dot_S80x256_S256x256_S80x256_1_0_0_1_n_n none (valExt v) p (constant S80x256 .f32 0x00000000#32)

/-- One head's output: the weighted values over the weights' sum. -/
def outT (a : FVec F S80x256 .f32) : FVec F S64x256 .f32 :=
  shapeCast S64x256 (mulf (extractStridedSlice S64x256 ![0, 0] a slices_S80x256_o0_0_S64x256)
    (broadcastTo S64x256 (divf (broadcast S1x256 (Scalar.ofBits .f32 0x3F800000#32))
      (extractStridedSlice S1x256 ![64, 0] a slices_S80x256_o64_0_S1x256)) broadcasts_S1x256_S64x256)) shapeCasts_S64x256_S64x256

/-- Query head `hd` with its neighbour, 128 lanes. -/
def qSlab (q : FVec F S256x256 .bf16) (hd : ℕ) : FVec F S256x128 .bf16 :=
  View.ld (Val := Elt F) (e' := .bf16) q (Rect.unit ![0, 128 * (hd / 2 % 2)] ![256, 128] (inb_half (hd / 2)))

/-- The key slab query head `hd` meets. -/
def kSlab (k : FVec F S256x1024 .bf16) (hd : ℕ) : FVec F S256x128 .bf16 :=
  View.ld (Val := Elt F) (e' := .bf16) k (Rect.unit ![0, 128 * ((2 * (hd / 4) + hd % 2) % 8)] ![256, 128] (inb_slab _))

/-- The value head query head `hd` meets. -/
def vRows (v : FVec F S256x256 .bf16) (hd : ℕ) : FVec F S64x256 .bf16 :=
  View.ld (Val := Elt F) (e' := .bf16) v (Rect.unit ![64 * (hd / 4 % 4), 0] ![64, 256] (inb_head (hd / 4)))

/-- Head `hd` of the sequence whose modulated activations are `h`. -/
def headT (h : FVec F S256x1024 .bf16) (w : Vec F S1024x2560 .bf16) (pn : Vec F S256x256 .bf16) (qg kg : Vec F S1x256 .f32) (hd : ℕ) :
    FVec F S64x256 .f32 :=
  outT (accT (vRows (valT (proj h w 5)) hd)
    (weightT (scoreT (qSlab (qGroup h w pn qg (hd / 4)) hd) (kSlab (keySlabs (headNorm (proj h w 4) pn (kGain kg))) hd))))

/-! ## The heads and the gates put together, and the gated output projection under its layer norm -/

/-- Sixteen heads of 64 rows, stacked. -/
def stackHeads (p : ℕ → FVec F S64x256 .f32) : FVec F S1x1024x256 .f32 :=
  fun j => p ((j 1).val / 64) (ix2 ⟨(j 1).val % 64, Nat.mod_lt _ (by decide)⟩ (j 2))

/-- Four lane groups, side by side. -/
def stackGates (p : ℕ → FVec F S1x256x256 .bf16) : FVec F S1x256x1024 .bf16 :=
  fun j => p ((j 2).val / 256) (ix3 (j 0) (j 1) ⟨(j 2).val % 256, Nat.mod_lt _ (by decide)⟩)

/-- The residual plus the gated branch. -/
def resid (o : FVec F S1x1024x256 .f32) (sg : FVec F S1x256x1024 .bf16) (x : Vec F S1x256x1024 .f32) (md : Vec F S1x1x1x3072 .f32)
    (wo : Vec F S1024x1024 .bf16) : FVec F S256x1024 .f32 :=
  addf (mulf (broadcast S256x1024 (Scalar.ofBits .f32 0x3FB504F3#32)) (shapeCast S256x1024 x shapeCasts_S1x256x1024_S256x1024))
    (mulf (broadcastTo S256x1024 (extractStridedSlice S1x1024 ![0, 2048] (modRow md) slices_S1x3072_o0_2048_S1x1024) broadcasts_S1x1024_S256x1024)
      (matmul dot_S256x1024_S1024x1024_S256x1024_1_0_0_1_n_n none
        (truncf .bf16 (mulf (transpose S256x1024 [1, 0] (shapeCast S1024x256 o shapeCasts_S1x1024x256_S1024x256) transposes_S1024x256_p1_0_S256x1024)
          (extf .f32 (shapeCast S256x1024 sg shapeCasts_S1x256x1024_S256x1024) bitsLt_bf16_f32)) bitsLt_bf16_f32)
        (shapeCast S1024x1024 wo shapeCasts_S1024x1024_S1024x1024) (constant S256x1024 .f32 0x00000000#32)))

/-- A row's mean. -/
def rowMean (y : FVec F S256x1024 .f32) : FVec F S256x1 .f32 :=
  divf (shapeCast S256x1 (multiReduction .add [1] S256 y 0x00000000#32 reduces_S256x1024_S256 (.inl rfl) rfl) shapeCasts_S256_S256x1)
    (broadcast S256x1 (Scalar.ofBits .f32 0x44800000#32))

/-- The rows less their means. -/
def centred (y : FVec F S256x1024 .f32) : FVec F S256x1024 .f32 :=
  subf y (broadcastTo S256x1024 (rowMean y) broadcasts_S256x1_S256x1024)

/-- The layer norm of the rows. -/
def layerNorm (y : FVec F S256x1024 .f32) (lg lb : Vec F S1x1024 .f32) : FVec F S1x256x1024 .f32 :=
  shapeCast S1x256x1024 (addf (mulf (mulf (centred y) (broadcastTo S256x1024 (rsqrt (addf (rowMean (mulf (centred y) (centred y)))
      (broadcast S256x1 (Scalar.ofBits .f32 0x3727C5AC#32)))) broadcasts_S256x1_S256x1024))
    (broadcastTo S256x1024 (shapeCast S1x1024 lg shapeCasts_S1x1024_S1x1024) broadcasts_S1x1024_S256x1024))
    (broadcastTo S256x1024 (shapeCast S1x1024 lb shapeCasts_S1x1024_S1x1024) broadcasts_S1x1024_S256x1024)) shapeCasts_S256x1024_S1x256x1024

/-- A lane group of 256 as four heads of 64 under the sequence's unit axis. -/
def heads4 (u : FVec F S256x256 .f32) : FVec F S1x256x4x64 .f32 :=
  shapeCast S1x256x4x64 (shapeCast S256x4x64 u shapeCasts_S256x256_S256x4x64) shapeCasts_S256x4x64_S1x256x4x64

/-- The layer's output block for sequence `s`, given what the loads of the heads and of the gates read. -/
def yBlock (o : FVec F S1x1024x256 .f32) (sg : FVec F S1x256x1024 .bf16) (x : Vec F S2x256x1024 .f32) (md : Vec F S1x1x1x3072 .f32)
    (wo : Vec F S1024x1024 .bf16) (lg lb : Vec F S1x1024 .f32) (s : ℕ) : FVec F S1x256x1024 .f32 :=
  layerNorm (resid o sg (View.ld x (Rect.unit ![s % 2, 0, 0] ![1, 256, 1024] (inb_seq s))) md wo) lg lb

/-! ## The pieces the scratches hold, and their loads -/

theorem inb_plane (s : ℕ) : ∀ a, ![s % 2, 0, 0] a + ![1, 1024, 256] a ≤ S2x1024x256.size a := by
  intro a; fin_cases a <;> simp; omega

theorem inb_gates (s g : ℕ) : ∀ a, ![s % 2, 0, 256 * (g % 4)] a + ![1, 256, 256] a ≤ S2x256x1024.size a := by
  intro a; fin_cases a <;> simp <;> omega

theorem inb_rows (n : ℕ) : ∀ a, ![64 * (n % 16), 0] a + ![64, 256] a ≤ S1024x256.size a := by
  intro a; fin_cases a <;> simp; omega

/-- Head `n`'s rows in a plane without its unit axis. -/
abbrev rowRect (n : ℕ) : Rect S1024x256 := Rect.unit ![64 * (n % 16), 0] ![64, 256] (inb_rows n)

theorem lift_sizes : ∀ i : Fin 2, (![1, 1024, 256] : Fin 3 → ℕ) i.succ = ![1024, 256] i := fun i => by fin_cases i <;> rfl

/-- Where head `n` of sequence `s` is stored: 64 rows of the sequence's plane. -/
abbrev headRect (s n : ℕ) : Rect S2x1024x256 :=
  (Rect.unit (s := S2x1024x256) ![s % 2, 0, 0] ![1, 1024, 256] (inb_plane s)).within
    ((rowRect n).consLift ![1, 1024, 256] rfl lift_sizes) (fun _ => rfl)

theorem numel_head (s n : ℕ) : (headRect s n).shape.numel = (rowRect n).shape.numel :=
  Rect.numel_consLift (rowRect n) ![1, 1024, 256] rfl lift_sizes

/-- Sequence `s`'s first `n` heads as stored, the last first, over earlier pieces. -/
def headPieces (s : ℕ) (p : ℕ → FVec F S64x256 .f32) (L : List (View.Piece (Elt F) S2x1024x256 .f32)) : ℕ → List (View.Piece (Elt F) S2x1024x256 .f32)
  | 0 => L
  | n + 1 => ⟨headRect s n, Rect.payAlong (r := rowRect n) (numel_head s n) (p n)⟩ :: headPieces s p L n

/-- Sequence `s`'s first `n` gate groups as stored, the last first, over earlier pieces. -/
def gatePieces (s : ℕ) (p : ℕ → FVec F S1x256x256 .bf16) (L : List (View.Piece (Elt F) S2x256x1024 .bf16)) : ℕ → List (View.Piece (Elt F) S2x256x1024 .bf16)
  | 0 => L
  | n + 1 => ⟨Rect.unit ![s % 2, 0, 256 * (n % 4)] ![1, 256, 256] (inb_gates s n), p n⟩ :: gatePieces s p L n

theorem inb_kv (s : ℕ) : ∀ a, ![s % 2, 0, 0, 0] a + ![1, 256, 4, 64] a ≤ S2x256x4x64.size a := by
  intro a; fin_cases a <;> simp; omega

/-- The two sequences' key or value blocks as stored. -/
def kvPieces (p : ℕ → FVec F S1x256x4x64 .f32) : List (View.Piece (Elt F) S2x256x4x64 .f32) :=
  [⟨Rect.unit ![1 % 2, 0, 0, 0] ![1, 256, 4, 64] (inb_kv 1), p 1⟩, ⟨Rect.unit ![0 % 2, 0, 0, 0] ![1, 256, 4, 64] (inb_kv 0), p 0⟩]

/-- The two sequences' output blocks as stored. -/
def yPieces (p : ℕ → FVec F S1x256x1024 .f32) : List (View.Piece (Elt F) S2x256x1024 .f32) :=
  [⟨Rect.unit ![1 % 2, 0, 0] ![1, 256, 1024] (inb_seq 1), p 1⟩, ⟨Rect.unit ![0 % 2, 0, 0] ![1, 256, 1024] (inb_seq 0), p 0⟩]

end Cert.KernelIdeal.Blk
-- ==== Proof.Consts.lean ====
module

public import Idealize.ShloMosaic.PureOps.Ideal.Laws

/-! The float constants of the two programs, as reals. -/

@[expose] public section

noncomputable section

namespace Cert.Consts

open Idealize.ShloMosaic

theorem c64th : Ideal.ofBits .f32 0x3C800000#32 = ((1 / 64 : ℝ) : EReal) := by
  simp [Ideal.ofBits, Ideal.ieee, -EReal.coe_mul]; norm_num

theorem c1 : Ideal.ofBits .f32 0x3F800000#32 = ((1 : ℝ) : EReal) := by
  simp [Ideal.ofBits, Ideal.ieee, -EReal.coe_mul]; norm_num

theorem c1b : Ideal.ofBits .bf16 0x3F80#16 = ((1 : ℝ) : EReal) := by
  simp [Ideal.ofBits, Ideal.ieee, -EReal.coe_mul]; norm_num

theorem c64 : Ideal.ofBits .f32 0x42800000#32 = ((64 : ℝ) : EReal) := by
  simp [Ideal.ofBits, Ideal.ieee, -EReal.coe_mul]; norm_num

theorem c8th : Ideal.ofBits .f32 0x3E000000#32 = ((1 / 8 : ℝ) : EReal) := by
  simp [Ideal.ofBits, Ideal.ieee, -EReal.coe_mul]; norm_num

/-- The head norm's epsilon. -/
def eps : ℝ := 8796093 / 8796093022208

theorem ceps : Ideal.ofBits .f32 0x358637BD#32 = ((eps : ℝ) : EReal) := by
  unfold eps
  simp [Ideal.ofBits, Ideal.ieee, -EReal.coe_mul]; norm_num

theorem cninf : Ideal.ofBits .f32 0xFF800000#32 = (⊥ : EReal) := by
  simp [Ideal.ofBits, Ideal.ieee, -EReal.coe_mul]

theorem cpinf : Ideal.ofBits .f32 0x7F800000#32 = (⊤ : EReal) := by
  simp [Ideal.ofBits, Ideal.ieee, -EReal.coe_mul]

/-- The residual's factor. -/
def alpha : ℝ := 11863283 / 8388608

theorem calpha : Ideal.ofBits .f32 0x3FB504F3#32 = ((alpha : ℝ) : EReal) := by
  unfold alpha
  simp [Ideal.ofBits, Ideal.ieee, -EReal.coe_mul]; norm_num

end Cert.Consts
-- ==== Proof.Spec.lean ====
module

public import proofs.«01_k».proof.Proof.Consts
public import Mathlib.Analysis.SpecialFunctions.Exp
public import Mathlib.Analysis.SpecialFunctions.Pow.Real

/-! One sequence's attention branch: `x` its activations, `md` the modulation row, `w` the input projection, all of them
extended reals; `gq`/`gk` the head norms' gains, real. The normalised heads, and so the scores, are real then. -/

@[expose] public section

noncomputable section

namespace Cert.Spec

/-- The lane of query head `h`'s component `d`. -/
def qI (h : Fin 16) (d : Fin 64) : Fin 2560 := ⟨64 * h.val + d.val, by omega⟩
/-- The lane of key head `h`'s component `d`. -/
def kI (h : Fin 4) (d : Fin 64) : Fin 2560 := ⟨1024 + 64 * h.val + d.val, by omega⟩
/-- The lane of value head `h`'s component `d`. -/
def vI (h : Fin 4) (d : Fin 64) : Fin 2560 := ⟨1280 + 64 * h.val + d.val, by omega⟩
/-- The lane of gate `n`. -/
def gI (n : Fin 1024) : Fin 2560 := ⟨1536 + n.val, by omega⟩
/-- The key head query head `h` meets. -/
def kvOf (h : Fin 16) : Fin 4 := ⟨h.val / 4, by omega⟩

/-- The reciprocal root of a head's mean square. -/
def rs (u : Fin 64 → EReal) : EReal :=
  Idealize.ShloMosaic.Ideal.rsqrt ((∑ d, u d * u d) * ((1 / 64 : ℝ) : EReal) + (Cert.Consts.eps : EReal))

/-- A head under its RMS norm. -/
def normE (u : Fin 64 → EReal) (g : Fin 64 → ℝ) (d : Fin 64) : EReal := u d * rs u * (g d : EReal)

/-- The same as a real number, which it always is. -/
def norm (u : Fin 64 → EReal) (g : Fin 64 → ℝ) (d : Fin 64) : ℝ := (normE u g d).toReal

section

variable (x : Fin 256 → Fin 1024 → EReal) (md : Fin 3072 → EReal) (w : Fin 1024 → Fin 2560 → EReal) (gq gk : Fin 64 → ℝ)

/-- The modulated activations. -/
def act (i : Fin 256) (j : Fin 1024) : EReal := x i j * (1 + md ⟨1024 + j.val, by omega⟩) + md ⟨j.val, by omega⟩

/-- Their projection. -/
def pr (i : Fin 256) (n : Fin 2560) : EReal := ∑ k, act x md i k * w k n

def key (t : Fin 256) (h : Fin 4) (d : Fin 64) : ℝ := norm (fun d => pr x md w t (kI h d)) gk d

def qry (i : Fin 256) (h : Fin 16) (d : Fin 64) : ℝ := norm (fun d => pr x md w i (qI h d)) gq d

def score (i : Fin 256) (h : Fin 16) (t : Fin 256) : ℝ := ∑ d, key x md w gk t (kvOf h) d * qry x md w gq i h d

/-- The softmax of the scores over 8. -/
def soft (s : Fin 256 → ℝ) (t : Fin 256) : ℝ := Real.exp (s t / 8) / ∑ t, Real.exp (s t / 8)

def head (i : Fin 256) (h : Fin 16) (d : Fin 64) : EReal :=
  ∑ t, pr x md w t (vI (kvOf h) d) * ((soft (score x md w gq gk i h) t : ℝ) : EReal)

/-- The SiLU of an extended real. -/
def silu (z : EReal) : EReal := z * Idealize.ShloMosaic.Ideal.div 1 (1 + Idealize.ShloMosaic.Ideal.exp (-z))

def gate (i : Fin 256) (n : Fin 1024) : EReal := silu (pr x md w i (gI n))

/-- The gated heads. -/
def gated (i : Fin 256) (n : Fin 1024) : EReal :=
  head x md w gq gk i ⟨n.val / 64, by omega⟩ ⟨n.val % 64, by omega⟩ * gate x md w i n

end

/-- Any shift `c` of the exponents leaves the softmax as it is. -/
theorem soft_shift (s : Fin 256 → ℝ) (c : ℝ) (t : Fin 256) :
    Real.exp (s t / 8 - c) / ∑ t, Real.exp (s t / 8 - c) = soft s t := by
  unfold soft
  simp only [Real.exp_sub]
  rw [← Finset.sum_div, div_div_div_cancel_right₀ (Real.exp_ne_zero c)]

/-- The scale by which powers of two become the softmax's exponentials. -/
def kap : ℝ := (8 * Real.log 2)⁻¹

theorem kap_pow (s c : ℝ) : (2 : ℝ) ^ (kap * s - kap * c) = Real.exp (s / 8 - c / 8) := by
  have h : Real.log 2 ≠ 0 := (Real.log_pos (by norm_num)).ne'
  rw [Real.rpow_def_of_pos (by norm_num)]
  congr 1
  unfold kap
  field_simp

theorem eps_pos : 0 < Cert.Consts.eps := by unfold Cert.Consts.eps; norm_num

theorem ms_pos (u : Fin 64 → ℝ) : 0 < (∑ d, u d * u d) * (1 / 64) + Cert.Consts.eps := by
  have : 0 ≤ ∑ d, u d * u d := Finset.sum_nonneg fun d _ => mul_self_nonneg _
  have := eps_pos
  positivity

/-- Finite sums of reals are the reals' sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor that is not negative goes into any sum of extended reals. -/
theorem sum_mul_coe {ι : Type*} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (EReal.coe_nonneg.mpr hc) (EReal.coe_ne_top c), ih]

/-- A head with an infinite component has the reciprocal root 0. -/
theorem rs_eq_zero (u : Fin 64 → EReal) (e : Fin 64) (he : u e * u e = ⊤) : rs u = 0 := by
  have h0 : ∀ d, 0 ≤ u d * u d := fun d => by
    induction u d with
    | bot => simp
    | top => simp
    | coe r => rw [← EReal.coe_mul]; exact EReal.coe_nonneg.mpr (mul_self_nonneg r)
  have hs : ∑ d, u d * u d = ⊤ := top_le_iff.mp (he ▸ Finset.single_le_sum (f := fun d => u d * u d) (fun d _ => h0 d) (Finset.mem_univ e))
  unfold rs
  rw [hs, EReal.top_mul_coe_of_pos (by norm_num), EReal.top_add_coe]
  rfl

/-- A normalised head is real, whatever the head. -/
theorem coe_norm (u : Fin 64 → EReal) (g : Fin 64 → ℝ) (d : Fin 64) : ((norm u g d : ℝ) : EReal) = normE u g d := by
  have key : ∃ r : ℝ, normE u g d = r := by
    by_cases hr : ∀ e, ∃ r : ℝ, u e = r
    · choose v hv using hr
      refine ⟨v d * (Real.sqrt ((∑ e, v e * v e) * (1 / 64) + Cert.Consts.eps))⁻¹ * g d, ?_⟩
      unfold normE rs
      simp only [hv, ← EReal.coe_mul, ← coe_sum, ← EReal.coe_add]
      rw [Idealize.ShloMosaic.Ideal.rsqrt_coe, if_neg (not_lt.mpr (ms_pos v).le), if_neg (ms_pos v).ne']
      simp only [← EReal.coe_mul]
    · push Not at hr
      obtain ⟨e, he⟩ := hr
      refine ⟨0, ?_⟩
      unfold normE
      rw [rs_eq_zero u e]
      · simp
      · revert he
        induction u e with
        | bot => intro _; simp
        | top => intro _; simp
        | coe r => intro he; exact absurd rfl (he r)
  obtain ⟨r, hr⟩ := key
  unfold norm
  rw [hr, EReal.toReal_coe]

end Cert.Spec
-- ==== Proof.Rows.lean ====
module

public import proofs.«01_k».proof.Proof.Block
public import proofs.«01_k».proof.Proof.Spec
public import Idealize.ShloMosaic.Lib.Pointwise

/-! The kernel body's projections and head norms at an index, on real inputs. -/

@[expose] public section

set_option maxRecDepth 16384

noncomputable section

namespace Cert.KernelIdeal.Blk

open Cert.KernelIdeal Cert.KernelIdeal.Gen Idealize.ShloMosaic Idealize.ShloMosaic.TcCoe Idealize.SL.Sem

theorem rsqrt_pos {r : ℝ} (h : 0 < r) : Ideal.rsqrt (r : EReal) = (((Real.sqrt r)⁻¹ : ℝ) : EReal) := by
  rw [Ideal.rsqrt_coe, if_neg (not_lt.mpr h.le), if_neg h.ne']

theorem modRow_at (md : Vec Ideal S1x1x1x3072 .f32) (n : Fin 3072) : modRow (F := Ideal) md (ix2 0 n) = md (ix4 0 0 0 n) := by
  unfold modRow
  pointwise

theorem ld_seq (x : Vec Ideal S2x256x1024 .f32) (s : Fin 2) (i : Fin 256) (j : Fin 1024) :
    View.ld (Val := Elt Ideal) x (Rect.unit ![s.val % 2, 0, 0] ![1, 256, 1024] (inb_seq s.val)) (ix3 0 i j) = x (ix3 s i j) := by
  have hs : s.val % 2 = s.val := Nat.mod_eq_of_lt s.isLt
  unfold View.ld
  refine congrArg x ?_
  funext a
  apply Fin.ext
  fin_cases a
  · show s.val % 2 + 1 * 0 = s.val
    omega
  · show 0 + _ * i.val = i.val
    simp
  · show 0 + _ * j.val = j.val
    simp

/-- The modulation of the rows `x` by the row `r`. -/
def modulate (x : Vec Ideal S1x256x1024 .f32) (r : FVec Ideal S1x3072 .f32) : FVec Ideal S256x1024 .bf16 :=
  shapeCast S256x1024 (truncf .bf16 (addf (mulf (shapeCast S256x1024 x shapeCasts_S1x256x1024_S256x1024)
    (broadcastTo S256x1024 (addf (broadcast S1x1024 (Scalar.ofBits .f32 0x3F800000#32))
      (extractStridedSlice S1x1024 ![0, 1024] r slices_S1x3072_o0_1024_S1x1024)) broadcasts_S1x1024_S256x1024))
    (broadcastTo S256x1024 (extractStridedSlice S1x1024 ![0, 0] r slices_S1x3072_o0_0_S1x1024) broadcasts_S1x1024_S256x1024))
    bitsLt_bf16_f32) shapeCasts_S256x1024_S256x1024

theorem modulate_at (x : Vec Ideal S1x256x1024 .f32) (r : FVec Ideal S1x3072 .f32) (X : Fin 256 → Fin 1024 → EReal) (M : Fin 3072 → EReal)
    (hx : ∀ i j, x (ix3 0 i j) = X i j) (hm : ∀ n, r (ix2 0 n) = M n)
    (i : Fin 256) (j : Fin 1024) : modulate x r (ix2 i j) = Spec.act X M i j := by
  unfold modulate
  pointwise
  simp only [hx, hm, Consts.c1, EReal.coe_one]
  rfl

theorem hB_at (x : Vec Ideal S2x256x1024 .f32) (md : Vec Ideal S1x1x1x3072 .f32) (X : Fin 256 → Fin 1024 → EReal) (M : Fin 3072 → EReal)
    (s : Fin 2) (hx : ∀ i j, x (ix3 s i j) = X i j) (hm : ∀ n, md (ix4 0 0 0 n) = M n)
    (i : Fin 256) (j : Fin 1024) : hB (F := Ideal) x md s (ix2 i j) = Spec.act X M i j :=
  modulate_at _ _ X M (fun i j => (ld_seq x s i j).trans (hx i j)) (fun n => (modRow_at md n).trans (hm n)) i j

theorem proj_at (h : FVec Ideal S256x1024 .bf16) (w : Vec Ideal S1024x2560 .bf16) (H : Fin 256 → Fin 1024 → EReal) (W : Fin 1024 → Fin 2560 → EReal)
    (hh : ∀ i j, h (ix2 i j) = H i j) (hw : ∀ k n, w (ix2 k n) = W k n) (g : ℕ) (hg : g < 10) (i n : Fin 256) :
    proj (F := Ideal) h w g (ix2 i n) = ∑ k, H i k * W k ⟨256 * g + n.val, by omega⟩ := by
  unfold proj
  pointwise
  refine Finset.sum_congr rfl fun k _ => ?_
  rw [hh, hw]
  simp only [Nat.mod_eq_of_lt hg]

/-- A sum over 256 lanes, head by head. -/
theorem sum_lanes {M : Type*} [AddCommMonoid M] (f : Fin 256 → M) :
    ∑ x, f x = ∑ h : Fin 4, ∑ d : Fin 64, f ⟨64 * h.val + d.val, by omega⟩ := by
  rw [← Finset.sum_product', Finset.univ_product_univ]
  refine (Fintype.sum_equiv (finProdFinEquiv (m := 4) (n := 64)) _ _ fun p => ?_).symm
  refine congrArg f (Fin.ext ?_)
  simp [finProdFinEquiv]
  omega

/-- The product with the head-mean matrix: a head's mean. -/
theorem sum_mean (f : Fin 256 → EReal) (h : Fin 4) (d : Fin 64) :
    ∑ x : Fin 256, f x * (if x.val / 64 = (64 * h.val + d.val) / 64 then ((1 / 64 : ℝ) : EReal) else 0)
      = (∑ e : Fin 64, f ⟨64 * h.val + e.val, by omega⟩) * ((1 / 64 : ℝ) : EReal) := by
  have e1 : ∀ x : Fin 256, f x * (if x.val / 64 = (64 * h.val + d.val) / 64 then ((1 / 64 : ℝ) : EReal) else 0)
      = if x.val / 64 = h.val then f x * ((1 / 64 : ℝ) : EReal) else 0 := by
    intro x
    have : (64 * h.val + d.val) / 64 = h.val := by omega
    rw [this]
    split
    · rfl
    · simp
  rw [Finset.sum_congr rfl fun x _ => e1 x, sum_lanes, Finset.sum_eq_single h]
  · rw [Spec.sum_mul_coe _ _ _ (by norm_num)]
    refine Finset.sum_congr rfl fun e _ => if_pos ?_
    show (64 * h.val + e.val) / 64 = h.val
    omega
  · intro b _ hb
    refine Finset.sum_eq_zero fun e _ => if_neg ?_
    show ¬ (64 * b.val + e.val) / 64 = h.val
    intro hh
    exact hb (Fin.ext (by omega))
  · simp

theorem headNorm_at (u : FVec Ideal S256x256 .f32) (pn : Vec Ideal S256x256 .bf16) (gain : FVec Ideal S1x256 .f32)
    (U : Fin 256 → Fin 256 → EReal) (G : Fin 256 → ℝ) (hu : ∀ i n, u (ix2 i n) = U i n)
    (hg : ∀ n, gain (ix2 0 n) = ((G n : ℝ) : EReal))
    (hp : ∀ a b, pn (ix2 a b) = if a.val / 64 = b.val / 64 then ((1 / 64 : ℝ) : EReal) else 0) (i : Fin 256) (h : Fin 4) (d : Fin 64) :
    headNorm (F := Ideal) u pn gain (ix2 i ⟨64 * h.val + d.val, by omega⟩) =
      Spec.normE (fun d => U i ⟨64 * h.val + d.val, by omega⟩) (fun d => G ⟨64 * h.val + d.val, by omega⟩) d := by
  unfold headNorm
  pointwise
  simp only [hu, hg, hp]
  rw [sum_mean (fun x => U i x * U i x) h d, Consts.ceps]
  rfl

end Cert.KernelIdeal.Blk
-- ==== Proof.Heads.lean ====
module

public import proofs.«01_k».proof.Proof.Rows

/-! One head's attention as the kernel body computes it, at an index, on real inputs. -/

@[expose] public section

set_option maxRecDepth 16384

noncomputable section

namespace Cert.KernelIdeal.Blk

open Cert.KernelIdeal Cert.KernelIdeal.Gen Idealize.ShloMosaic Idealize.ShloMosaic.TcCoe Idealize.SL.Sem

theorem valT_at (v : FVec Ideal S256x256 .f32) (n t : Fin 256) : valT (F := Ideal) v (ix2 n t) = v (ix2 t n) := by
  unfold valT
  pointwise

theorem vRows_at (v : FVec Ideal S256x256 .bf16) (h : Fin 16) (d : Fin 64) (t : Fin 256) :
    vRows (F := Ideal) v h (ix2 d t) = v (ix2 ⟨64 * (h.val / 4) + d.val, by omega⟩ t) := by
  unfold vRows View.ld
  refine congrArg v (funext fun a => Fin.ext ?_)
  fin_cases a
  · show 64 * (h.val / 4 % 4) + 1 * d.val = 64 * (h.val / 4) + d.val
    omega
  · show 0 + 1 * t.val = t.val
    omega

theorem qSlab_at (q : FVec Ideal S256x256 .bf16) (h : Fin 16) (i : Fin 256) (l : Fin 128) :
    qSlab (F := Ideal) q h (ix2 i l) = q (ix2 i ⟨128 * (h.val / 2 % 2) + l.val, by omega⟩) := by
  unfold qSlab View.ld
  refine congrArg q (funext fun a => Fin.ext ?_)
  fin_cases a
  · show 0 + 1 * i.val = i.val
    omega
  · show 128 * (h.val / 2 % 2) + 1 * l.val = 128 * (h.val / 2 % 2) + l.val
    omega

theorem kSlab_at (k : FVec Ideal S256x1024 .bf16) (h : Fin 16) (t : Fin 256) (l : Fin 128) :
    kSlab (F := Ideal) k h (ix2 t l) = k (ix2 t ⟨128 * (2 * (h.val / 4) + h.val % 2) + l.val, by omega⟩) := by
  unfold kSlab View.ld
  refine congrArg k (funext fun a => Fin.ext ?_)
  fin_cases a
  · show 0 + 1 * t.val = t.val
    omega
  · show 128 * ((2 * (h.val / 4) + h.val % 2) % 8) + 1 * l.val = _
    show _ = 128 * (2 * (h.val / 4) + h.val % 2) + l.val
    omega

theorem select_low (n : ℕ) (hn : n < 128) (a b : EReal) :
    Scalar.select (IntOp.cmpi CmpIPredicate.slt (BitVec.ofNat 32 n) 64#32) a b = if n < 64 then a else b := by
  have h : ∀ n : Fin 128, IntOp.cmpi CmpIPredicate.slt (BitVec.ofNat 32 n.val) 64#32 = if n.val < 64 then 1#1 else 0#1 := by decide
  rw [h ⟨n, hn⟩]
  split <;> simp [Scalar.select]

theorem lane_congr (k : FVec Ideal S256x256 .f32) (t : Fin 256) {a b : ℕ} (ha : a < 256) (hb : b < 256) (e : a = b) :
    k (ix2 t ⟨a, ha⟩) = k (ix2 t ⟨b, hb⟩) := by
  subst e
  rfl

set_option maxHeartbeats 1000000 in
theorem keySlabs_at (k : FVec Ideal S256x256 .f32) (t : Fin 256) (n : Fin 1024) :
    keySlabs (F := Ideal) k (ix2 t n) =
      if n.val % 128 / 64 = n.val / 128 % 2 then k (ix2 t ⟨64 * (n.val / 256) + n.val % 64, by omega⟩) else 0 := by
  unfold keySlabs lowLanes zeroSlab
  pointwise
  have hn := n.isLt
  repeat' split
  all_goals rw [select_low _ (by omega)]
  all_goals split
  all_goals first
    | rfl
    | (exfalso; omega)
    | (refine lane_congr k t _ _ ?_; omega)

theorem scoreT_at (q k : FVec Ideal S256x128 .bf16) (t i : Fin 256) :
    scoreT (F := Ideal) q k (ix2 t i) = ∑ l, k (ix2 t l) * q (ix2 i l) := by
  unfold scoreT
  pointwise

theorem accT_at (v : FVec Ideal S64x256 .bf16) (p : FVec Ideal S256x256 .bf16) (d : Fin 64) (i : Fin 256) :
    accT (F := Ideal) v p (ix2 ⟨d.val, by omega⟩ i) = ∑ t, v (ix2 d t) * p (ix2 t i) := by
  unfold accT valExt
  pointwise

theorem accT_sum (v : FVec Ideal S64x256 .bf16) (p : FVec Ideal S256x256 .bf16) (i : Fin 256) :
    accT (F := Ideal) v p (ix2 64 i) = ∑ t, p (ix2 t i) := by
  unfold accT valExt
  pointwise

theorem outT_at (a : FVec Ideal S80x256 .f32) (d : Fin 64) (i : Fin 256) :
    outT (F := Ideal) a (ix2 d i) = a (ix2 ⟨d.val, by omega⟩ i) * Ideal.div 1 (a (ix2 64 i)) := by
  unfold outT
  pointwise

theorem weightT_at (a : FVec Ideal S256x256 .f32) (t i : Fin 256) :
    weightT (F := Ideal) a (ix2 t i) = Ideal.exp2 (a (ix2 t i) - colMax a (ix2 0 i)) := by
  unfold weightT
  pointwise
  rfl

end Cert.KernelIdeal.Blk
-- ==== Proof.Attend.lean ====
module

public import proofs.«01_k».proof.Proof.Heads

@[expose] public section

set_option maxRecDepth 16384

noncomputable section

namespace Cert.KernelIdeal.Blk

open Cert.KernelIdeal Cert.KernelIdeal.Gen Idealize.ShloMosaic Idealize.ShloMosaic.TcCoe Idealize.SL.Sem

/-- A maximum of finitely many reals, from minus infinity, is a real. -/
theorem fold_max_real {ι : Type*} (s : Finset ι) (hs : s.Nonempty) (f : ι → EReal) (hf : ∀ i, ∃ r : ℝ, f i = r) :
    ∃ r : ℝ, s.fold max ⊥ f = r := by
  classical
  induction hs using Finset.Nonempty.cons_induction with
  | singleton a => obtain ⟨r, hr⟩ := hf a; exact ⟨r, by simp [hr]⟩
  | cons a s ha _ ih =>
    obtain ⟨r, hr⟩ := hf a
    obtain ⟨q, hq⟩ := ih
    exact ⟨max r q, by rw [Finset.fold_cons, hr, hq]; exact (EReal.coe_strictMono.monotone.map_max).symm⟩

theorem fold8_real (a : FVec Ideal S256x256 .f32) (ha : ∀ t i : Fin 256, ∃ r : ℝ, a (ix2 t i) = r) (n : ℕ) (r : Fin 8) (i : Fin 256) :
    ∃ q : ℝ, fold8 (F := Ideal) a n (ix2 r i) = q := by
  have hrow : ∀ n, ∃ q : ℝ, rows8 (F := Ideal) a n (ix2 r i) = q := by
    intro n
    obtain ⟨q, hq⟩ := ha ⟨8 * (n % 32) + r.val, by omega⟩ i
    refine ⟨q, ?_⟩
    rw [← hq]
    unfold rows8
    pointwise
  induction n with
  | zero => exact hrow 0
  | succ n ih =>
    obtain ⟨p, hp⟩ := ih
    obtain ⟨q, hq⟩ := hrow (n + 1)
    refine ⟨max p q, ?_⟩
    show max (fold8 (F := Ideal) a n (ix2 r i)) (rows8 (F := Ideal) a (n + 1) (ix2 r i)) = _
    rw [hp, hq]
    exact (EReal.coe_strictMono.monotone.map_max).symm

theorem colMax_real (a : FVec Ideal S256x256 .f32) (ha : ∀ t i : Fin 256, ∃ r : ℝ, a (ix2 t i) = r) (i : Fin 256) :
    ∃ q : ℝ, colMax (F := Ideal) a (ix2 0 i) = q := by
  have h8 := fun r => fold8_real a ha 31 r i
  unfold colMax
  generalize fold8 (F := Ideal) a 31 = b at h8 ⊢
  pointwise
  rw [Consts.cninf]
  exact fold_max_real _ Finset.univ_nonempty _ h8

/-- A sum over 128 lanes, half by half. -/
theorem sum_halves {M : Type*} [AddCommMonoid M] (f : Fin 128 → M) :
    ∑ x, f x = ∑ h : Fin 2, ∑ d : Fin 64, f ⟨64 * h.val + d.val, by omega⟩ := by
  rw [← Finset.sum_product', Finset.univ_product_univ]
  refine (Fintype.sum_equiv (finProdFinEquiv (m := 2) (n := 64)) _ _ fun p => ?_).symm
  refine congrArg f (Fin.ext ?_)
  simp [finProdFinEquiv]
  omega

variable (h : FVec Ideal S256x1024 .bf16) (w : Vec Ideal S1024x2560 .bf16) (pn : Vec Ideal S256x256 .bf16) (qg kg : Vec Ideal S1x256 .f32)
  (X : Fin 256 → Fin 1024 → EReal) (M : Fin 3072 → EReal) (W : Fin 1024 → Fin 2560 → EReal) (gq gk : Fin 64 → ℝ)

/-- A lane group of the projection, on the reals. -/
def lanes (g : ℕ) (hg : g < 10) (i n : Fin 256) : EReal := Spec.pr X M W i ⟨256 * g + n.val, by omega⟩

theorem pr_congr (i : Fin 256) {a b : ℕ} (ha : a < 2560) (hb : b < 2560) (e : a = b) : Spec.pr X M W i ⟨a, ha⟩ = Spec.pr X M W i ⟨b, hb⟩ := by
  subst e
  rfl

section

variable (hh : ∀ i j, h (ix2 i j) = Spec.act X M i j) (hw : ∀ k n, w (ix2 k n) = W k n)
  (hp : ∀ a b, pn (ix2 a b) = if a.val / 64 = b.val / 64 then ((1 / 64 : ℝ) : EReal) else 0)
  (hq : ∀ n : Fin 256, qg (ix2 0 n) = ((gq ⟨n.val % 64, Nat.mod_lt _ (Nat.succ_pos 63)⟩ : ℝ) : EReal))
  (hk : ∀ n : Fin 256, kg (ix2 0 n) = ((gk ⟨n.val % 64, Nat.mod_lt _ (Nat.succ_pos 63)⟩ : ℝ) : EReal))

include hh hw in
theorem lanes_at (g : ℕ) (hg : g < 10) (i n : Fin 256) : proj (F := Ideal) h w g (ix2 i n) = lanes X M W g hg i n :=
  proj_at h w (Spec.act X M) W hh hw g hg i n

include hh hw hp hk in
theorem keys_at (t : Fin 256) (a : Fin 4) (d : Fin 64) :
    headNorm (F := Ideal) (proj h w 4) pn (kGain kg) (ix2 t ⟨64 * a.val + d.val, by omega⟩) = ((Spec.key X M W gk t a d : ℝ) : EReal) := by
  have hg : ∀ n : Fin 256, kGain (F := Ideal) kg (ix2 0 n) = ((gk ⟨n.val % 64, Nat.mod_lt _ (Nat.succ_pos 63)⟩ : ℝ) : EReal) := by
    intro n
    rw [← hk]
    unfold kGain
    pointwise
  rw [headNorm_at _ _ _ _ _ (lanes_at h w X M W hh hw 4 (by decide)) hg hp t a d]
  unfold Spec.key
  rw [Spec.coe_norm]
  congr 1
  · funext e
    exact pr_congr X M W t _ _ (by show 256 * 4 + (64 * a.val + e.val) = 1024 + 64 * a.val + e.val; omega)
  · funext e
    exact congrArg gk (Fin.ext (by show (64 * a.val + e.val) % 64 = e.val; omega))

theorem kap_named : Named.named (F := Ideal) Cert.KernelIdeal.κ "log2e_8" (φ := .f32) 0x3E38AA3B#32 = ((Spec.kap : ℝ) : EReal) :=
  IdealRules.named_const.ideal_named_scalar _ _ _ _ rfl

include hh hw hp hq in
theorem queries_at (i : Fin 256) (a : Fin 16) (d : Fin 64) :
    qGroup (F := Ideal) h w pn qg (a.val / 4) (ix2 i ⟨64 * (a.val % 4) + d.val, by omega⟩) = ((Spec.kap * Spec.qry X M W gq i a d : ℝ) : EReal) := by
  have hg : ∀ n : Fin 256, qGain (F := Ideal) qg (ix2 0 n) = ((gq ⟨n.val % 64, Nat.mod_lt _ (by decide)⟩ * Spec.kap : ℝ) : EReal) := by
    intro n
    rw [EReal.coe_mul, ← hq, ← kap_named]
    unfold qGain
    pointwise
  have e : qGroup (F := Ideal) h w pn qg (a.val / 4) (ix2 i ⟨64 * (a.val % 4) + d.val, by omega⟩)
      = headNorm (F := Ideal) (proj h w (a.val / 4)) pn (qGain qg) (ix2 i ⟨64 * (a.val % 4) + d.val, by omega⟩) := by
    unfold qGroup
    pointwise
  rw [e]
  have := headNorm_at _ _ _ _ _ (lanes_at h w X M W hh hw (a.val / 4) (by omega)) hg hp i ⟨a.val % 4, by omega⟩ d
  rw [this]
  rw [EReal.coe_mul]
  unfold Spec.qry
  rw [Spec.coe_norm]
  unfold Spec.normE
  have e1 : (fun e : Fin 64 => lanes X M W (a.val / 4) (by omega) i ⟨64 * (a.val % 4) + e.val, by omega⟩) = fun e => Spec.pr X M W i (Spec.qI a e) := by
    funext e
    exact pr_congr X M W i _ _ (by show 256 * (a.val / 4) + (64 * (a.val % 4) + e.val) = 64 * a.val + e.val; omega)
  have e2 : (⟨(64 * (a.val % 4) + d.val) % 64, Nat.mod_lt _ (by decide)⟩ : Fin 64) = d := Fin.ext (by show (64 * (a.val % 4) + d.val) % 64 = d.val; omega)
  have e3 := congrFun e1 d
  simp only [] at e3 ⊢
  rw [e1, e2, e3, EReal.coe_mul, mul_comm (Spec.kap : EReal), mul_assoc (_ * _)]

include hh hw in
theorem values_at (t : Fin 256) (a : Fin 16) (d : Fin 64) :
    vRows (F := Ideal) (valT (proj h w 5)) a (ix2 d t) = Spec.pr X M W t (Spec.vI (Spec.kvOf a) d) := by
  rw [vRows_at, valT_at, lanes_at h w X M W hh hw 5 (by decide)]
  exact (pr_congr X M W t _ _ (by show 256 * 5 + (64 * (a.val / 4) + d.val) = 1280 + 64 * (a.val / 4) + d.val; omega))

theorem half_slab (p r d : ℕ) (hr : r < 2) (hd : d < 64) :
    (128 * (2 * p + r) + (64 * r + d)) % 128 / 64 = (128 * (2 * p + r) + (64 * r + d)) / 128 % 2 := by
  interval_cases r <;> omega

include hh hw hp hq hk in
theorem scores_at (t : Fin 256) (a : Fin 16) (i : Fin 256) :
    scoreT (F := Ideal) (qSlab (qGroup h w pn qg (a.val / 4)) a) (kSlab (keySlabs (headNorm (proj h w 4) pn (kGain kg))) a) (ix2 t i)
      = ((Spec.kap * Spec.score X M W gq gk i a t : ℝ) : EReal) := by
  rw [scoreT_at, sum_halves, Finset.sum_eq_single ⟨a.val % 2, by omega⟩]
  · unfold Spec.score
    rw [Finset.mul_sum, Spec.coe_sum]
    refine Finset.sum_congr rfl fun d _ => ?_
    rw [kSlab_at, qSlab_at, keySlabs_at, if_pos (half_slab (a.val / 4) (a.val % 2) d.val (by omega) d.isLt)]
    have e1 : (ix2 t ⟨64 * ((128 * (2 * (a.val / 4) + a.val % 2) + (64 * (a.val % 2) + d.val)) / 256) + (128 * (2 * (a.val / 4) + a.val % 2) + (64 * (a.val % 2) + d.val)) % 64, by omega⟩ : S256x256.Idx)
        = ix2 t ⟨64 * (Spec.kvOf a).val + d.val, by omega⟩ := by
      refine congrArg (ix2 t) (Fin.ext ?_)
      show _ = 64 * (a.val / 4) + d.val
      simp only []
      omega
    have e2 : (ix2 i ⟨128 * (a.val / 2 % 2) + (64 * (a.val % 2) + d.val), by omega⟩ : S256x256.Idx) = ix2 i ⟨64 * (a.val % 4) + d.val, by omega⟩ := by
      refine congrArg (ix2 i) (Fin.ext ?_)
      show _ = 64 * (a.val % 4) + d.val
      simp only []
      omega
    rw [e1, e2, keys_at h w pn kg X M W gk hh hw hp hk, queries_at h w pn qg X M W gq hh hw hp hq, ← EReal.coe_mul]
    congr 1
    ring
  · intro b _ hb
    refine Finset.sum_eq_zero fun d _ => ?_
    rw [kSlab_at, keySlabs_at, if_neg, zero_mul]
    intro hc
    apply hb
    apply Fin.ext
    simp only [] at hc ⊢
    omega
  · simp

/-- Weights as powers of two from scaled scores, summed and divided: the softmax's mean of the values. -/
theorem mean_of_pow (s : Fin 256 → ℝ) (v : Fin 256 → EReal) (m : ℝ) :
    (∑ t, v t * (((2 : ℝ) ^ (Spec.kap * s t - m) : ℝ) : EReal)) * ((1 / ∑ t, (2 : ℝ) ^ (Spec.kap * s t - m) : ℝ) : EReal)
      = ∑ t, v t * ((Spec.soft s t : ℝ) : EReal) := by
  have hk : Spec.kap ≠ 0 := by
    unfold Spec.kap
    have : Real.log 2 ≠ 0 := (Real.log_pos (by norm_num)).ne'
    positivity
  have e : ∀ t, (2 : ℝ) ^ (Spec.kap * s t - m) = Real.exp (s t / 8 - m / Spec.kap / 8) := by
    intro t
    rw [← Spec.kap_pow]
    congr 2
    field_simp
  simp only [e]
  rw [Spec.sum_mul_coe _ _ _ (one_div_nonneg.mpr (Finset.sum_nonneg fun t _ => (Real.exp_pos _).le))]
  refine Finset.sum_congr rfl fun t _ => ?_
  rw [← Spec.soft_shift s (m / Spec.kap / 8) t, mul_assoc, ← EReal.coe_mul, mul_one_div]

include hh hw hp hq hk in
theorem headT_at (a : Fin 16) (d : Fin 64) (i : Fin 256) :
    headT (F := Ideal) h w pn qg kg a (ix2 d i) = Spec.head X M W gq gk i a d := by
  unfold headT
  have hs := fun t => scores_at h w pn qg kg X M W gq gk hh hw hp hq hk t a
  generalize scoreT (F := Ideal) (qSlab (qGroup h w pn qg (a.val / 4)) a) (kSlab (keySlabs (headNorm (proj h w 4) pn (kGain kg))) a) = S at hs ⊢
  obtain ⟨m, hm⟩ := colMax_real S (fun t i => ⟨_, hs t i⟩) i
  have hwt : ∀ t, weightT (F := Ideal) S (ix2 t i) = (((2 : ℝ) ^ (Spec.kap * Spec.score X M W gq gk i a t - m) : ℝ) : EReal) := by
    intro t
    rw [weightT_at, hs, hm, ← EReal.coe_sub, Ideal.exp2_coe]
    rfl
  rw [outT_at, accT_at, accT_sum]
  simp only [hwt, values_at h w X M W hh hw]
  rw [← Spec.coe_sum]
  have hpos : 0 < ∑ t, (2 : ℝ) ^ (Spec.kap * Spec.score X M W gq gk i a t - m) :=
    Finset.sum_pos (fun t _ => Real.rpow_pos_of_pos (by norm_num) _) Finset.univ_nonempty
  rw [Ideal.div_coe hpos.ne', one_mul, mean_of_pow]
  rfl

end

end Cert.KernelIdeal.Blk
-- ==== Proof.Norm.lean ====
module

public import proofs.«01_k».proof.Proof.Attend

/-! The gates, the residual and the layer norm at an index. -/

@[expose] public section

set_option maxRecDepth 16384

noncomputable section

namespace Cert.Spec

/-- A row's mean. -/
def mean (r : Fin 1024 → EReal) : EReal := Idealize.ShloMosaic.Ideal.div (∑ k, r k) (Idealize.ShloMosaic.Ideal.ofBits .f32 0x44800000#32)

/-- A row's layer norm, with gain `g` and bias `b`. -/
def lnorm (r g b : Fin 1024 → EReal) (j : Fin 1024) : EReal :=
  (r j - mean r) * Idealize.ShloMosaic.Ideal.rsqrt (mean (fun k => (r k - mean r) * (r k - mean r)) + Idealize.ShloMosaic.Ideal.ofBits .f32 0x3727C5AC#32)
    * g j + b j

/-- A row's residual: `x` scaled, and the gated branch `u` under the output projection `wo`. -/
def resid (x g u : Fin 1024 → EReal) (wo : Fin 1024 → Fin 1024 → EReal) (j : Fin 1024) : EReal :=
  Idealize.ShloMosaic.Ideal.ofBits .f32 0x3FB504F3#32 * x j + g j * ∑ n, u n * wo n j

end Cert.Spec

namespace Cert.KernelIdeal.Blk

open Cert.KernelIdeal Cert.KernelIdeal.Gen Idealize.ShloMosaic Idealize.ShloMosaic.TcCoe Idealize.SL.Sem

theorem rowMean_at (y : FVec Ideal S256x1024 .f32) (i : Fin 256) : rowMean (F := Ideal) y (ix2 i 0) = Spec.mean fun k => y (ix2 i k) := by
  unfold rowMean Spec.mean
  pointwise

theorem centred_at (y : FVec Ideal S256x1024 .f32) (i : Fin 256) (j : Fin 1024) :
    centred (F := Ideal) y (ix2 i j) = y (ix2 i j) - Spec.mean fun k => y (ix2 i k) := by
  unfold centred
  rw [← rowMean_at]
  generalize rowMean (F := Ideal) y = w
  pointwise

theorem layerNorm_at (y : FVec Ideal S256x1024 .f32) (lg lb : Vec Ideal S1x1024 .f32) (i : Fin 256) (j : Fin 1024) :
    layerNorm (F := Ideal) y lg lb (ix3 0 i j) = Spec.lnorm (fun k => y (ix2 i k)) (fun k => lg (ix2 0 k)) (fun k => lb (ix2 0 k)) j := by
  have hm := rowMean_at (mulf (centred y) (centred y)) i
  have hd : ∀ k, mulf (centred (F := Ideal) y) (centred y) (ix2 i k) = centred (F := Ideal) y (ix2 i k) * centred (F := Ideal) y (ix2 i k) := fun k => rfl
  simp only [hd, centred_at] at hm
  unfold Spec.lnorm
  rw [← hm, ← centred_at]
  unfold layerNorm
  generalize rowMean (F := Ideal) _ = w
  generalize centred (F := Ideal) y = v
  pointwise

theorem resid_at (o : FVec Ideal S1x1024x256 .f32) (sg : FVec Ideal S1x256x1024 .bf16) (x : Vec Ideal S1x256x1024 .f32) (md : Vec Ideal S1x1x1x3072 .f32)
    (wo : Vec Ideal S1024x1024 .bf16) (X : Fin 256 → Fin 1024 → EReal) (M : Fin 3072 → EReal) (U : Fin 256 → Fin 1024 → EReal)
    (hx : ∀ i j, x (ix3 0 i j) = X i j) (hm : ∀ n, md (ix4 0 0 0 n) = M n)
    (hu : ∀ i n, o (ix3 0 n i) * sg (ix3 0 i n) = U i n) (i : Fin 256) (j : Fin 1024) :
    resid (F := Ideal) o sg x md wo (ix2 i j)
      = Spec.resid (X i) (fun j => M ⟨2048 + j.val, by omega⟩) (U i) (fun n j => wo (ix2 n j)) j := by
  unfold Spec.resid
  simp only [← hu, ← hx, ← hm, ← modRow_at]
  unfold resid
  generalize modRow (F := Ideal) md = r
  pointwise

theorem gateGroup_at (u : FVec Ideal S256x256 .f32) (U : Fin 256 → Fin 256 → EReal) (hu : ∀ i n, u (ix2 i n) = U i n)
    (i n : Fin 256) : gateGroup (F := Ideal) u (ix3 0 i n) = Spec.silu (U i n) := by
  unfold gateGroup
  pointwise
  unfold Spec.silu
  rw [hu, zero_sub]

end Cert.KernelIdeal.Blk

end
-- ==== Proof.Reads.lean ====
module

public import proofs.«01_k».proof.Proof.Block

/-! What the body's loads of its own scratches read, and what its stores leave in the three output blocks, in the terms of `Block`. -/

@[expose] public section

set_option maxRecDepth 16384

noncomputable section

namespace Cert.KernelIdeal.Blk

open Cert.KernelIdeal Cert.KernelIdeal.Gen Idealize.ShloMosaic Idealize.ShloMosaic.TcCoe Idealize.SL.Sem

variable {F : FTy → Type} [FloatOps F] [Named F]

theorem inb_cols (H W H' o n o' n' : ℕ) (inb : ∀ a, ![0, o] a + ![H', n] a ≤ (⟨2, ![H, W]⟩ : Shape).size a)
    (h1 : o ≤ o') (h2 : o' + n' ≤ o + n) : ∀ a, ![0, o' - o] a + ![H', n'] a ≤ (⟨2, ![H', n]⟩ : Shape).size a := by
  intro a; fin_cases a <;> simp; omega

/-- A load of columns inside the columns last stored reads them. -/
theorem readCov_cols {sig : RefSig} {κ : Kind} {sp : Space} {e : EltTy} {Val : EltTy → Type} [∀ e, Nonempty (Val e)]
    {H W H' : ℕ} (v : View sig κ sp ⟨2, ![H, W]⟩ e) (o n o' n' : ℕ)
    (inb : ∀ a, ![0, o] a + ![H', n] a ≤ (⟨2, ![H, W]⟩ : Shape).size a) (inb' : ∀ a, ![0, o'] a + ![H', n'] a ≤ (⟨2, ![H, W]⟩ : Shape).size a)
    (p : (⟨2, ![H', n]⟩ : Shape).Idx → Val e) (L : List (View.Piece Val ⟨2, ![H, W]⟩ e)) (h1 : o ≤ o') (h2 : o' + n' ≤ o + n) :
    v.readCov (⟨Rect.unit ![0, o] ![H', n] inb, p⟩ :: L) (Rect.unit (s := ⟨2, ![H, W]⟩) ![0, o'] ![H', n'] inb').toLoadRect
      = View.ld (Val := Val) (e' := e) (S := ⟨2, ![H', n]⟩) p (Rect.unit ![0, o' - o] ![H', n'] (inb_cols H W H' o n o' n' inb h1 h2)) := by
  rw [View.readCov_eq_canon']
  funext j
  have hx := Rect.emb_eq_of_coords (Rect.unit (s := ⟨2, ![H, W]⟩) ![0, o] ![H', n] inb)
    ((Rect.unit (s := ⟨2, ![H', n]⟩) ![0, o' - o] ![H', n'] (inb_cols H W H' o n o' n' inb h1 h2)).idx j)
    ((Rect.unit (s := ⟨2, ![H, W]⟩) ![0, o'] ![H', n'] inb').toLoadRect.idx j) (fun a => by
      have e1 := Rect.idx_unit_val ![0, o'] ![H', n'] inb' j a
      have e2 := Rect.idx_unit_val (s := ⟨2, ![H', n]⟩) ![0, o' - o] ![H', n'] (inb_cols H W H' o n o' n' inb h1 h2) j a
      refine e1.trans ?_
      show _ = ![0, o] a + 1 * _
      rw [Nat.one_mul]
      refine Eq.trans ?_ (congrArg (![0, o] a + ·) e2.symm)
      fin_cases a
      · simp
      · simp; omega)
  rw [← hx]
  exact View.canon_cons_emb _ _ _ _

/-- The sixteen stored heads of a sequence, read at an index below the `n`-th head. -/
theorem canon_headPieces (s : ℕ) (p : ℕ → FVec F S64x256 .f32) (L : List (View.Piece (Elt F) S2x1024x256 .f32)) (y : S2x1024x256.Idx) (h0 : (y 0).val = s % 2) :
    ∀ n ≤ 16, (y 1).val < 64 * n →
      View.canon (headPieces s p L n) y = p ((y 1).val / 64) (ix2 ⟨(y 1).val % 64, Nat.mod_lt _ (by decide)⟩ (y 2))
  | 0, _, h => absurd h (by omega)
  | n + 1, hn, h => by
    have hm : n % 16 = n := Nat.mod_eq_of_lt (by omega)
    by_cases hlt : (y 1).val < 64 * n
    · refine Eq.trans ?_ (canon_headPieces s p L y h0 n (by omega) hlt)
      refine View.canon_cons_of_not_mem _ _ (Rect.not_mem_set_of_axis _ y (1 : Fin 3) (0 + 64 * (n % 16)) 64 rfl rfl rfl (.inl ?_))
      rw [hm]; omega
    · have hx := Rect.emb_eq_of_coords (headRect s n) (ix3 (n0 := 1) (n1 := 64) (n2 := 256) 0 ⟨(y 1).val - 64 * n, by omega⟩ (y 2)) y (fun a => by
        fin_cases a
        · show (y 0).val = (s % 2 + 0) + 1 * 0; omega
        · show (y 1).val = (0 + 64 * (n % 16)) + 1 * ((y 1).val - 64 * n); omega
        · show (y 2).val = (0 + 0) + 1 * (y 2).val; omega)
      have hd : (y 1).val / 64 = n := by omega
      have hz : (⟨(y 1).val % 64, Nat.mod_lt _ (by decide)⟩ : Fin 64) = ⟨(y 1).val - 64 * n, by omega⟩ := Fin.ext (by simp; omega)
      rw [hd, hz]
      refine Eq.trans (congrArg _ hx.symm) ?_
      refine (View.canon_cons_emb (headRect s n) _ _ _).trans ?_
      exact Rect.payAlong_consLift (rowRect n) ![1, 1024, 256] rfl lift_sizes (p n) (numel_head s n) _ _ (fun i => by fin_cases i <;> rfl)

/-- The load of a sequence's plane reads its sixteen heads stacked. -/
theorem read_heads {sig : RefSig} {κ : Kind} {sp : Space} (v : View sig κ sp S2x1024x256 .f32) (s : ℕ) (p : ℕ → FVec F S64x256 .f32)
    (L : List (View.Piece (Elt F) S2x1024x256 .f32)) :
    v.readCov (headPieces s p L 16) (Rect.unit (s := S2x1024x256) ![s % 2, 0, 0] ![1, 1024, 256] (inb_plane s)).toLoadRect = stackHeads p := by
  rw [View.readCov_eq_canon']
  funext j
  have e := fun a => Rect.idx_unit_val (s := S2x1024x256) ![s % 2, 0, 0] ![1, 1024, 256] (inb_plane s) j a
  have e0 := e 0
  have e1 := e 1
  have e2 := e 2
  have b0 : (j 0).val < 1 := (j 0).isLt
  have b1 : (j 1).val < 1024 := (j 1).isLt
  simp only [Matrix.cons_val_zero, Matrix.cons_val_one, Matrix.cons_val, Nat.zero_add] at e0 e1 e2
  refine (canon_headPieces s p L _ (by refine e0.trans ?_; omega) 16 le_rfl (by refine lt_of_eq_of_lt e1 ?_; omega)).trans ?_
  unfold stackHeads
  have e1' : (((Rect.unit (s := S2x1024x256) ![s % 2, 0, 0] ![1, 1024, 256] (inb_plane s)).toLoadRect.idx j) 1).val = (j 1).val := e1
  have e2' : ((Rect.unit (s := S2x1024x256) ![s % 2, 0, 0] ![1, 1024, 256] (inb_plane s)).toLoadRect.idx j) 2 = j 2 := Fin.ext e2
  simp only [e1', e2']

/-- The four stored gate groups of a sequence, read at an index below the `n`-th group. -/
theorem canon_gatePieces (s : ℕ) (p : ℕ → FVec F S1x256x256 .bf16) (L : List (View.Piece (Elt F) S2x256x1024 .bf16)) (y : S2x256x1024.Idx) (h0 : (y 0).val = s % 2) :
    ∀ n ≤ 4, (y 2).val < 256 * n →
      View.canon (gatePieces s p L n) y = p ((y 2).val / 256) (ix3 0 (y 1) ⟨(y 2).val % 256, Nat.mod_lt _ (by decide)⟩)
  | 0, _, h => absurd h (by omega)
  | n + 1, hn, h => by
    have hm : n % 4 = n := Nat.mod_eq_of_lt (by omega)
    by_cases hlt : (y 2).val < 256 * n
    · refine Eq.trans ?_ (canon_gatePieces s p L y h0 n (by omega) hlt)
      refine View.canon_cons_of_not_mem _ _ (Rect.not_mem_set_of_axis _ y (2 : Fin 3) (256 * (n % 4)) 256 rfl rfl rfl (.inl ?_))
      rw [hm]; omega
    · have hx := Rect.emb_eq_of_coords (Rect.unit (s := S2x256x1024) ![s % 2, 0, 256 * (n % 4)] ![1, 256, 256] (inb_gates s n))
        (ix3 (n0 := 1) (n1 := 256) (n2 := 256) 0 (y 1) ⟨(y 2).val - 256 * n, by omega⟩) y (fun a => by
        fin_cases a
        · show (y 0).val = (s % 2) + 1 * 0; omega
        · show (y 1).val = 0 + 1 * (y 1).val; omega
        · show (y 2).val = 256 * (n % 4) + 1 * ((y 2).val - 256 * n); omega)
      have hd : (y 2).val / 256 = n := by omega
      have hz : (⟨(y 2).val % 256, Nat.mod_lt _ (by decide)⟩ : Fin 256) = ⟨(y 2).val - 256 * n, by omega⟩ := Fin.ext (by simp; omega)
      rw [hd, hz]
      refine Eq.trans (congrArg _ hx.symm) ?_
      exact View.canon_cons_emb _ _ _ _

/-- The load of a sequence's plane reads its four gate groups side by side. -/
theorem read_gates {sig : RefSig} {κ : Kind} {sp : Space} (v : View sig κ sp S2x256x1024 .bf16) (s : ℕ) (p : ℕ → FVec F S1x256x256 .bf16)
    (L : List (View.Piece (Elt F) S2x256x1024 .bf16)) :
    v.readCov (gatePieces s p L 4) (Rect.unit (s := S2x256x1024) ![s % 2, 0, 0] ![1, 256, 1024] (inb_seq s)).toLoadRect = stackGates p := by
  rw [View.readCov_eq_canon']
  funext j
  have e := fun a => Rect.idx_unit_val (s := S2x256x1024) ![s % 2, 0, 0] ![1, 256, 1024] (inb_seq s) j a
  have e0 := e 0
  have e1 := e 1
  have e2 := e 2
  have b0 : (j 0).val < 1 := (j 0).isLt
  have b2 : (j 2).val < 1024 := (j 2).isLt
  simp only [Matrix.cons_val_zero, Matrix.cons_val_one, Matrix.cons_val, Nat.zero_add] at e0 e1 e2
  refine (canon_gatePieces s p L _ (by refine e0.trans ?_; omega) 4 le_rfl (by refine lt_of_eq_of_lt e2 ?_; omega)).trans ?_
  unfold stackGates
  have e1' : ((Rect.unit (s := S2x256x1024) ![s % 2, 0, 0] ![1, 256, 1024] (inb_seq s)).toLoadRect.idx j) 1 = j 1 := Fin.ext e1
  have e2' : (((Rect.unit (s := S2x256x1024) ![s % 2, 0, 0] ![1, 256, 1024] (inb_seq s)).toLoadRect.idx j) 2).val = (j 2).val := e2
  simp only [e1', e2']
  exact congrArg (p ((j 2).val / 256)) (funext fun a => by
    fin_cases a
    · exact Fin.ext (show 0 = (j 0).val by omega)
    · rfl
    · rfl)

/-! ## The three output blocks after a step -/

variable (m : (ℓ : Loc nD τ sig) → Buf (Elt F) ℓ) (c : Dev nD) (t : Fin cfg0.N)

/-- The modulated activations of sequence `s` of step `t`. -/
abbrev hI (s : ℕ) : FVec F S256x1024 .bf16 := hB (iblk m c 0 t) (iblk m c 1 t) s

/-- Step `t`'s heads. -/
abbrev heads (s : ℕ) : ℕ → FVec F S64x256 .f32 := headT (hI m c t s) (iblk m c 2 t) (iblk m c 3 t) (iblk m c 4 t) (iblk m c 5 t)

/-- Step `t`'s gate groups. -/
abbrev gates (s : ℕ) : ℕ → FVec F S1x256x256 .bf16 := fun g => gateGroup (proj (hI m c t s) (iblk m c 2 t) (6 + g))

theorem after10 : (dats m 0 c).after 10 t
    = View.canon (kvPieces fun s => heads4 (headNorm (proj (hI m c t s) (iblk m c 2 t) 4) (iblk m c 3 t) (kGain (iblk m c 5 t)))) := by
  rw [after0_10]
  unfold outsAt0
  dsimp only
  frame_open
  simp (disch := decide) only [↓ View.readCov_skip, ↓ View.readCov_cons_toLoadRect, ↓ View.readCov_fill, ↓ readCov_cols, Nat.reduceSub]
  frame_out
  rfl

theorem after11 : (dats m 0 c).after 11 t = View.canon (kvPieces fun s => heads4 (proj (hI m c t s) (iblk m c 2 t) 5)) := by
  rw [after0_11]
  unfold outsAt0
  dsimp only
  frame_open
  simp (disch := decide) only [↓ View.readCov_skip, ↓ View.readCov_cons_toLoadRect, ↓ View.readCov_fill, ↓ readCov_cols, Nat.reduceSub]
  frame_out
  rfl

/-- A head's values over other rows. -/
def stack80 (v : FVec F S64x256 .bf16) (b : FVec F S16x256 .bf16) : FVec F S80x256 .bf16 :=
  concatenate S80x256 0 [⟨S64x256, v⟩, ⟨S16x256, b⟩] concatenates_S64x256_S16x256_S80x256_d0

theorem stack80_eq (v : FVec F S64x256 .bf16) (b : FVec F S16x256 .bf16) (h) :
    concatenate S80x256 0 [⟨S64x256, v⟩, ⟨S16x256, b⟩] h = stack80 v b := rfl

/-- Eight slabs of 128 lanes, side by side. -/
def slabs8 (a0 a1 a2 a3 a4 a5 a6 a7 : FVec F S256x128 .f32) : FVec F S256x1024 .f32 :=
  concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] concatenates_S256x128_S256x128_S256x128_S256x128_S256x128_S256x128_S256x128_S256x128_S256x1024_d1

theorem slabs8_eq (a0 a1 a2 a3 a4 a5 a6 a7 : FVec F S256x128 .f32) (h) : concatenate S256x1024 1 [⟨S256x128, a0⟩, ⟨S256x128, a1⟩, ⟨S256x128, a2⟩, ⟨S256x128, a3⟩, ⟨S256x128, a4⟩, ⟨S256x128, a5⟩, ⟨S256x128, a6⟩, ⟨S256x128, a7⟩] h = slabs8 a0 a1 a2 a3 a4 a5 a6 a7 := rfl

theorem after9 : (dats m 0 c).after 9 t = View.canon (yPieces fun s =>
    yBlock (stackHeads (heads m c t s)) (stackGates (gates m c t s)) (iblk m c 0 t) (iblk m c 1 t) (iblk m c 6 t) (iblk m c 7 t) (iblk m c 8 t) s) := by
  have r1 := read_heads (F := F) scM0_7.view 1 (heads m c t 1) (headPieces 0 (heads m c t 0) [] 16)
  have r2 := read_gates (F := F) scM0_4.view 1 (gates m c t 1) (gatePieces 0 (gates m c t 0) [] 4)
  have r3 := read_heads (F := F) scM0_7.view 0 (heads m c t 0) []
  have r4 := read_gates (F := F) scM0_4.view 0 (gates m c t 0) []
  unfold yPieces
  beta_reduce
  rw [← r1, ← r2, ← r3, ← r4, after0_9]
  unfold outsAt0
  dsimp only
  frame_open
  simp (disch := decide) only [↓ stack80_eq, ↓ slabs8_eq, ↓ View.readCov_skip, ↓ View.readCov_cons_toLoadRect, ↓ View.readCov_fill, ↓ readCov_cols, Nat.reduceSub]
  frame_out
  rfl

end Cert.KernelIdeal.Blk
-- ==== Proof.Inputs.lean ====
module

public import proofs.«01_k».proof.Proof.Reads
public import proofs.«01_k».proof.Proof.Consts
public import Idealize.ShloMosaic.Lib.StableHlo.ReadAt
public import Idealize.ShloMosaic.Lib.Pointwise

/-! What the windows' input blocks hold, as elements of the program's arguments. -/

@[expose] public section

set_option maxRecDepth 16384

noncomputable section

namespace Cert.KernelIdeal.Blk

open Cert.KernelIdeal Cert.KernelIdeal.Gen Idealize.ShloMosaic Idealize.ShloMosaic.TcCoe Idealize.SL.Sem

variable (m : (ℓ : Loc nD τ sig) → Buf (Elt Ideal) ℓ) (c : Dev nD) (t : Fin cfg0.N)

/-- The sequence the block's sequence `s` is. -/
def seqOf (t : Fin cfg0.N) (s : Fin 2) : Fin 32 := ⟨2 * t.val + s.val, by have := t.isLt; have : t.val < 16 := t.isLt; omega⟩

theorem idx0 : ∀ t : Fin cfg0.N, win0_0.index t = ![t.val, 0, 0] := by decide +kernel
theorem idx1 : ∀ t : Fin cfg0.N, win0_1.index t = ![0, 0, 0, 0] := by decide +kernel
theorem idx2 : ∀ t : Fin cfg0.N, win0_2.index t = ![0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![0, 0] := by decide +kernel

theorem iblk0 (s : Fin 2) (i : Fin 256) (j : Fin 1024) : iblk m c 0 t (ix3 s i j) = m (c, main_arg0) (ix3 (seqOf t s) i j) := by
  blk_simp [iblk, idx0]
  unfold V
  after_reads_at
  blk_ext [idx0]
  show _ = 2 * t.val + s.val
  omega

theorem iblk1 (n : Fin 3072) : iblk m c 1 t (ix4 0 0 0 n) = m (c, main_arg1) (ix3 0 0 n) := by
  blk_simp [iblk, idx1]
  unfold V
  after_reads_at
  blk_ext [idx1]

theorem iblk2 (k : Fin 1024) (n : Fin 2560) : iblk m c 2 t (ix2 k n) = m (c, main_arg2) (ix3 0 k n) := by
  blk_simp [iblk, idx2]
  unfold V
  after_reads_at
  blk_ext [idx2]

theorem iblk4 (n : Fin 256) : iblk m c 4 t (ix2 0 n) = m (c, main_arg3) (ix2 0 ⟨n.val % 64, Nat.mod_lt _ (by decide)⟩) := by
  blk_simp [iblk, idx4]
  unfold V
  after_reads_at
  blk_ext [idx4]

theorem iblk5 (n : Fin 256) : iblk m c 5 t (ix2 0 n) = m (c, main_arg4) (ix2 0 ⟨n.val % 64, Nat.mod_lt _ (by decide)⟩) := by
  blk_simp [iblk, idx5]
  unfold V
  after_reads_at
  blk_ext [idx5]

theorem iblk6 (k n : Fin 1024) : iblk m c 6 t (ix2 k n) = m (c, main_arg5) (ix3 0 k n) := by
  blk_simp [iblk, idx6]
  unfold V
  after_reads_at
  blk_ext [idx6]

theorem iblk7 (n : Fin 1024) : iblk m c 7 t (ix2 0 n) = m (c, main_arg6) (ix2 0 n) := by
  blk_simp [iblk, idx7]
  unfold V
  after_reads_at
  blk_ext [idx7]

theorem iblk8 (n : Fin 1024) : iblk m c 8 t (ix2 0 n) = m (c, main_arg7) (ix2 0 n) := by
  blk_simp [iblk, idx8]
  unfold V
  after_reads_at
  blk_ext [idx8]

theorem iblk3 (a b : Fin 256) : iblk m c 3 t (ix2 a b) = if a.val / 64 = b.val / 64 then ((1 / 64 : ℝ) : EReal) else 0 := by
  blk_simp [iblk, idx3]
  unfold V
  after_reads_at
  blk_simp [idx3]
  have ha : a.val / 64 < 4 := by have := a.isLt; omega
  have hb : b.val / 64 < 4 := by have := b.isLt; omega
  rw [Cert.Consts.c64th]
  generalize a.val / 64 = p at ha
  generalize b.val / 64 = q at hb
  interval_cases p <;> interval_cases q <;> simp [Scalar.select, IntOp.cmpi]

end Cert.KernelIdeal.Blk
-- ==== Proof.KernelOut.lean ====
module

public import proofs.«01_k».proof.Proof.Norm
public import proofs.«01_k».proof.Proof.Inputs
public import proofs.«01_k».proof.Proof.Gen.KernelIdeal.Value
public import Idealize.ShloMosaic.Lib.Pipeline.ValueKit

/-! The kernel's output blocks at an index, on real inputs, and the three result arrays. -/

@[expose] public section

set_option maxRecDepth 16384

noncomputable section

namespace Cert.KernelIdeal.Blk

open Cert.KernelIdeal Cert.KernelIdeal.Gen Idealize.ShloMosaic Idealize.ShloMosaic.TcCoe Idealize.SL.Sem

/-- The stored keys or values of the block's sequence `s`. -/
theorem kv_canon (p : ℕ → FVec Ideal S1x256x4x64 .f32) (s : Fin 2) (i : Fin 256) (a : Fin 4) (d : Fin 64) :
    View.canon (kvPieces p) (ix4 s i a d) = p s.val (ix4 0 i a d) := by
  have hx : ∀ k : ℕ, k = s.val → (Rect.unit (s := S2x256x4x64) ![k % 2, 0, 0, 0] ![1, 256, 4, 64] (inb_kv k)).emb (ix4 (n0 := 1) 0 i a d) = ix4 s i a d := by
    intro k hk
    refine Rect.emb_eq_of_coords _ _ _ fun b => ?_
    fin_cases b
    · show s.val = k % 2 + 1 * 0; omega
    · show i.val = 0 + 1 * i.val; omega
    · show a.val = 0 + 1 * a.val; omega
    · show d.val = 0 + 1 * d.val; omega
  unfold kvPieces
  by_cases h1 : s.val = 1
  · rw [← hx 1 h1.symm, View.canon_cons_emb, h1]
  · have h0 : s.val = 0 := by omega
    rw [View.canon_cons_of_not_mem, ← hx 0 h0.symm, View.canon_cons_emb, h0]
    exact Rect.not_mem_set_of_axis _ _ (0 : Fin 4) 1 1 rfl rfl rfl (.inl (by show s.val < 1; omega))

/-- The stored output of the block's sequence `s`. -/
theorem y_canon (p : ℕ → FVec Ideal S1x256x1024 .f32) (s : Fin 2) (i : Fin 256) (j : Fin 1024) :
    View.canon (yPieces p) (ix3 s i j) = p s.val (ix3 0 i j) := by
  have hx : ∀ k : ℕ, k = s.val → (Rect.unit (s := S2x256x1024) ![k % 2, 0, 0] ![1, 256, 1024] (inb_seq k)).emb (ix3 (n0 := 1) 0 i j) = ix3 s i j := by
    intro k hk
    refine Rect.emb_eq_of_coords _ _ _ fun b => ?_
    fin_cases b
    · show s.val = k % 2 + 1 * 0; omega
    · show i.val = 0 + 1 * i.val; omega
    · show j.val = 0 + 1 * j.val; omega
  unfold yPieces
  by_cases h1 : s.val = 1
  · rw [← hx 1 h1.symm, View.canon_cons_emb, h1]
  · have h0 : s.val = 0 := by omega
    rw [View.canon_cons_of_not_mem, ← hx 0 h0.symm, View.canon_cons_emb, h0]
    exact Rect.not_mem_set_of_axis _ _ (0 : Fin 3) 1 1 rfl rfl rfl (.inl (by show s.val < 1; omega))

theorem heads4_at (u : FVec Ideal S256x256 .f32) (i : Fin 256) (a : Fin 4) (d : Fin 64) :
    heads4 (F := Ideal) u (ix4 0 i a d) = u (ix2 i ⟨64 * a.val + d.val, by omega⟩) := by
  unfold heads4
  refine (shapeCast_apply _ _ _ (ix3 i a d) ?_).trans (shapeCast_apply u _ _ _ ?_)
  · rw [Shape.rowMajor_val_four, Shape.rowMajor_val_three]
    show (i.val * 4 + a.val) * 64 + d.val = ((0 * 256 + i.val) * 4 + a.val) * 64 + d.val
    omega
  · rw [Shape.rowMajor_val_three, Shape.rowMajor_val_two]
    show i.val * 256 + (64 * a.val + d.val) = (i.val * 4 + a.val) * 64 + d.val
    omega

section

variable (m : (ℓ : Loc nD τ sig) → Buf (Elt Ideal) ℓ) (c : Dev nD) (t : Fin cfg0.N)
  (X : Fin 32 → Fin 256 → Fin 1024 → EReal) (M : Fin 3072 → EReal) (W : Fin 1024 → Fin 2560 → EReal) (Gq Gk : Fin 64 → ℝ)
  (hx : ∀ s i j, m (c, main_arg0) (ix3 s i j) = X s i j)
  (hm : ∀ n, m (c, main_arg1) (ix3 0 0 n) = M n)
  (hw : ∀ k n, m (c, main_arg2) (ix3 0 k n) = W k n)
  (hq : ∀ d, m (c, main_arg3) (ix2 0 d) = ((Gq d : ℝ) : EReal))
  (hk : ∀ d, m (c, main_arg4) (ix2 0 d) = ((Gk d : ℝ) : EReal))

include hx hm in
theorem hI_at (s : Fin 2) (i : Fin 256) (j : Fin 1024) : hI (F := Ideal) m c t s.val (ix2 i j) = Spec.act (X (seqOf t s)) M i j :=
  hB_at _ _ (X (seqOf t s)) M s (fun i j => (iblk0 m c t s i j).trans (hx _ i j)) (fun n => (iblk1 m c t n).trans (hm n)) i j

include hx hm hw hk in
theorem k_at (s : Fin 2) (i : Fin 256) (a : Fin 4) (d : Fin 64) :
    (dats m 0 c).after 10 t (ix4 s i a d) = ((Spec.key (X (seqOf t s)) M W Gk i a d : ℝ) : EReal) := by
  rw [after10]
  refine (kv_canon _ s i a d).trans ((heads4_at _ i a d).trans ?_)
  exact keys_at _ _ _ _ (X (seqOf t s)) M W Gk (hI_at m c t X M hx hm s) (fun k n => (iblk2 m c t k n).trans (hw k n)) (iblk3 m c t)
    (fun n => (iblk5 m c t n).trans (hk _)) i a d

include hx hm hw in
theorem v_at (s : Fin 2) (i : Fin 256) (a : Fin 4) (d : Fin 64) :
    (dats m 0 c).after 11 t (ix4 s i a d) = Spec.pr (X (seqOf t s)) M W i (Spec.vI a d) := by
  rw [after11]
  refine (kv_canon _ s i a d).trans ((heads4_at _ i a d).trans ?_)
  refine (lanes_at _ _ (X (seqOf t s)) M W (hI_at m c t X M hx hm s) (fun k n => (iblk2 m c t k n).trans (hw k n)) 5 (by decide) i _).trans ?_
  exact (pr_congr _ M W i _ _ (by show 256 * 5 + (64 * a.val + d.val) = 1280 + 64 * a.val + d.val; omega))

include hx hm hw hq hk in
theorem gated_at (s : Fin 2) (i : Fin 256) (n : Fin 1024) :
    stackHeads (heads (F := Ideal) m c t s.val) (ix3 0 n i) * stackGates (gates (F := Ideal) m c t s.val) (ix3 0 i n)
      = Spec.gated (X (seqOf t s)) M W Gq Gk i n := by
  have hh := hI_at m c t X M hx hm s
  have hw' : ∀ k n, iblk m c 2 t (ix2 k n) = W k n := fun k n => (iblk2 m c t k n).trans (hw k n)
  have h1 := headT_at _ _ _ _ _ (X (seqOf t s)) M W Gq Gk hh hw' (iblk3 m c t) (fun n => (iblk4 m c t n).trans (hq _))
    (fun n => (iblk5 m c t n).trans (hk _)) ⟨n.val / 64, by omega⟩ ⟨n.val % 64, by omega⟩ i
  have h2 := gateGroup_at _ _ (lanes_at _ _ (X (seqOf t s)) M W hh hw' (6 + n.val / 256) (by omega)) i ⟨n.val % 256, by omega⟩
  have e : lanes (X (seqOf t s)) M W (6 + n.val / 256) (by omega) i ⟨n.val % 256, by omega⟩ = Spec.pr (X (seqOf t s)) M W i (Spec.gI n) :=
    pr_congr _ M W i _ _ (by show 256 * (6 + n.val / 256) + n.val % 256 = 1536 + n.val; omega)
  rw [e] at h2
  exact congrArg₂ (· * ·) h1 h2

include hx hm hw hq hk in
theorem y_at (s : Fin 2) (i : Fin 256) (j : Fin 1024) :
    (dats m 0 c).after 9 t (ix3 s i j)
      = Spec.lnorm (Spec.resid (X (seqOf t s) i) (fun j => M ⟨2048 + j.val, by omega⟩) (Spec.gated (X (seqOf t s)) M W Gq Gk i)
          (fun n j => m (c, main_arg5) (ix3 0 n j))) (fun k => m (c, main_arg6) (ix2 0 k)) (fun k => m (c, main_arg7) (ix2 0 k)) j := by
  rw [after9]
  refine (y_canon _ s i j).trans ((layerNorm_at _ _ _ i j).trans ?_)
  have h1 := resid_at (stackHeads (heads (F := Ideal) m c t s.val)) (stackGates (gates (F := Ideal) m c t s.val))
    (View.ld (iblk m c 0 t) (Rect.unit ![s.val % 2, 0, 0] ![1, 256, 1024] (inb_seq s.val))) (iblk m c 1 t) (iblk m c 6 t) (X (seqOf t s)) M
    (Spec.gated (X (seqOf t s)) M W Gq Gk) (fun i j => (ld_seq _ s i j).trans ((iblk0 m c t s i j).trans (hx _ i j)))
    (fun n => (iblk1 m c t n).trans (hm n)) (gated_at m c t X M W Gq Gk hx hm hw hq hk s) i
  have e6 : (fun n j => iblk m c 6 t (ix2 n j)) = fun n j => m (c, main_arg5) (ix3 0 n j) := funext fun n => funext fun j => iblk6 m c t n j
  have e7 : (fun k => iblk m c 7 t (ix2 0 k)) = fun k => m (c, main_arg6) (ix2 0 k) := funext fun n => iblk7 m c t n
  have e8 : (fun k => iblk m c 8 t (ix2 0 k)) = fun k => m (c, main_arg7) (ix2 0 k) := funext fun n => iblk8 m c t n
  rw [e6] at h1
  rw [e7, e8]
  exact congrArg (fun r => Spec.lnorm r _ _ j) (funext h1)

end

end Cert.KernelIdeal.Blk

end
-- ==== Proof.Arrays.lean ====
module

public import proofs.«01_k».proof.Proof.KernelOut

/-! The three result arrays after the run, on real inputs. -/

@[expose] public section

set_option maxRecDepth 16384

noncomputable section

namespace Cert.KernelIdeal.Blk

open Cert.KernelIdeal Cert.KernelIdeal.Gen Idealize.ShloMosaic Idealize.ShloMosaic.TcCoe Idealize.SL.Sem

theorem idx9 : ∀ t : Fin cfg0.N, win0_9.index t = ![t.val, 0, 0] := by decide +kernel
theorem idx10 : ∀ t : Fin cfg0.N, win0_10.index t = ![t.val, 0, 0, 0] := by decide +kernel
theorem idx11 : ∀ t : Fin cfg0.N, win0_11.index t = ![t.val, 0, 0, 0] := by decide +kernel

/-- Where element `y` of block `t` of the outputs lies in the array. -/
theorem emb9 (t : Fin cfg0.N) (y : S2x256x1024.Idx) : (win0_9.blk t).view.emb y = ix3 (seqOf t (y 0)) (y 1) (y 2) := by
  blk_ext [idx9]
  show _ = 2 * t.val + (y 0).val
  omega

theorem emb10 (t : Fin cfg0.N) (y : S2x256x4x64.Idx) : (win0_10.blk t).view.emb y = ix4 (seqOf t (y 0)) (y 1) (y 2) (y 3) := by
  blk_ext [idx10]
  show _ = 2 * t.val + (y 0).val
  omega

theorem emb11 (t : Fin cfg0.N) (y : S2x256x4x64.Idx) : (win0_11.blk t).view.emb y = ix4 (seqOf t (y 0)) (y 1) (y 2) (y 3) := by
  blk_ext [idx11]
  show _ = 2 * t.val + (y 0).val
  omega

variable (m : (ℓ : Loc nD τ sig) → Buf (Elt Ideal) ℓ) (c : Dev nD)
  (X : Fin 32 → Fin 256 → Fin 1024 → EReal) (M : Fin 3072 → EReal) (W : Fin 1024 → Fin 2560 → EReal) (Gq Gk : Fin 64 → ℝ)
  (hx : ∀ s i j, m (c, main_arg0) (ix3 s i j) = X s i j)
  (hm : ∀ n, m (c, main_arg1) (ix3 0 0 n) = M n)
  (hw : ∀ k n, m (c, main_arg2) (ix3 0 k n) = W k n)
  (hq : ∀ d, m (c, main_arg3) (ix2 0 d) = ((Gq d : ℝ) : EReal))
  (hk : ∀ d, m (c, main_arg4) (ix2 0 d) = ((Gk d : ℝ) : EReal))

include hx hm hw hk in
theorem arr10 : (dats m 0 c).arrAt 10 cfg0.N = fun i : S32x256x4x64.Idx => ((Spec.key (X (i 0)) M W Gk (i 1) (i 2) (i 3) : ℝ) : EReal) := by
  refine (dats m 0 c).arrAt_eq_of_covers 10 _ (by decide +kernel) fun t hf y => ?_
  have h := k_at m c t X M W Gk hx hm hw hk (y 0) (y 1) (y 2) (y 3)
  blk_simp
  refine (congrArg ((dats m 0 c).after 10 t) (ValueIdx.eq_ix4 y)).trans (h.trans ?_)
  exact (congrArg (fun i : S32x256x4x64.Idx => ((Spec.key (X (i 0)) M W Gk (i 1) (i 2) (i 3) : ℝ) : EReal)) (emb10 t y)).symm

include hx hm hw in
theorem arr11 : (dats m 0 c).arrAt 11 cfg0.N = fun i : S32x256x4x64.Idx => Spec.pr (X (i 0)) M W (i 1) (Spec.vI (i 2) (i 3)) := by
  refine (dats m 0 c).arrAt_eq_of_covers 11 _ (by decide +kernel) fun t hf y => ?_
  have h := v_at m c t X M W hx hm hw (y 0) (y 1) (y 2) (y 3)
  blk_simp
  refine (congrArg ((dats m 0 c).after 11 t) (ValueIdx.eq_ix4 y)).trans (h.trans ?_)
  exact (congrArg (fun i : S32x256x4x64.Idx => Spec.pr (X (i 0)) M W (i 1) (Spec.vI (i 2) (i 3))) (emb11 t y)).symm

/-- The layer's output as a function of real inputs and of the other weights. -/
def yArr (wo : Fin 1024 → Fin 1024 → EReal) (lg lb : Fin 1024 → EReal) (i : S32x256x1024.Idx) : EReal :=
  Spec.lnorm (Spec.resid (X (i 0) (i 1)) (fun j => M ⟨2048 + j.val, Nat.add_lt_add_left j.isLt 2048⟩) (Spec.gated (X (i 0)) M W Gq Gk (i 1)) wo) lg lb (i 2)

include hx hm hw hq hk in
theorem arr9 : (dats m 0 c).arrAt 9 cfg0.N
    = yArr X M W Gq Gk (fun n j => m (c, main_arg5) (ix3 0 n j)) (fun k => m (c, main_arg6) (ix2 0 k)) (fun k => m (c, main_arg7) (ix2 0 k)) := by
  refine (dats m 0 c).arrAt_eq_of_covers 9 _ (by decide +kernel) fun t hf y => ?_
  have h := y_at m c t X M W Gq Gk hx hm hw hq hk (y 0) (y 1) (y 2)
  blk_simp
  refine (congrArg ((dats m 0 c).after 9 t) (ValueIdx.eq_ix3 y)).trans (h.trans ?_)
  exact (congrArg (yArr X M W Gq Gk (fun n j => m (c, main_arg5) (ix3 0 n j)) (fun k => m (c, main_arg6) (ix2 0 k)) (fun k => m (c, main_arg7) (ix2 0 k))) (emb9 t y)).symm

end Cert.KernelIdeal.Blk

end
-- ==== Proof.RefAt.lean ====
module

public import proofs.«01_k».proof.Proof.Norm
public import proofs.«01_k».proof.Proof.Gen.ReferenceIdeal.Run

/-! The reference's operations at an index, on real inputs. -/

@[expose] public section

set_option maxRecDepth 16384

noncomputable section

namespace Cert.ReferenceIdeal.At

open Cert.ReferenceIdeal Cert.ReferenceIdeal.Gen Cert.ReferenceIdeal.Value Idealize.ShloMosaic Idealize.ShloMosaic.TcCoe Idealize.SL.Sem

/-- The projection of the modulated activations. -/
def projR (x : FVec Ideal S32x256x1024 .f32) (r : FVec Ideal S3072 .f32) (w : FVec Ideal S1x1024x2560 .f32) : FVec Ideal S32x256x2560 .f32 :=
  Host.dotGeneral dot_S32x256x1024_S1024x2560_S32x256x2560_2_0_01_1_n_n none (addf (mulf x (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (extractStridedSlice S1024 ![1024] r slices_S3072_S1024_1024))))) (broadcastInDim S32x256x1024 ![0, 1, 2] bcast_S1x1x1024_S32x256x1024_0_1_2 (broadcastInDim S1x1x1024 ![2] bcast_S1024_S1x1x1024_2 (extractStridedSlice S1024 ![0] r slices_S3072_S1024_0)))) (shapeCast _ w shapeCasts_S1x1024x2560_S1024x2560)

/-- The keys' RMS norm. -/
def normK (u : FVec Ideal S32x256x4x64 .f32) (g : FVec Ideal S1x64 .f32) : FVec Ideal S32x256x4x64 .f32 :=
  mulf (mulf u (broadcastInDim S32x256x4x64 ![0, 1, 2, 3] bcast_S32x256x4x1_S32x256x4x64_0_1_2_3 (Host.rsqrt (addf (Host.divf (broadcastInDim S32x256x4x1 ![0, 1, 2] bcast_S32x256x4_S32x256x4x1_0_1_2 (Host.reduceAdd (mulf u u) (constant S_ .f32 0x00000000#32) reducesTo_S32x256x4x64_S32x256x4_d3 h_S_)) (broadcastInDim S32x256x4x1 ![] bcast_S_S32x256x4x1 (constant S_ .f32 0x42800000#32))) (broadcastInDim S32x256x4x1 ![] bcast_S_S32x256x4x1 (constant S_ .f32 0x358637BD#32)))))) (broadcastInDim S32x256x4x64 ![0, 1, 2, 3] bcast_S1x1x1x64_S32x256x4x64_0_1_2_3 (broadcastInDim S1x1x1x64 ![3] bcast_S64_S1x1x1x64_3 (shapeCast _ g shapeCasts_S1x64_S64)))

/-- The queries' RMS norm. -/
def normQ (u : FVec Ideal S32x256x16x64 .f32) (g : FVec Ideal S1x64 .f32) : FVec Ideal S32x256x16x64 .f32 :=
  mulf (mulf u (broadcastInDim S32x256x16x64 ![0, 1, 2, 3] bcast_S32x256x16x1_S32x256x16x64_0_1_2_3 (Host.rsqrt (addf (Host.divf (broadcastInDim S32x256x16x1 ![0, 1, 2] bcast_S32x256x16_S32x256x16x1_0_1_2 (Host.reduceAdd (mulf u u) (constant S_ .f32 0x00000000#32) reducesTo_S32x256x16x64_S32x256x16_d3 h_S_)) (broadcastInDim S32x256x16x1 ![] bcast_S_S32x256x16x1 (constant S_ .f32 0x42800000#32))) (broadcastInDim S32x256x16x1 ![] bcast_S_S32x256x16x1 (constant S_ .f32 0x358637BD#32)))))) (broadcastInDim S32x256x16x64 ![0, 1, 2, 3] bcast_S1x1x1x64_S32x256x16x64_0_1_2_3 (broadcastInDim S1x1x1x64 ![3] bcast_S64_S1x1x1x64_3 (shapeCast _ g shapeCasts_S1x64_S64)))

/-- The scaled scores. -/
def scoreR (k : FVec Ideal S32x256x4x64 .f32) (q : FVec Ideal S32x256x16x64 .f32) : FVec Ideal S32x4x4x256x256 .f32 :=
  mulf (transpose S32x4x4x256x256 [0, 1, 4, 3, 2] (Host.dotGeneral dot_S32x256x4x64_S32x256x4x4x64_S32x4x256x256x4_3_4_1_13_02_02 none k (shapeCast _ q shapeCasts_S32x256x16x64_S32x256x4x4x64)) transposes_S32x4x256x256x4_S32x4x4x256x256_0_1_4_3_2) (broadcastInDim S32x4x4x256x256 ![] bcast_S_S32x4x4x256x256 (constant S_ .f32 0x3E000000#32))

/-- The scores less `y`, exponentiated. -/
def shiftR (s : FVec Ideal S32x4x4x256x256 .f32) (y : FVec Ideal S32x4x4x256 .f32) : FVec Ideal S32x4x4x256x256 .f32 :=
  Host.exp (subf s (broadcastInDim S32x4x4x256x256 ![0, 1, 2, 3, 4] bcast_S32x4x4x256x1_S32x4x4x256x256_0_1_2_3_4 (broadcastInDim S32x4x4x256x1 ![0, 1, 2, 3] bcast_S32x4x4x256_S32x4x4x256x1_0_1_2_3 (maximumf (broadcastInDim S32x4x4x256 ![] bcast_S_S32x4x4x256 (constant S_ .f32 0xFF800000#32)) y))))

/-- The scores less their largest, exponentiated. -/
def expR (s : FVec Ideal S32x4x4x256x256 .f32) : FVec Ideal S32x4x4x256x256 .f32 :=
  shiftR s (Host.reduce FloatOps.maximumf s (constant S_ .f32 0xFF800000#32) reducesTo_S32x4x4x256x256_S32x4x4x256_d4 h_S_)

/-- The softmax's weights. -/
def weightR (e : FVec Ideal S32x4x4x256x256 .f32) : FVec Ideal S32x4x4x256x256 .f32 :=
  Host.divf e (broadcastInDim S32x4x4x256x256 ![0, 1, 2, 3, 4] bcast_S32x4x4x256x1_S32x4x4x256x256_0_1_2_3_4 (broadcastInDim S32x4x4x256x1 ![0, 1, 2, 3] bcast_S32x4x4x256_S32x4x4x256x1_0_1_2_3 (Host.reduceAdd e (constant S_ .f32 0x00000000#32) reducesTo_S32x4x4x256x256_S32x4x4x256_d4 h_S_)))

/-- The heads' outputs. -/
def headsR (v : FVec Ideal S32x256x4x64 .f32) (p : FVec Ideal S32x4x4x256x256 .f32) : FVec Ideal S32x256x4x4x64 .f32 :=
  transpose S32x256x4x4x64 [0, 4, 1, 3, 2] (Host.dotGeneral dot_S32x256x4x64_S32x4x4x256x256_S32x4x64x4x256_1_4_3_23_02_01 none v p) transposes_S32x4x64x4x256_S32x256x4x4x64_0_4_1_3_2

/-- The heads' outputs side by side. -/
def flatR (u : FVec Ideal S32x256x4x4x64 .f32) : FVec Ideal S32x256x1024 .f32 := shapeCast _ u shapeCasts_S32x256x4x4x64_S32x256x1024

/-- The gate's SiLU. -/
def gateR (g : FVec Ideal S32x256x1024 .f32) : FVec Ideal S32x256x1024 .f32 :=
  mulf g (Host.divf (broadcastInDim S32x256x1024 ![] bcast_S_S32x256x1024 (constant S_ .f32 0x3F800000#32)) (addf (broadcastInDim S32x256x1024 ![] bcast_S_S32x256x1024 (constant S_ .f32 0x3F800000#32)) (Host.exp (Host.negf g))))

/-- The residual plus the gated branch. -/
def residR (x : FVec Ideal S32x256x1024 .f32) (r : FVec Ideal S3072 .f32) (u : FVec Ideal S32x256x1024 .f32) (wo : FVec Ideal S1x1024x1024 .f32) : FVec Ideal S32x256x1024 .f32 :=
  addf (mulf (broadcastInDim S32x256x1024 ![] bcast_S_S32x256x1024 (constant S_ .f32 0x3FB504F3#32)) x) (mulf (broadcastInDim S32x256x1024 ![0, 1, 2] bcast_S1x1x1024_S32x256x1024_0_1_2 (broadcastInDim S1x1x1024 ![2] bcast_S1024_S1x1x1024_2 (extractStridedSlice S1024 ![2048] r slices_S3072_S1024_2048))) (Host.dotGeneral dot_S32x256x1024_S1024x1024_S32x256x1024_2_0_01_1_n_n none u (shapeCast _ wo shapeCasts_S1x1024x1024_S1024x1024)))

/-- The rows' means. -/
def meanR (y : FVec Ideal S32x256x1024 .f32) : FVec Ideal S32x256x1 .f32 :=
  Host.divf (broadcastInDim S32x256x1 ![0, 1] bcast_S32x256_S32x256x1_0_1 (Host.reduceAdd y (constant S_ .f32 0x00000000#32) reducesTo_S32x256x1024_S32x256_d2 h_S_)) (broadcastInDim S32x256x1 ![] bcast_S_S32x256x1 (constant S_ .f32 0x44800000#32))

/-- The rows less their means. -/
def centredR (y : FVec Ideal S32x256x1024 .f32) (mu : FVec Ideal S32x256x1 .f32) : FVec Ideal S32x256x1024 .f32 :=
  subf y (broadcastInDim S32x256x1024 ![0, 1, 2] bcast_S32x256x1_S32x256x1024_0_1_2 mu)

/-- The centred rows over the root of their variance, with gain and bias. -/
def lnormR (v : FVec Ideal S32x256x1024 .f32) (var : FVec Ideal S32x256x1 .f32) (lg lb : FVec Ideal S2x1024 .f32) : FVec Ideal S32x256x1024 .f32 :=
  addf (mulf (mulf v (broadcastInDim S32x256x1024 ![0, 1, 2] bcast_S32x256x1_S32x256x1024_0_1_2 (Host.rsqrt (addf var (broadcastInDim S32x256x1 ![] bcast_S_S32x256x1 (constant S_ .f32 0x3727C5AC#32)))))) (broadcastInDim S32x256x1024 ![0, 1, 2] bcast_S1x1x1024_S32x256x1024_0_1_2 (broadcastInDim S1x1x1024 ![2] bcast_S1024_S1x1x1024_2 (shapeCast _ (extractStridedSlice S1x1024 ![0, 0] lg slices_S2x1024_S1x1024_0_0) shapeCasts_S1x1024_S1024)))) (broadcastInDim S32x256x1024 ![0, 1, 2] bcast_S1x1x1024_S32x256x1024_0_1_2 (broadcastInDim S1x1x1024 ![2] bcast_S1024_S1x1x1024_2 (shapeCast _ (extractStridedSlice S1x1024 ![0, 0] lb slices_S2x1024_S1x1024_0_0) shapeCasts_S1x1024_S1024)))

theorem projR_at (x : FVec Ideal S32x256x1024 .f32) (r : FVec Ideal S3072 .f32) (w : FVec Ideal S1x1024x2560 .f32) (s : Fin 32)
    (X : Fin 256 → Fin 1024 → EReal) (M : Fin 3072 → EReal) (W : Fin 1024 → Fin 2560 → EReal) (hx : ∀ i j, x (ix3 s i j) = X i j)
    (hm : ∀ n, r (ix1 n) = M n) (hw : ∀ k n, w (ix3 0 k n) = W k n) (i : Fin 256) (n : Fin 2560) :
    projR x r w (ix3 s i n) = Spec.pr X M W i n := by
  unfold projR
  pointwise
  simp only [hx, hm, hw, Consts.c1, EReal.coe_one]
  rfl

theorem normK_at (u : FVec Ideal S32x256x4x64 .f32) (g : FVec Ideal S1x64 .f32) (U : Fin 64 → EReal) (G : Fin 64 → ℝ) (s : Fin 32) (t : Fin 256) (h : Fin 4)
    (hu : ∀ d, u (ix4 s t h d) = U d) (hg : ∀ d, g (ix2 0 d) = ((G d : ℝ) : EReal)) (d : Fin 64) :
    normK u g (ix4 s t h d) = ((Spec.norm U G d : ℝ) : EReal) := by
  unfold normK
  pointwise
  simp only [hu, hg, Consts.c64, Consts.ceps]
  rw [Ideal.div_coe (by norm_num), Spec.coe_norm]
  rfl

theorem normQ_at (u : FVec Ideal S32x256x16x64 .f32) (g : FVec Ideal S1x64 .f32) (U : Fin 64 → EReal) (G : Fin 64 → ℝ) (s : Fin 32) (t : Fin 256) (h : Fin 16)
    (hu : ∀ d, u (ix4 s t h d) = U d) (hg : ∀ d, g (ix2 0 d) = ((G d : ℝ) : EReal)) (d : Fin 64) :
    normQ u g (ix4 s t h d) = ((Spec.norm U G d : ℝ) : EReal) := by
  unfold normQ
  pointwise
  simp only [hu, hg, Consts.c64, Consts.ceps]
  rw [Ideal.div_coe (by norm_num), Spec.coe_norm]
  rfl

theorem scoreR_at (k : FVec Ideal S32x256x4x64 .f32) (q : FVec Ideal S32x256x16x64 .f32) (s : Fin 32) (a b : Fin 4) (i t : Fin 256) :
    scoreR k q (ix5 s a b i t) = (∑ d, k (ix4 s t a d) * q (ix4 s i ⟨4 * a.val + b.val, by omega⟩ d)) * (((1 : ℝ) / 8 : ℝ) : EReal) := by
  unfold scoreR
  pointwise
  rw [Consts.c8th]
  refine congrArg (· * _) (Finset.sum_congr rfl fun d _ => ?_)
  refine congrArg (fun a => _ * q (ix4 s i a d)) (Fin.ext ?_)
  show a.val * 4 + b.val = 4 * a.val + b.val
  omega

theorem maxR_at (z : FVec Ideal S32x4x4x256x256 .f32) (s : Fin 32) (a b : Fin 4) (i : Fin 256) :
    Host.reduce FloatOps.maximumf z (constant S_ .f32 0xFF800000#32) reducesTo_S32x4x4x256x256_S32x4x4x256_d4 h_S_ (ix4 s a b i)
      = Finset.univ.fold max (Ideal.ofBits .f32 0xFF800000#32) fun t => z (ix5 s a b i t) := by
  pointwise

theorem shiftR_at (z : FVec Ideal S32x4x4x256x256 .f32) (y : FVec Ideal S32x4x4x256 .f32) (s : Fin 32) (a b : Fin 4) (i t : Fin 256) :
    shiftR z y (ix5 s a b i t) = Ideal.exp (z (ix5 s a b i t) - max (Ideal.ofBits .f32 0xFF800000#32) (y (ix4 s a b i))) := by
  unfold shiftR
  pointwise

theorem expR_at (z : FVec Ideal S32x4x4x256x256 .f32) (s : Fin 32) (a b : Fin 4) (i : Fin 256)
    (Z : Fin 256 → ℝ) (hz : ∀ t, z (ix5 s a b i t) = ((Z t : ℝ) : EReal)) :
    ∃ m : ℝ, ∀ t, expR z (ix5 s a b i t) = ((Real.exp (Z t - m) : ℝ) : EReal) := by
  obtain ⟨m, hm⟩ := KernelIdeal.Blk.fold_max_real Finset.univ Finset.univ_nonempty (fun t => z (ix5 s a b i t)) fun t => ⟨_, hz t⟩
  refine ⟨m, fun t => ?_⟩
  unfold expR
  rw [shiftR_at, maxR_at, Consts.cninf, hm, hz, max_eq_right bot_le, ← EReal.coe_sub, Ideal.exp_coe]

theorem weightR_at (e : FVec Ideal S32x4x4x256x256 .f32) (s : Fin 32) (a b : Fin 4) (i t : Fin 256) :
    weightR e (ix5 s a b i t) = Ideal.div (e (ix5 s a b i t)) (∑ t, e (ix5 s a b i t)) := by
  unfold weightR
  pointwise

theorem headsR_at (v : FVec Ideal S32x256x4x64 .f32) (p : FVec Ideal S32x4x4x256x256 .f32) (s : Fin 32) (i : Fin 256) (a b : Fin 4) (d : Fin 64) :
    headsR v p (ix5 s i a b d) = ∑ t, v (ix4 s t a d) * p (ix5 s a b i t) := by
  unfold headsR
  pointwise

theorem flatR_at (u : FVec Ideal S32x256x4x4x64 .f32) (s : Fin 32) (i : Fin 256) (n : Fin 1024) :
    flatR u (ix3 s i n) = u (ix5 s i ⟨n.val / 256, by omega⟩ ⟨n.val / 64 % 4, by omega⟩ ⟨n.val % 64, by omega⟩) := by
  unfold flatR
  refine shapeCast_apply u _ _ _ ?_
  rw [Shape.rowMajor_val_five, Shape.rowMajor_val_three]
  show (((s.val * 256 + i.val) * 4 + n.val / 256) * 4 + n.val / 64 % 4) * 64 + n.val % 64 = (s.val * 256 + i.val) * 1024 + n.val
  omega

theorem gateR_at (g : FVec Ideal S32x256x1024 .f32) (s : Fin 32) (i : Fin 256) (n : Fin 1024) (r : EReal) (hg : g (ix3 s i n) = r) :
    gateR g (ix3 s i n) = Spec.silu r := by
  unfold gateR
  pointwise
  rw [hg]
  rfl

theorem residR_at (x : FVec Ideal S32x256x1024 .f32) (r : FVec Ideal S3072 .f32) (u : FVec Ideal S32x256x1024 .f32) (wo : FVec Ideal S1x1024x1024 .f32)
    (s : Fin 32) (X : Fin 256 → Fin 1024 → EReal) (M : Fin 3072 → EReal) (U : Fin 256 → Fin 1024 → EReal) (hx : ∀ i j, x (ix3 s i j) = X i j)
    (hm : ∀ n, r (ix1 n) = M n) (hu : ∀ i n, u (ix3 s i n) = U i n) (i : Fin 256) (j : Fin 1024) :
    residR x r u wo (ix3 s i j) = Spec.resid (X i) (fun j => M ⟨2048 + j.val, by omega⟩) (U i) (fun n j => wo (ix3 0 n j)) j := by
  unfold Spec.resid
  simp only [← hu, ← hx, ← hm]
  unfold residR
  pointwise

theorem meanR_at (y : FVec Ideal S32x256x1024 .f32) (s : Fin 32) (i : Fin 256) : meanR y (ix3 s i 0) = Spec.mean fun k => y (ix3 s i k) := by
  unfold meanR Spec.mean
  pointwise

theorem centredR_at (y : FVec Ideal S32x256x1024 .f32) (mu : FVec Ideal S32x256x1 .f32) (s : Fin 32) (i : Fin 256) (j : Fin 1024) :
    centredR y mu (ix3 s i j) = y (ix3 s i j) - mu (ix3 s i 0) := by
  unfold centredR
  pointwise

theorem lnormR_at (y : FVec Ideal S32x256x1024 .f32) (lg lb : FVec Ideal S2x1024 .f32) (s : Fin 32) (i : Fin 256) (j : Fin 1024) :
    lnormR (centredR y (meanR y)) (meanR (mulf (centredR y (meanR y)) (centredR y (meanR y)))) lg lb (ix3 s i j)
      = Spec.lnorm (fun k => y (ix3 s i k)) (fun k => lg (ix2 0 k)) (fun k => lb (ix2 0 k)) j := by
  have hm := meanR_at (mulf (centredR y (meanR y)) (centredR y (meanR y))) s i
  have hd : ∀ k, mulf (centredR y (meanR y)) (centredR y (meanR y)) (ix3 s i k) = centredR y (meanR y) (ix3 s i k) * centredR y (meanR y) (ix3 s i k) := fun k => rfl
  have hc : ∀ k, centredR y (meanR y) (ix3 s i k) = y (ix3 s i k) - Spec.mean fun k => y (ix3 s i k) := fun k => by rw [centredR_at, meanR_at]
  simp only [hd, hc] at hm
  unfold Spec.lnorm
  rw [← hm, ← hc]
  generalize meanR (mulf _ _) = w
  generalize centredR y (meanR y) = v
  unfold lnormR
  pointwise

end Cert.ReferenceIdeal.At

end
-- ==== Proof.RefOut.lean ====
module

public import proofs.«01_k».proof.Proof.RefAt

/-! The reference's three results at an index, on real inputs. -/

@[expose] public section

set_option maxRecDepth 16384

noncomputable section

namespace Cert.ReferenceIdeal.At

open Cert.ReferenceIdeal Cert.ReferenceIdeal.Gen Cert.ReferenceIdeal.Value Idealize.ShloMosaic Idealize.ShloMosaic.TcCoe Idealize.SL.Sem

theorem row_at (a : FVec Ideal S2x8x3072 .f32) (n : Fin 3072) :
    shapeCast S3072 (extractStridedSlice S1x1x3072 ![0, 0, 0] a slices_S2x8x3072_S1x1x3072_0_0_0) shapeCasts_S1x1x3072_S3072 (ix1 n) = a (ix3 0 0 n) := by
  pointwise

theorem split_q (u : FVec Ideal S32x256x2560 .f32) (s : Fin 32) (i : Fin 256) (h : Fin 16) (d : Fin 64) :
    shapeCast S32x256x16x64 (extractStridedSlice S32x256x1024 ![0, 0, 0] u slices_S32x256x2560_S32x256x1024_0_0_0) shapeCasts_S32x256x1024_S32x256x16x64 (ix4 s i h d)
      = u (ix3 s i (Spec.qI h d)) := by
  refine (shapeCast_apply _ _ _ (ix3 s i ⟨64 * h.val + d.val, by omega⟩) ?_).trans ?_
  · rw [Shape.rowMajor_val_four, Shape.rowMajor_val_three]
    show (s.val * 256 + i.val) * 1024 + (64 * h.val + d.val) = ((s.val * 256 + i.val) * 16 + h.val) * 64 + d.val
    omega
  · refine congrArg u (funext fun a => Fin.ext ?_)
    fin_cases a
    · exact Nat.zero_add _
    · exact Nat.zero_add _
    · exact Nat.zero_add _

theorem split_k (u : FVec Ideal S32x256x2560 .f32) (s : Fin 32) (i : Fin 256) (h : Fin 4) (d : Fin 64) :
    shapeCast S32x256x4x64 (extractStridedSlice S32x256x256 ![0, 0, 1024] u slices_S32x256x2560_S32x256x256_0_0_1024) shapeCasts_S32x256x256_S32x256x4x64 (ix4 s i h d)
      = u (ix3 s i (Spec.kI h d)) := by
  refine (shapeCast_apply _ _ _ (ix3 s i ⟨64 * h.val + d.val, by omega⟩) ?_).trans ?_
  · rw [Shape.rowMajor_val_four, Shape.rowMajor_val_three]
    show (s.val * 256 + i.val) * 256 + (64 * h.val + d.val) = ((s.val * 256 + i.val) * 4 + h.val) * 64 + d.val
    omega
  · refine congrArg u (funext fun a => Fin.ext ?_)
    fin_cases a
    · exact Nat.zero_add _
    · exact Nat.zero_add _
    · exact (Nat.add_assoc _ _ _).symm

theorem split_v (u : FVec Ideal S32x256x2560 .f32) (s : Fin 32) (i : Fin 256) (h : Fin 4) (d : Fin 64) :
    shapeCast S32x256x4x64 (extractStridedSlice S32x256x256 ![0, 0, 1280] u slices_S32x256x2560_S32x256x256_0_0_1280) shapeCasts_S32x256x256_S32x256x4x64 (ix4 s i h d)
      = u (ix3 s i (Spec.vI h d)) := by
  refine (shapeCast_apply _ _ _ (ix3 s i ⟨64 * h.val + d.val, by omega⟩) ?_).trans ?_
  · rw [Shape.rowMajor_val_four, Shape.rowMajor_val_three]
    show (s.val * 256 + i.val) * 256 + (64 * h.val + d.val) = ((s.val * 256 + i.val) * 4 + h.val) * 64 + d.val
    omega
  · refine congrArg u (funext fun a => Fin.ext ?_)
    fin_cases a
    · exact Nat.zero_add _
    · exact Nat.zero_add _
    · exact (Nat.add_assoc _ _ _).symm

theorem split_g (u : FVec Ideal S32x256x2560 .f32) (s : Fin 32) (i : Fin 256) (n : Fin 1024) :
    extractStridedSlice S32x256x1024 ![0, 0, 1536] u slices_S32x256x2560_S32x256x1024_0_0_1536 (ix3 s i n) = u (ix3 s i (Spec.gI n)) := by
  refine congrArg u (funext fun a => Fin.ext ?_)
  fin_cases a
  · exact Nat.zero_add _
  · exact Nat.zero_add _
  · rfl

section

variable (V : Valuation τ sig (Elt Ideal)) (X : Fin 32 → Fin 256 → Fin 1024 → EReal) (M : Fin 3072 → EReal) (W : Fin 1024 → Fin 2560 → EReal) (Gq Gk : Fin 64 → ℝ)
  (hx : ∀ s i j, (V (Proc.devRef .tc main_arg0) : FVec Ideal S32x256x1024 .f32) (ix3 s i j) = X s i j)
  (hm : ∀ n, (V (Proc.devRef .tc main_arg1) : FVec Ideal S2x8x3072 .f32) (ix3 0 0 n) = M n)
  (hw : ∀ k n, (V (Proc.devRef .tc main_arg2) : FVec Ideal S1x1024x2560 .f32) (ix3 0 k n) = W k n)
  (hq : ∀ d, (V (Proc.devRef .tc main_arg3) : FVec Ideal S1x64 .f32) (ix2 0 d) = ((Gq d : ℝ) : EReal))
  (hk : ∀ d, (V (Proc.devRef .tc main_arg4) : FVec Ideal S1x64 .f32) (ix2 0 d) = ((Gk d : ℝ) : EReal))

include hm in
theorem v1_at (n : Fin 3072) : (res_main_v1 (F := Ideal) V : FVec Ideal S3072 .f32) (ix1 n) = M n :=
  (row_at (V (Proc.devRef .tc main_arg1)) n).trans (hm n)

include hx hm hw in
theorem v14_at (s : Fin 32) (i : Fin 256) (n : Fin 2560) :
    (res_main_v14 (F := Ideal) V : FVec Ideal S32x256x2560 .f32) (ix3 s i n) = Spec.pr (X s) M W i n :=
  projR_at (V (Proc.devRef .tc main_arg0)) (res_main_v1 V) (V (Proc.devRef .tc main_arg2)) s (X s) M W (hx s) (v1_at V M hm) hw i n

include hx hm hw in
theorem v_at (s : Fin 32) (t : Fin 256) (h : Fin 4) (d : Fin 64) :
    (val3 (F := Ideal) V (Proc.devRef .tc main_v49) : FVec Ideal S32x256x4x64 .f32) (ix4 s t h d) = Spec.pr (X s) M W t (Spec.vI h d) := by
  rw [val3_main_v49]
  exact (split_v (res_main_v14 V) s t h d).trans (v14_at V X M W hx hm hw s t _)

include hx hm hw hk in
theorem k_at (s : Fin 32) (t : Fin 256) (h : Fin 4) (d : Fin 64) :
    normK (res_main_v34 (F := Ideal) V) (V (Proc.devRef .tc main_arg4)) (ix4 s t h d) = ((Spec.key (X s) M W Gk t h d : ℝ) : EReal) :=
  normK_at _ _ (fun d => Spec.pr (X s) M W t (Spec.kI h d)) Gk s t h
    (fun d => (split_k (res_main_v14 V) s t h d).trans (v14_at V X M W hx hm hw s t _)) hk d

include hx hm hw hq in
theorem q_at (s : Fin 32) (t : Fin 256) (h : Fin 16) (d : Fin 64) :
    normQ (res_main_v19 (F := Ideal) V) (V (Proc.devRef .tc main_arg3)) (ix4 s t h d) = ((Spec.qry (X s) M W Gq t h d : ℝ) : EReal) :=
  normQ_at _ _ (fun d => Spec.pr (X s) M W t (Spec.qI h d)) Gq s t h
    (fun d => (split_q (res_main_v14 V) s t h d).trans (v14_at V X M W hx hm hw s t _)) hq d

include hx hm hw hq hk in
theorem v54_at (s : Fin 32) (a b : Fin 4) (i t : Fin 256) :
    (res_main_v54 (F := Ideal) V : FVec Ideal S32x4x4x256x256 .f32) (ix5 s a b i t)
      = ((Spec.score (X s) M W Gq Gk i ⟨4 * a.val + b.val, by omega⟩ t / 8 : ℝ) : EReal) := by
  refine (scoreR_at (normK (res_main_v34 V) (V (Proc.devRef .tc main_arg4))) (normQ (res_main_v19 V) (V (Proc.devRef .tc main_arg3))) s a b i t).trans ?_
  have hkv : Spec.kvOf ⟨4 * a.val + b.val, by omega⟩ = a := Fin.ext (by show (4 * a.val + b.val) / 4 = a.val; omega)
  simp only [k_at V X M W Gk hx hm hw hk, q_at V X M W Gq hx hm hw hq, ← EReal.coe_mul, ← Spec.coe_sum]
  refine congrArg _ ?_
  unfold Spec.score
  rw [hkv]
  ring

include hx hm hw hq hk in
theorem heads_at (s : Fin 32) (i : Fin 256) (a b : Fin 4) (d : Fin 64) :
    headsR (shapeCast S32x256x4x64 (extractStridedSlice S32x256x256 ![0, 0, 1280] (res_main_v14 (F := Ideal) V) slices_S32x256x2560_S32x256x256_0_0_1280) shapeCasts_S32x256x256_S32x256x4x64)
      (weightR (res_main_v61 (F := Ideal) V)) (ix5 s i a b d) = Spec.head (X s) M W Gq Gk i ⟨4 * a.val + b.val, by omega⟩ d := by
  have hkv : Spec.kvOf ⟨4 * a.val + b.val, by omega⟩ = a := Fin.ext (by show (4 * a.val + b.val) / 4 = a.val; omega)
  obtain ⟨m, he⟩ := expR_at (res_main_v54 V) s a b i _ (v54_at V X M W Gq Gk hx hm hw hq hk s a b i)
  have he' : ∀ t, (res_main_v61 (F := Ideal) V : FVec Ideal S32x4x4x256x256 .f32) (ix5 s a b i t) = _ := he
  have hpos : 0 < ∑ t, Real.exp (Spec.score (X s) M W Gq Gk i ⟨4 * a.val + b.val, by omega⟩ t / 8 - m) :=
    Finset.sum_pos (fun t _ => Real.exp_pos _) Finset.univ_nonempty
  rw [headsR_at]
  unfold Spec.head
  rw [hkv]
  refine Finset.sum_congr rfl fun t _ => ?_
  rw [split_v, v14_at V X M W hx hm hw, weightR_at]
  simp only [he', ← Spec.coe_sum]
  rw [Ideal.div_coe hpos.ne', ← EReal.coe_mul, mul_one_div, Spec.soft_shift]

/-- The gated heads as the reference computes them. -/
def gatedR : FVec Ideal S32x256x1024 .f32 :=
  mulf (flatR (headsR (shapeCast S32x256x4x64 (extractStridedSlice S32x256x256 ![0, 0, 1280] (res_main_v14 (F := Ideal) V) slices_S32x256x2560_S32x256x256_0_0_1280) shapeCasts_S32x256x256_S32x256x4x64)
      (weightR (res_main_v61 (F := Ideal) V)))) (gateR (res_main_v18 V))

include hx hm hw hq hk in
theorem gated_at (s : Fin 32) (i : Fin 256) (n : Fin 1024) : gatedR V (ix3 s i n) = Spec.gated (X s) M W Gq Gk i n := by
  have h1 := gateR_at (res_main_v18 V) s i n _ ((split_g (res_main_v14 V) s i n).trans (v14_at V X M W hx hm hw s i _))
  have h2 := heads_at V X M W Gq Gk hx hm hw hq hk s i ⟨n.val / 256, by omega⟩ ⟨n.val / 64 % 4, by omega⟩ ⟨n.val % 64, by omega⟩
  unfold Spec.gated
  refine (congrArg₂ (· * ·) ((flatR_at _ s i n).trans h2) h1).trans ?_
  refine congrArg₂ (· * ·) ?_ rfl
  refine congrArg (fun h => Spec.head (X s) M W Gq Gk i h _) (Fin.ext ?_)
  show 4 * (n.val / 256) + n.val / 64 % 4 = n.val / 64
  omega

include hx hm hw hq hk in
theorem y_at (s : Fin 32) (i : Fin 256) (j : Fin 1024) :
    (val3 (F := Ideal) V (Proc.devRef .tc main_v106) : FVec Ideal S32x256x1024 .f32) (ix3 s i j)
      = Spec.lnorm (Spec.resid (X s i) (fun j => M ⟨2048 + j.val, by omega⟩) (Spec.gated (X s) M W Gq Gk i)
          (fun n j => (V (Proc.devRef .tc main_arg5) : FVec Ideal S1x1024x1024 .f32) (ix3 0 n j)))
        (fun k => (V (Proc.devRef .tc main_arg6) : FVec Ideal S2x1024 .f32) (ix2 0 k))
        (fun k => (V (Proc.devRef .tc main_arg7) : FVec Ideal S2x1024 .f32) (ix2 0 k)) j := by
  rw [val3_main_v106]
  refine (lnormR_at (res_main_v78 V) (V (Proc.devRef .tc main_arg6)) (V (Proc.devRef .tc main_arg7)) s i j).trans ?_
  refine congrArg (fun r => Spec.lnorm r _ _ j) (funext fun k => ?_)
  exact residR_at (V (Proc.devRef .tc main_arg0)) (res_main_v1 V) (gatedR V) (V (Proc.devRef .tc main_arg5)) s (X s) M (Spec.gated (X s) M W Gq Gk)
    (hx s) (v1_at V M hm) (gated_at V X M W Gq Gk hx hm hw hq hk s) i k

end

end Cert.ReferenceIdeal.At

end
-- ==== Proof.Claims.lean ====
module

public import proofs.«01_k».proof.Proof.Arrays
public import proofs.«01_k».proof.Proof.RefOut
public import proofs.«01_k».proof.Defs
public import proofs.«01_k».proof.Proof.Gen.Kernel.Frame
public import proofs.«01_k».proof.Proof.Gen.Pre_finite
public import Idealize.ShloMosaic.Lib.Quiescent

/-! The certificate's conjuncts. -/

@[expose] public section

set_option maxRecDepth 16384

noncomputable section

namespace Cert.Proof

open Idealize.ShloMosaic Idealize.ShloMosaic.TcCoe Idealize.SL.Sem

/-- An extended real whose absolute value is below infinity is a real. -/
theorem real_of_abs (x : EReal) (h : max x (-x) < ⊤) : x = ((x.toReal : ℝ) : EReal) := by
  induction x with
  | bot => simp at h
  | top => simp at h
  | coe r => rfl

theorem real_of_mask {s : Shape} (v : FVec Ideal s .f32) (b : FVec Ideal s .f32) (hb : ∀ i, b i = Ideal.ofBits .f32 0x7F800000#32)
    (h : cmpf .olt (Host.absf v) b = fun _ => 1#1) (i : s.Idx) : v i = (((v i).toReal : ℝ) : EReal) := by
  have hi := congrFun h i
  refine real_of_abs (v i) ?_
  by_contra hc
  have : cmpf .olt (Host.absf v) b i = 0#1 := by
    have hbi : b i = ⊤ := (hb i).trans Cert.Consts.cpinf
    show BitVec.ofBool (decide (max (v i) (-v i) < b i)) = 0#1
    rw [hbi, decide_eq_false hc]
    rfl
  rw [this] at hi
  exact absurd hi (by decide)

theorem frame_p : Cert.quiescent_Kernel := fun m ρ _ => Cert.Kernel.Gen.frame m ρ
theorem frame_pi : Cert.quiescent_KernelIdeal := fun m ρ _ => Cert.KernelIdeal.Gen.frame m ρ
theorem frame_pi' : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2.2.2, Idealize.ShloMosaic.sem_eq_zero_of_no_sems (by decide) r.2⟩)
    (Cert.ReferenceIdeal.Value.run (F := Ideal) m ρ)

theorem frame_ri' : Cert.quiescent_ReferenceIdeal_pre_finite := fun m ρ _ => frame_ri m ρ trivial

theorem preserves : Cert.preserves_Kernel_KernelIdeal :=
  IdealRules.named_const.statement Cert.KernelIdeal.κ "log2e_8" .f32 0x3E38AA3B#32 (((8 * (Real.log 2))⁻¹ : ℝ) : EReal) rfl

/-- The two gains are real under the precondition. -/
theorem gains_real (m : (ℓ : Loc Cert.KernelIdeal.nD Cert.KernelIdeal.τ Cert.KernelIdeal.sig) → Buf (Elt Ideal) ℓ) (h : Cert.Pre_KernelIdeal_finite m)
    (c : Dev Cert.KernelIdeal.nD) :
    (∀ i, (m (c, Cert.KernelIdeal.main_arg3) i : EReal) = ((EReal.toReal (m (c, Cert.KernelIdeal.main_arg3) i) : ℝ) : EReal))
    ∧ (∀ i, (m (c, Cert.KernelIdeal.main_arg4) i : EReal) = ((EReal.toReal (m (c, Cert.KernelIdeal.main_arg4) i) : ℝ) : EReal)) :=
  ⟨real_of_mask _ _ (fun _ => rfl) (h c).1, real_of_mask _ _ (fun _ => rfl) (h c).2⟩

theorem algebraic : Cert.algebraic_KernelIdeal_ReferenceIdeal_pre_finite := by
  intro m ρ m' ρ' hpre hagree
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, Cert.KernelIdeal.Value.run_blocks m ρ, ?_⟩
  refine (θ_run Cert.ReferenceIdeal.defs _ _).mono (fun r h c => ?_) (Cert.ReferenceIdeal.Value.run (F := Ideal) m' ρ')
  obtain ⟨r3, r4⟩ := gains_real m hpre c
  obtain ⟨a0, a1, a2, a3, a4, a5, a6, a7⟩ := hagree c
  obtain ⟨h0, h1, h2, hk⟩ := h c
  let X : Fin 32 → Fin 256 → Fin 1024 → EReal := fun s i j => m (c, Cert.KernelIdeal.main_arg0) (ix3 s i j)
  let M : Fin 3072 → EReal := fun n => m (c, Cert.KernelIdeal.main_arg1) (ix3 0 0 n)
  let W : Fin 1024 → Fin 2560 → EReal := fun k n => m (c, Cert.KernelIdeal.main_arg2) (ix3 0 k n)
  have hx : ∀ s i j, m (c, Cert.KernelIdeal.main_arg0) (ix3 s i j) = X s i j := fun _ _ _ => rfl
  have hm : ∀ n, m (c, Cert.KernelIdeal.main_arg1) (ix3 0 0 n) = M n := fun _ => rfl
  have hw : ∀ k n, m (c, Cert.KernelIdeal.main_arg2) (ix3 0 k n) = W k n := fun _ _ => rfl
  have hq := fun d : Fin 64 => r3 (ix2 0 d)
  have hg := fun d : Fin 64 => r4 (ix2 0 d)
  have hx' := fun (s : Fin 32) (i : Fin 256) (j : Fin 1024) => congrFun a0 (ix3 s i j)
  have hm' := fun n : Fin 3072 => congrFun a1 (ix3 0 0 n)
  have hw' := fun (k : Fin 1024) (n : Fin 2560) => congrFun a2 (ix3 0 k n)
  have hq' := fun d : Fin 64 => (congrFun a3 (ix2 0 d)).trans (hq d)
  have hg' := fun d : Fin 64 => (congrFun a4 (ix2 0 d)).trans (hg d)
  refine ⟨h0.trans ?_, h1.trans ?_, h2.trans ?_, hk⟩
  · refine (Cert.ReferenceIdeal.Value.val3_main_v106 (StableHlo.launchContents m' c)).symm.trans (Eq.trans (funext fun i => ?_)
      (Cert.KernelIdeal.Blk.arr9 m c X M W _ _ hx hm hw hq hg).symm)
    rw [ValueIdx.eq_ix3 i]
    refine (Cert.ReferenceIdeal.At.y_at (StableHlo.launchContents m' c) X M W _ _ hx' hm' hw' hq' hg' (i 0) (i 1) (i 2)).trans ?_
    unfold Cert.KernelIdeal.Blk.yArr
    have e5 := fun (n j : Fin 1024) => congrFun a5 (ix3 0 n j)
    have e6 := fun (k : Fin 1024) => congrFun a6 (ix2 0 k)
    have e7 := fun (k : Fin 1024) => congrFun a7 (ix2 0 k)
    exact congrFun (congr (congr (congrArg Cert.Spec.lnorm (congrArg (Cert.Spec.resid _ _ _) (funext fun n => funext fun j => e5 n j))) (funext e6)) (funext e7)) _
  · refine (Cert.ReferenceIdeal.Value.val3_main_v48 (StableHlo.launchContents m' c)).symm.trans (Eq.trans (funext fun i => ?_)
      (Cert.KernelIdeal.Blk.arr10 m c X M W _ hx hm hw hg).symm)
    rw [Cert.ReferenceIdeal.Value.val3_main_v48, ValueIdx.eq_ix4 i]
    exact Cert.ReferenceIdeal.At.k_at (StableHlo.launchContents m' c) X M W _ hx' hm' hw' hg' (i 0) (i 1) (i 2) (i 3)
  · refine (Cert.ReferenceIdeal.Value.val3_main_v49 (StableHlo.launchContents m' c)).symm.trans (Eq.trans (funext fun i => ?_)
      (Cert.KernelIdeal.Blk.arr11 m c X M W hx hm hw).symm)
    rw [ValueIdx.eq_ix4 i]
    exact Cert.ReferenceIdeal.At.v_at (StableHlo.launchContents m' c) X M W hx' hm' hw' (i 0) (i 1) (i 2) (i 3)

end Cert.Proof

end
-- ==== Proof.RecBlock.lean ====
module

public import proofs.«01_k».proof.Proof.Gen.Kernel2Ideal.Value
public import Idealize.ShloMosaic.Lib.Pipeline.ValueKit
public import Idealize.ShloMosaic.Lib.Pipeline.ReadBack

/-! The gated projection's body as functions of its input blocks: `x` 512 rows of activations, `md` the modulation row,
`w` the projection, `lb` the two rows of lower bounds. Groups of 256 columns are numbered by `i`. -/

@[expose] public section

set_option maxRecDepth 16384

noncomputable section

namespace Cert.Kernel2Ideal.Blk

open Cert.Kernel2Ideal Cert.Kernel2Ideal.Gen Idealize.ShloMosaic Idealize.ShloMosaic.TcCoe Idealize.SL.Sem

variable {F : FTy → Type} [FloatOps F]

theorem inb_all : ∀ a, ![0, 0] a + ![512, 1024] a ≤ S512x1024.size a := by
  intro a; fin_cases a <;> simp

theorem inb_mod : ∀ a, ![0, 0, 0, 0] a + ![1, 1, 1, 3072] a ≤ S1x1x1x3072.size a := by
  intro a; fin_cases a <;> simp

theorem inb_group (i : ℕ) : ∀ a, ![0, 256 * (i % 20)] a + ![1024, 256] a ≤ S1024x5120.size a := by
  intro a; fin_cases a <;> simp; omega

theorem inb_bound (d i : ℕ) : ∀ a, ![d % 2, 256 * (i % 4)] a + ![1, 256] a ≤ S2x1024.size a := by
  intro a; fin_cases a <;> simp <;> omega

theorem inb_row (i : ℕ) : ∀ a, ![0, 256 * (i % 4)] a + ![512, 256] a ≤ S512x1024.size a := by
  intro a; fin_cases a <;> simp; omega

theorem inb_chan (j i : ℕ) : ∀ a, ![(i % 4) / 2, i % 2, 256 * (j % 4), 0] a + ![1, 1, 256, 128] a ≤ S2x2x1024x128.size a := by
  intro a; fin_cases a <;> simp <;> omega

theorem slices_tile (i : ℕ) : S256x512.Slices ![0, 128 * (i % 4)] S256x128 :=
  ⟨rfl, fun a => by fin_cases a <;> simp; omega⟩

/-- The modulated activations. -/
def hR (x : Vec F S512x1024 .f32) (md : Vec F S1x1x1x3072 .f32) : FVec F S512x1024 .bf16 :=
  truncf .bf16 (addf (mulf (shapeCast S512x1024 (View.ld x (Rect.unit ![0, 0] ![512, 1024] inb_all)) shapeCasts_S512x1024_S512x1024)
    (broadcastTo S512x1024 (addf (broadcast S1x1024 (Scalar.ofBits .f32 0x3F800000#32))
      (extractStridedSlice S1x1024 ![0, 1024] (shapeCast S1x3072 (View.ld md (Rect.unit ![0, 0, 0, 0] ![1, 1, 1, 3072] inb_mod)) shapeCasts_S1x1x1x3072_S1x3072)
        slices_S1x3072_o0_1024_S1x1024)) broadcasts_S1x1024_S512x1024))
    (broadcastTo S512x1024 (extractStridedSlice S1x1024 ![0, 0] (shapeCast S1x3072 (View.ld md (Rect.unit ![0, 0, 0, 0] ![1, 1, 1, 3072] inb_mod))
      shapeCasts_S1x1x1x3072_S1x3072) slices_S1x3072_o0_0_S1x1024) broadcasts_S1x1024_S512x1024))
    bitsLt_bf16_f32

/-- Column group `i` of the projection. -/
def prR (h : FVec F S512x1024 .bf16) (w : Vec F S1024x5120 .bf16) (i : ℕ) : FVec F S512x256 .f32 :=
  matmul dot_S512x1024_S1024x256_S512x256_1_0_0_1_n_n none h
    (shapeCast S1024x256 (View.ld w (Rect.unit ![0, 256 * (i % 20)] ![1024, 256] (inb_group i))) shapeCasts_S1024x256_S1024x256)
    (constant S512x256 .f32 0x00000000#32)

/-- The logistic function. -/
def sigR (u : FVec F S512x256 .f32) : FVec F S512x256 .f32 :=
  divf (broadcast S512x256 (Scalar.ofBits .f32 0x3F800000#32))
    (addf (broadcast S512x256 (Scalar.ofBits .f32 0x3F800000#32)) (exp (subf (broadcast S512x256 (Scalar.ofBits .f32 0x00000000#32)) u)))

/-- A value times its logistic function. -/
def siluR (u : FVec F S512x256 .f32) : FVec F S512x256 .f32 := mulf u (sigR u)

/-- Column group `i` of the lower bounds of direction `d`. -/
def bound (lb : Vec F S2x1024 .f32) (d i : ℕ) : FVec F S1x256 .f32 := View.ld lb (Rect.unit ![d % 2, 256 * (i % 4)] ![1, 256] (inb_bound d i))

/-- The logarithm of the forget gate. -/
def lfR (u : FVec F S512x256 .f32) (l : FVec F S1x256 .f32) : FVec F S512x256 .f32 :=
  log (addf (broadcastTo S512x256 l broadcasts_S1x256_S512x256)
    (mulf (broadcastTo S512x256 (subf (broadcast S1x256 (Scalar.ofBits .f32 0x3F800000#32)) l) broadcasts_S1x256_S512x256) (sigR u)))

/-- The input gate. -/
def kR (u : FVec F S512x256 .f32) (l : FVec F S1x256 .f32) : FVec F S512x256 .f32 :=
  mulf (broadcastTo S512x256 (subf (broadcast S1x256 (Scalar.ofBits .f32 0x3F800000#32)) l) broadcasts_S1x256_S512x256)
    (subf (broadcast S512x256 (Scalar.ofBits .f32 0x3F800000#32)) (sigR u))

/-- A group of columns rounded. -/
def rowB (a : FVec F S512x256 .f32) : FVec F S512x256 .bf16 := truncf .bf16 a bitsLt_bf16_f32

/-- A group of columns with the channels down the rows, at 128 positions. -/
def chanB (a : FVec F S512x256 .f32) (i : ℕ) : FVec F S1x1x256x128 .bf16 :=
  shapeCast S1x1x256x128 (extractStridedSlice S256x128 ![0, 128 * (i % 4)]
    (truncf .bf16 (transpose S256x512 [1, 0] a transposes_S512x256_p1_0_S256x512) bitsLt_bf16_f32) (slices_tile i)) shapeCasts_S256x128_S1x1x256x128

/-- The first `n` column groups stored in rows. -/
def rowPieces {e : EltTy} (p : ℕ → S512x256.Idx → Elt F e) : ℕ → List (View.Piece (Elt F) S512x1024 e)
  | 0 => []
  | n + 1 => ⟨Rect.unit ![0, 256 * (n % 4)] ![512, 256] (inb_row n), p n⟩ :: rowPieces p n

/-- The first `n` blocks stored with the channels down the rows: block `n` is of column group `n / 4` and positions `n % 4`. -/
def chanPieces (p : ℕ → FVec F S512x256 .f32) : ℕ → List (View.Piece (Elt F) S2x2x1024x128 .bf16)
  | 0 => []
  | n + 1 => ⟨Rect.unit ![(n % 4) / 2, n % 2, 256 * (n / 4 % 4), 0] ![1, 1, 256, 128] (inb_chan (n / 4) n), chanB (p (n / 4)) n⟩ :: chanPieces p n

section Outputs

variable (x : Vec F S512x1024 .f32) (md : Vec F S1x1x1x3072 .f32) (w : Vec F S1024x5120 .bf16) (lb : Vec F S2x1024 .f32)

theorem out4_eq : out0_4 x md w lb = View.canon (chanPieces (fun j => siluR (prR (hR x md) w j)) 16) := by
  unfold_out out0_4
  rfl

theorem out5_eq : out0_5 x md w lb = View.canon (rowPieces (e := .bf16) (fun j => rowB (prR (hR x md) w (12 + j))) 4) := by
  unfold_out out0_5
  rfl

theorem out6_eq : out0_6 x md w lb = View.canon (rowPieces (e := .bf16) (fun j => rowB (siluR (prR (hR x md) w (16 + j)))) 4) := by
  unfold_out out0_6
  rfl

theorem out7_eq : out0_7 x md w lb = View.canon (rowPieces (e := .f32) (fun j => lfR (prR (hR x md) w (4 + j)) (bound lb 0 j)) 4) := by
  unfold_out out0_7
  rfl

theorem out8_eq : out0_8 x md w lb = View.canon (rowPieces (e := .f32) (fun j => lfR (prR (hR x md) w (8 + j)) (bound lb 1 j)) 4) := by
  unfold_out out0_8
  rfl

theorem out9_eq : out0_9 x md w lb = View.canon (chanPieces (fun j => kR (prR (hR x md) w (4 + j)) (bound lb 0 j)) 16) := by
  unfold_out out0_9
  rfl

theorem out10_eq : out0_10 x md w lb = View.canon (chanPieces (fun j => kR (prR (hR x md) w (8 + j)) (bound lb 1 j)) 16) := by
  unfold_out out0_10
  rfl

end Outputs

end Cert.Kernel2Ideal.Blk

end
-- ==== Proof.RecReads.lean ====
module

public import proofs.«01_k».proof.Proof.RecBlock
public import Idealize.ShloMosaic.Lib.Pointwise

/-! The stored groups and blocks read at an index. -/

@[expose] public section

set_option maxRecDepth 16384

noncomputable section

namespace Cert.Kernel2Ideal.Blk

open Cert.Kernel2Ideal Cert.Kernel2Ideal.Gen Idealize.ShloMosaic Idealize.ShloMosaic.TcCoe Idealize.SL.Sem

variable {F : FTy → Type} [FloatOps F]

/-- The stored column groups read at a column below the `n`-th group. -/
theorem canon_rowPieces {e : EltTy} [∀ e, Nonempty (Elt F e)] (p : ℕ → S512x256.Idx → Elt F e) (y : S512x1024.Idx) :
    ∀ n ≤ 4, (y 1).val < 256 * n →
      View.canon (rowPieces p n) y = p ((y 1).val / 256) (ix2 (y 0) ⟨(y 1).val % 256, Nat.mod_lt _ (by decide)⟩)
  | 0, _, h => absurd h (by omega)
  | n + 1, hn, h => by
    have hm : n % 4 = n := Nat.mod_eq_of_lt (by omega)
    by_cases hlt : (y 1).val < 256 * n
    · refine Eq.trans ?_ (canon_rowPieces p y n (by omega) hlt)
      refine View.canon_cons_of_not_mem _ _ (Rect.not_mem_set_of_axis _ y (1 : Fin 2) (256 * (n % 4)) 256 rfl rfl rfl (.inl ?_))
      rw [hm]; omega
    · have hx := Rect.emb_eq_of_coords (Rect.unit (s := S512x1024) ![0, 256 * (n % 4)] ![512, 256] (inb_row n))
        (ix2 (n0 := 512) (n1 := 256) (y 0) ⟨(y 1).val - 256 * n, by omega⟩) y (fun a => by
        fin_cases a
        · show (y 0).val = 0 + 1 * (y 0).val; omega
        · show (y 1).val = 256 * (n % 4) + 1 * ((y 1).val - 256 * n); omega)
      have hd : (y 1).val / 256 = n := by omega
      have hz : (⟨(y 1).val % 256, Nat.mod_lt _ (by decide)⟩ : Fin 256) = ⟨(y 1).val - 256 * n, by omega⟩ := Fin.ext (by simp; omega)
      rw [hd, hz]
      refine Eq.trans (congrArg _ hx.symm) ?_
      exact View.canon_cons_emb _ _ _ _

/-- The number of the block that holds an index. -/
def blockOf (y : S2x2x1024x128.Idx) : ℕ := 4 * ((y 2).val / 256) + 2 * (y 0).val + (y 1).val

theorem div4 (g a b : ℕ) (ha : a < 2) (hb : b < 2) : (4 * g + 2 * a + b) / 4 = g := by omega

/-- The stored blocks read at an index inside one of the first `n`. -/
theorem canon_chanPieces (p : ℕ → FVec F S512x256 .f32) (y : S2x2x1024x128.Idx) :
    ∀ n ≤ 16, blockOf y < n →
      View.canon (chanPieces p n) y
        = chanB (p ((y 2).val / 256)) (blockOf y) (ix4 0 0 ⟨(y 2).val % 256, Nat.mod_lt _ (by decide)⟩ (y 3))
  | 0, _, h => absurd h (by omega)
  | n + 1, hn, h => by
    have h0 : (y 0).val < 2 := (y 0).isLt
    have h1 : (y 1).val < 2 := (y 1).isLt
    have hd := div4 ((y 2).val / 256) _ _ h0 h1
    by_cases hlt : blockOf y < n
    · refine Eq.trans ?_ (canon_chanPieces p y n (by omega) hlt)
      by_cases g : (y 2).val / 256 = n / 4
      · by_cases g0 : (y 0).val = (n % 4) / 2
        · refine View.canon_cons_of_not_mem _ _ (Rect.not_mem_set_of_axis _ y (1 : Fin 4) (n % 2) 1 rfl rfl rfl (.inl ?_))
          unfold blockOf at hlt
          omega
        · refine View.canon_cons_of_not_mem _ _ (Rect.not_mem_set_of_axis _ y (0 : Fin 4) ((n % 4) / 2) 1 rfl rfl rfl (.inl ?_))
          unfold blockOf at hlt
          omega
      · refine View.canon_cons_of_not_mem _ _ (Rect.not_mem_set_of_axis _ y (2 : Fin 4) (256 * (n / 4 % 4)) 256 rfl rfl rfl (.inl ?_))
        unfold blockOf at hlt
        omega
    · have he : blockOf y = n := by omega
      have hg : (y 2).val / 256 = n / 4 := by rw [← he]; exact hd.symm
      have hx := Rect.emb_eq_of_coords (Rect.unit (s := S2x2x1024x128) ![(n % 4) / 2, n % 2, 256 * (n / 4 % 4), 0] ![1, 1, 256, 128] (inb_chan (n / 4) n))
        (ix4 (n0 := 1) (n1 := 1) (n2 := 256) (n3 := 128) 0 0 ⟨(y 2).val % 256, Nat.mod_lt _ (by decide)⟩ (y 3)) y (fun a => by
        unfold blockOf at he
        fin_cases a
        · show (y 0).val = (n % 4) / 2 + 1 * 0; omega
        · show (y 1).val = n % 2 + 1 * 0; omega
        · show (y 2).val = 256 * (n / 4 % 4) + 1 * ((y 2).val % 256); omega
        · show (y 3).val = 0 + 1 * (y 3).val; omega)
      rw [he, hg]
      refine Eq.trans (congrArg _ hx.symm) ?_
      exact View.canon_cons_emb _ _ _ _

end Cert.Kernel2Ideal.Blk

end
-- ==== Proof.RecSpec.lean ====
module

public import proofs.«01_k».proof.Proof.Consts

/-! The gated projection of one layer, on extended reals. -/

@[expose] public section

noncomputable section

namespace Cert.RecSpec

open Idealize.ShloMosaic

/-- The modulated activations. -/
def act (X : Fin 1024 → EReal) (M : Fin 3072 → EReal) (j : Fin 1024) : EReal :=
  X j * (1 + M ⟨1024 + j.val, Nat.lt_of_lt_of_le (Nat.add_lt_add_left j.isLt 1024) (by decide)⟩) + M ⟨j.val, Nat.lt_of_lt_of_le j.isLt (by decide)⟩

/-- Column `n` of the projection. -/
def pr (X : Fin 1024 → EReal) (M : Fin 3072 → EReal) (W : Fin 1024 → Fin 5120 → EReal) (n : Fin 5120) : EReal := ∑ k, act X M k * W k n

/-- Channel `n` of the projection's section `k`. -/
def col (k : Fin 5) (n : Fin 1024) : Fin 5120 := ⟨1024 * k.val + n.val, by omega⟩

/-- The logistic function. -/
def sig (z : EReal) : EReal := Ideal.div 1 (1 + Ideal.exp (-z))

/-- A value times its logistic function. -/
def silu (z : EReal) : EReal := z * sig z

/-- The logarithm of the forget gate with lower bound `l`. -/
def lf (l z : EReal) : EReal := Ideal.log (l + (1 - l) * sig z)

/-- The input gate with lower bound `l`. -/
def key (l z : EReal) : EReal := (1 - l) * sig (-z)

theorem div_one_one : Ideal.div 1 1 = 1 := by
  rw [← EReal.coe_one, Ideal.div_coe one_ne_zero, ← EReal.coe_mul]
  norm_num

theorem div_one_top : Ideal.div 1 (1 + ⊤) = 0 := by
  rw [EReal.add_top_of_ne_bot (show (1 : EReal) ≠ ⊥ from EReal.coe_ne_bot 1)]
  simp [Ideal.div]

/-- The logistic function of the negative is one less the logistic function. -/
theorem one_sub_sig (z : EReal) : 1 - sig z = sig (-z) := by
  unfold sig
  induction z with
  | bot =>
    simp only [EReal.neg_bot, EReal.neg_top, Ideal.exp_top, Ideal.exp_bot, add_zero, div_one_one, div_one_top, sub_zero]
  | top =>
    simp only [EReal.neg_bot, EReal.neg_top, Ideal.exp_top, Ideal.exp_bot, add_zero, div_one_one, div_one_top]
    exact EReal.sub_self (EReal.coe_ne_top 1) (EReal.coe_ne_bot 1)
  | coe r =>
    have h := Real.exp_pos r
    rw [neg_neg, ← EReal.coe_neg, Ideal.exp_coe, Ideal.exp_coe, ← EReal.coe_one, ← EReal.coe_add, ← EReal.coe_add,
      Ideal.div_coe (by positivity), Ideal.div_coe (by positivity), ← EReal.coe_mul, ← EReal.coe_mul, ← EReal.coe_sub, EReal.coe_eq_coe_iff, Real.exp_neg]
    field_simp
    ring

end Cert.RecSpec

end
-- ==== Proof.RecRows.lean ====
module

public import proofs.«01_k».proof.Proof.RecReads
public import proofs.«01_k».proof.Proof.RecSpec

/-! The gated projection's body at an index. -/

@[expose] public section

set_option maxRecDepth 16384

noncomputable section

namespace Cert.Kernel2Ideal.Blk

open Cert.Kernel2Ideal Cert.Kernel2Ideal.Gen Idealize.ShloMosaic Idealize.ShloMosaic.TcCoe Idealize.SL.Sem

theorem ld_all (x : Vec Ideal S512x1024 .f32) :
    View.ld (Val := Elt Ideal) x (Rect.unit ![0, 0] ![512, 1024] inb_all) = x := by
  funext j
  unfold View.ld
  refine congrArg x (funext fun a => Fin.ext ?_)
  fin_cases a
  · show 0 + 1 * (j 0).val = (j 0).val
    omega
  · show 0 + 1 * (j 1).val = (j 1).val
    omega

theorem ld_mod (x : Vec Ideal S1x1x1x3072 .f32) :
    View.ld (Val := Elt Ideal) x (Rect.unit ![0, 0, 0, 0] ![1, 1, 1, 3072] inb_mod) = x := by
  funext j
  unfold View.ld
  refine congrArg x (funext fun a => Fin.ext ?_)
  fin_cases a
  · show 0 + 1 * (j 0).val = (j 0).val
    omega
  · show 0 + 1 * (j 1).val = (j 1).val
    omega
  · show 0 + 1 * (j 2).val = (j 2).val
    omega
  · show 0 + 1 * (j 3).val = (j 3).val
    omega

theorem ld_group (w : Vec Ideal S1024x5120 .bf16) (i : ℕ) (hi : i < 20) (k : Fin 1024) (n : Fin 256) :
    View.ld (Val := Elt Ideal) w (Rect.unit ![0, 256 * (i % 20)] ![1024, 256] (inb_group i)) (ix2 k n) = w (ix2 k ⟨256 * i + n.val, by omega⟩) := by
  have hm : i % 20 = i := Nat.mod_eq_of_lt hi
  unfold View.ld
  refine congrArg w (funext fun a => Fin.ext ?_)
  fin_cases a
  · show 0 + 1 * k.val = k.val
    omega
  · show 256 * (i % 20) + 1 * n.val = 256 * i + n.val
    omega

theorem bound_at (lb : Vec Ideal S2x1024 .f32) (d : Fin 2) (i : ℕ) (hi : i < 4) (n : Fin 256) :
    bound (F := Ideal) lb d.val i (ix2 0 n) = lb (ix2 d ⟨256 * i + n.val, by omega⟩) := by
  have hm : i % 4 = i := Nat.mod_eq_of_lt hi
  have hd : d.val % 2 = d.val := Nat.mod_eq_of_lt d.isLt
  unfold bound View.ld
  refine congrArg lb (funext fun a => Fin.ext ?_)
  fin_cases a
  · show d.val % 2 + 1 * 0 = d.val
    omega
  · show 256 * (i % 4) + 1 * n.val = 256 * i + n.val
    omega

/-- The rows `x` modulated by the row `md`. -/
def modulate (x : Vec Ideal S512x1024 .f32) (md : Vec Ideal S1x1x1x3072 .f32) : FVec Ideal S512x1024 .bf16 :=
  truncf .bf16 (addf (mulf (shapeCast S512x1024 x shapeCasts_S512x1024_S512x1024)
    (broadcastTo S512x1024 (addf (broadcast S1x1024 (Scalar.ofBits .f32 0x3F800000#32))
      (extractStridedSlice S1x1024 ![0, 1024] (shapeCast S1x3072 md shapeCasts_S1x1x1x3072_S1x3072)
        slices_S1x3072_o0_1024_S1x1024)) broadcasts_S1x1024_S512x1024))
    (broadcastTo S512x1024 (extractStridedSlice S1x1024 ![0, 0] (shapeCast S1x3072 md
      shapeCasts_S1x1x1x3072_S1x3072) slices_S1x3072_o0_0_S1x1024) broadcasts_S1x1024_S512x1024))
    bitsLt_bf16_f32

theorem modulate_at (x : Vec Ideal S512x1024 .f32) (md : Vec Ideal S1x1x1x3072 .f32) (i : Fin 512) (j : Fin 1024) :
    modulate x md (ix2 i j) = RecSpec.act (fun k => x (ix2 i k)) (fun n => md (ix4 0 0 0 n)) j := by
  unfold modulate RecSpec.act
  pointwise

theorem hR_at (x : Vec Ideal S512x1024 .f32) (md : Vec Ideal S1x1x1x3072 .f32) (i : Fin 512) (j : Fin 1024) :
    hR (F := Ideal) x md (ix2 i j) = RecSpec.act (fun k => x (ix2 i k)) (fun n => md (ix4 0 0 0 n)) j := by
  unfold hR
  rw [ld_all, ld_mod]
  exact modulate_at x md i j

theorem prR_at (h : FVec Ideal S512x1024 .bf16) (w : Vec Ideal S1024x5120 .bf16) (g : ℕ) (hg : g < 20) (i : Fin 512) (n : Fin 256) :
    prR (F := Ideal) h w g (ix2 i n) = ∑ k, h (ix2 i k) * w (ix2 k ⟨256 * g + n.val, by omega⟩) := by
  unfold prR
  pointwise
  simp only [Nat.mod_eq_of_lt hg]

theorem sigR_at (u : FVec Ideal S512x256 .f32) (i : Fin 512) (n : Fin 256) : sigR (F := Ideal) u (ix2 i n) = RecSpec.sig (u (ix2 i n)) := by
  unfold sigR RecSpec.sig
  pointwise
  rw [zero_sub]

theorem siluR_at (u : FVec Ideal S512x256 .f32) (i : Fin 512) (n : Fin 256) : siluR (F := Ideal) u (ix2 i n) = RecSpec.silu (u (ix2 i n)) :=
  congrArg (u (ix2 i n) * ·) (sigR_at u i n)

theorem lf_at (s : FVec Ideal S512x256 .f32) (l : FVec Ideal S1x256 .f32) (i : Fin 512) (n : Fin 256) :
    log (addf (broadcastTo S512x256 l broadcasts_S1x256_S512x256)
    (mulf (broadcastTo S512x256 (subf (broadcast S1x256 (Scalar.ofBits .f32 0x3F800000#32)) l) broadcasts_S1x256_S512x256) s)) (ix2 i n)
      = Ideal.log (l (ix2 0 n) + (1 - l (ix2 0 n)) * s (ix2 i n)) := by
  pointwise

theorem lfR_at (u : FVec Ideal S512x256 .f32) (l : FVec Ideal S1x256 .f32) (i : Fin 512) (n : Fin 256) :
    lfR (F := Ideal) u l (ix2 i n) = RecSpec.lf (l (ix2 0 n)) (u (ix2 i n)) := by
  refine (lf_at _ _ i n).trans ?_
  rw [sigR_at]
  rfl

theorem key_at (s : FVec Ideal S512x256 .f32) (l : FVec Ideal S1x256 .f32) (i : Fin 512) (n : Fin 256) :
    mulf (broadcastTo S512x256 (subf (broadcast S1x256 (Scalar.ofBits .f32 0x3F800000#32)) l) broadcasts_S1x256_S512x256)
    (subf (broadcast S512x256 (Scalar.ofBits .f32 0x3F800000#32)) s) (ix2 i n)
      = (1 - l (ix2 0 n)) * (1 - s (ix2 i n)) := by
  pointwise

theorem kR_at (u : FVec Ideal S512x256 .f32) (l : FVec Ideal S1x256 .f32) (i : Fin 512) (n : Fin 256) :
    kR (F := Ideal) u l (ix2 i n) = RecSpec.key (l (ix2 0 n)) (u (ix2 i n)) := by
  refine (key_at _ _ i n).trans ?_
  rw [sigR_at, RecSpec.one_sub_sig]
  rfl

theorem rowB_at (a : FVec Ideal S512x256 .f32) (i : Fin 512) (n : Fin 256) : rowB (F := Ideal) a (ix2 i n) = a (ix2 i n) := rfl

theorem chanB_at (a : FVec Ideal S512x256 .f32) (i : ℕ) (r : Fin 256) (q : Fin 128) :
    chanB (F := Ideal) a i (ix4 0 0 r q) = a (ix2 ⟨128 * (i % 4) + q.val, by omega⟩ r) := by
  unfold chanB
  pointwise

/-- The stored column groups, read at an index. -/
theorem row_out {e : EltTy} [∀ e, Nonempty (Elt Ideal e)] (p : ℕ → S512x256.Idx → Elt Ideal e) (f : Fin 512 → Fin 1024 → Elt Ideal e)
    (h : ∀ (i : Fin 512) (g : ℕ) (hg : g < 4) (n : Fin 256), p g (ix2 i n) = f i ⟨256 * g + n.val, by omega⟩) (i : Fin 512) (n : Fin 1024) :
    View.canon (rowPieces p 4) (ix2 i n) = f i n := by
  have hn := n.isLt
  refine (canon_rowPieces p (ix2 i n) 4 le_rfl hn).trans ?_
  refine (h i (n.val / 256) (by omega) ⟨n.val % 256, Nat.mod_lt _ (Nat.succ_pos 255)⟩).trans ?_
  exact congrArg (f i) (Fin.ext (Nat.div_add_mod n.val 256))

/-- The row of a block's index with the channels down the rows. -/
def chanRow (a b : Fin 2) (q : Fin 128) : Fin 512 := ⟨256 * a.val + 128 * b.val + q.val, by omega⟩

/-- The stored blocks with the channels down the rows, read at an index. -/
theorem chan_out (p : ℕ → FVec Ideal S512x256 .f32) (f : Fin 512 → Fin 1024 → EReal)
    (h : ∀ (i : Fin 512) (g : ℕ) (hg : g < 4) (n : Fin 256), p g (ix2 i n) = f i ⟨256 * g + n.val, by omega⟩)
    (a b : Fin 2) (r : Fin 1024) (q : Fin 128) :
    View.canon (chanPieces p 16) (ix4 a b r q) = f (chanRow a b q) r := by
  have hr := r.isLt
  have ha := a.isLt
  have hb := b.isLt
  have hB : blockOf (ix4 a b r q) = 4 * (r.val / 256) + 2 * a.val + b.val := rfl
  refine (canon_chanPieces p (ix4 a b r q) 16 le_rfl (by rw [hB]; omega)).trans ?_
  refine (chanB_at _ _ ⟨r.val % 256, Nat.mod_lt _ (Nat.succ_pos 255)⟩ q).trans ?_
  refine (h _ (r.val / 256) (by omega) ⟨r.val % 256, Nat.mod_lt _ (Nat.succ_pos 255)⟩).trans ?_
  refine congr (congrArg f (Fin.ext ?_)) (Fin.ext (Nat.div_add_mod r.val 256))
  show 128 * (blockOf (ix4 a b r q) % 4) + q.val = 256 * a.val + 128 * b.val + q.val
  rw [hB]
  omega

end Cert.Kernel2Ideal.Blk

end
-- ==== Proof.RecOut.lean ====
module

public import proofs.«01_k».proof.Proof.RecRows
public import Idealize.ShloMosaic.Lib.StableHlo.ReadAt

/-! The gated projection's input blocks as elements of the arguments, and its seven result arrays after the run. -/

@[expose] public section

set_option maxRecDepth 16384

noncomputable section

namespace Cert.Kernel2Ideal.Blk

open Cert.Kernel2Ideal Cert.Kernel2Ideal.Gen Idealize.ShloMosaic Idealize.ShloMosaic.TcCoe Idealize.SL.Sem

variable (m : (ℓ : Loc nD τ sig) → Buf (Elt Ideal) ℓ) (c : Dev nD) (t : Fin cfg0.N)

/-- The sequence the block's row `i` is of, and its position there. -/
def rowSeq (t : Fin cfg0.N) (i : Fin 512) : Fin 32 := ⟨2 * t.val + i.val / 256, by have := t.isLt; have : t.val < 16 := t.isLt; have := i.isLt; omega⟩
def rowPos (i : Fin 512) : Fin 256 := ⟨i.val % 256, Nat.mod_lt _ (Nat.succ_pos 255)⟩

theorem row_lt (t : Fin cfg0.N) (i : Fin 512) : 512 * t.val + i.val < 8192 := by
  have h : t.val < 16 := t.isLt
  omega

theorem idx0 : ∀ t : Fin cfg0.N, win0_0.index t = ![t.val, 0] := by decide +kernel
theorem idx1 : ∀ t : Fin cfg0.N, win0_1.index t = ![1, 0, 0, 0] := by decide +kernel
theorem idx2 : ∀ t : Fin cfg0.N, win0_2.index t = ![0, 0] := by decide +kernel
theorem idx3 : ∀ t : Fin cfg0.N, win0_3.index t = ![0, 0] := by decide +kernel

theorem iblk0 (i : Fin 512) (j : Fin 1024) : iblk m c 0 t (ix2 i j) = m (c, main_arg0) (ix3 (rowSeq t i) (rowPos i) j) := by
  blk_simp [iblk, idx0]
  unfold V
  after_reads_at
  have e : ((View.whole main_v1).slice (win0_0.rect t)).emb (ix2 i j) = ix2 (n0 := 8192) (n1 := 1024) ⟨512 * t.val + i.val, row_lt t i⟩ j := by
    blk_ext [idx0]
  simp only [e]
  refine congrArg (m (c, main_arg0)) (funext fun a => Fin.ext ?_)
  fin_cases a
  · show (512 * t.val + i.val) / 256 = 2 * t.val + i.val / 256
    omega
  · show (512 * t.val + i.val) % 256 = i.val % 256
    omega
  · rfl

theorem iblk1 (n : Fin 3072) : iblk m c 1 t (ix4 0 0 0 n) = m (c, main_arg1) (ix3 1 0 n) := by
  blk_simp [iblk, idx1]
  unfold V
  after_reads_at
  blk_ext [idx1]

theorem iblk2 (k : Fin 1024) (n : Fin 5120) : iblk m c 2 t (ix2 k n) = m (c, main_arg2) (ix3 0 k n) := by
  blk_simp [iblk, idx2]
  unfold V
  after_reads_at
  blk_ext [idx2]

theorem iblk3 (d : Fin 2) (n : Fin 1024) : iblk m c 3 t (ix2 d n) = m (c, main_arg3) (ix2 d n) := by
  blk_simp [iblk, idx3]
  unfold V
  after_reads_at
  blk_ext [idx3]

/-- Column `n` of the projection at position `p` of sequence `s`. -/
def prM (s : Fin 32) (p : Fin 256) (n : Fin 5120) : EReal :=
  RecSpec.pr (fun k => m (c, main_arg0) (ix3 s p k)) (fun n => m (c, main_arg1) (ix3 1 0 n)) (fun k n => m (c, main_arg2) (ix3 0 k n)) n

theorem pr_at (i : Fin 512) (g : ℕ) (hg : g < 20) (n : Fin 256) :
    prR (F := Ideal) (hR (iblk m c 0 t) (iblk m c 1 t)) (iblk m c 2 t) g (ix2 i n) = prM m c (rowSeq t i) (rowPos i) ⟨256 * g + n.val, by omega⟩ := by
  refine (prR_at _ _ g hg i n).trans ?_
  unfold prM RecSpec.pr
  refine Finset.sum_congr rfl fun k _ => ?_
  rw [hR_at, iblk2]
  simp only [iblk0, iblk1]

theorem pr_col (i : Fin 512) (k : Fin 5) (g : ℕ) (hg : g < 4) (n : Fin 256) :
    prR (F := Ideal) (hR (iblk m c 0 t) (iblk m c 1 t)) (iblk m c 2 t) (4 * k.val + g) (ix2 i n)
      = prM m c (rowSeq t i) (rowPos i) (RecSpec.col k ⟨256 * g + n.val, by omega⟩) := by
  refine (pr_at m c t i _ (by omega) n).trans ?_
  refine congrArg (prM m c _ _) (Fin.ext ?_)
  show 256 * (4 * k.val + g) + n.val = 1024 * k.val + (256 * g + n.val)
  omega

theorem q_at (a b : Fin 2) (r : Fin 1024) (q : Fin 128) : (dats m 0 c).after 4 t (ix4 a b r q)
    = RecSpec.silu (prM m c (rowSeq t (chanRow a b q)) (rowPos (chanRow a b q)) (RecSpec.col 0 r)) := by
  rw [after0_4, out4_eq]
  refine chan_out _ (fun i n => RecSpec.silu (prM m c (rowSeq t i) (rowPos i) (RecSpec.col 0 n))) (fun i g hg n => ?_) a b r q
  refine (siluR_at _ i n).trans (congrArg RecSpec.silu ?_)
  exact (congrArg (fun g => prR (F := Ideal) _ _ g (ix2 i n)) (Nat.zero_add g).symm).trans (pr_col m c t i 0 g hg n)

theorem v_at (i : Fin 512) (n : Fin 1024) : (dats m 0 c).after 5 t (ix2 i n) = prM m c (rowSeq t i) (rowPos i) (RecSpec.col 3 n) := by
  rw [after0_5, out5_eq]
  exact row_out (e := .bf16) _ (fun i n => prM m c (rowSeq t i) (rowPos i) (RecSpec.col 3 n)) (fun i g hg n => pr_col m c t i 3 g hg n) i n

theorem g_at (i : Fin 512) (n : Fin 1024) : (dats m 0 c).after 6 t (ix2 i n) = RecSpec.silu (prM m c (rowSeq t i) (rowPos i) (RecSpec.col 4 n)) := by
  rw [after0_6, out6_eq]
  exact row_out (e := .bf16) _ (fun i n => RecSpec.silu (prM m c (rowSeq t i) (rowPos i) (RecSpec.col 4 n)))
    (fun i g hg n => (siluR_at _ i n).trans (congrArg RecSpec.silu (pr_col m c t i 4 g hg n))) i n

theorem lf_at_fw (i : Fin 512) (n : Fin 1024) : (dats m 0 c).after 7 t (ix2 i n)
    = RecSpec.lf (m (c, main_arg3) (ix2 0 n)) (prM m c (rowSeq t i) (rowPos i) (RecSpec.col 1 n)) := by
  rw [after0_7, out7_eq]
  exact row_out (e := .f32) _ (fun i n => RecSpec.lf (m (c, main_arg3) (ix2 0 n)) (prM m c (rowSeq t i) (rowPos i) (RecSpec.col 1 n)))
    (fun i g hg n => (lfR_at _ _ i n).trans
      (congr (congrArg RecSpec.lf ((bound_at _ 0 g hg n).trans (iblk3 m c t 0 _))) (pr_col m c t i 1 g hg n))) i n

theorem lf_at_bw (i : Fin 512) (n : Fin 1024) : (dats m 0 c).after 8 t (ix2 i n)
    = RecSpec.lf (m (c, main_arg3) (ix2 1 n)) (prM m c (rowSeq t i) (rowPos i) (RecSpec.col 2 n)) := by
  rw [after0_8, out8_eq]
  exact row_out (e := .f32) _ (fun i n => RecSpec.lf (m (c, main_arg3) (ix2 1 n)) (prM m c (rowSeq t i) (rowPos i) (RecSpec.col 2 n)))
    (fun i g hg n => (lfR_at _ _ i n).trans
      (congr (congrArg RecSpec.lf ((bound_at _ 1 g hg n).trans (iblk3 m c t 1 _))) (pr_col m c t i 2 g hg n))) i n

theorem k_at_fw (a b : Fin 2) (r : Fin 1024) (q : Fin 128) : (dats m 0 c).after 9 t (ix4 a b r q)
    = RecSpec.key (m (c, main_arg3) (ix2 0 r)) (prM m c (rowSeq t (chanRow a b q)) (rowPos (chanRow a b q)) (RecSpec.col 1 r)) := by
  rw [after0_9, out9_eq]
  exact chan_out _ (fun i n => RecSpec.key (m (c, main_arg3) (ix2 0 n)) (prM m c (rowSeq t i) (rowPos i) (RecSpec.col 1 n)))
    (fun i g hg n => (kR_at _ _ i n).trans
      (congr (congrArg RecSpec.key ((bound_at _ 0 g hg n).trans (iblk3 m c t 0 _))) (pr_col m c t i 1 g hg n))) a b r q

theorem k_at_bw (a b : Fin 2) (r : Fin 1024) (q : Fin 128) : (dats m 0 c).after 10 t (ix4 a b r q)
    = RecSpec.key (m (c, main_arg3) (ix2 1 r)) (prM m c (rowSeq t (chanRow a b q)) (rowPos (chanRow a b q)) (RecSpec.col 2 r)) := by
  rw [after0_10, out10_eq]
  exact chan_out _ (fun i n => RecSpec.key (m (c, main_arg3) (ix2 1 n)) (prM m c (rowSeq t i) (rowPos i) (RecSpec.col 2 n)))
    (fun i g hg n => (kR_at _ _ i n).trans
      (congr (congrArg RecSpec.key ((bound_at _ 1 g hg n).trans (iblk3 m c t 1 _))) (pr_col m c t i 2 g hg n))) a b r q

/-! ## The result arrays -/

theorem idx4 : ∀ t : Fin cfg0.N, win0_4.index t = ![t.val, 0, 0, 0] := by decide +kernel
theorem idx5 : ∀ t : Fin cfg0.N, win0_5.index t = ![t.val, 0] := by decide +kernel
theorem idx6 : ∀ t : Fin cfg0.N, win0_6.index t = ![t.val, 0] := by decide +kernel
theorem idx7 : ∀ t : Fin cfg0.N, win0_7.index t = ![t.val, 0] := by decide +kernel
theorem idx8 : ∀ t : Fin cfg0.N, win0_8.index t = ![t.val, 0] := by decide +kernel
theorem idx9 : ∀ t : Fin cfg0.N, win0_9.index t = ![t.val, 0, 0, 0] := by decide +kernel
theorem idx10 : ∀ t : Fin cfg0.N, win0_10.index t = ![t.val, 0, 0, 0] := by decide +kernel

/-- The array's row that the block's row `i` is, and the sequence the block's plane `a` is. -/
def rowOf (t : Fin cfg0.N) (i : Fin 512) : Fin 8192 := ⟨512 * t.val + i.val, row_lt t i⟩
def seqOf (t : Fin cfg0.N) (a : Fin 2) : Fin 32 := ⟨2 * t.val + a.val, by have h : t.val < 16 := t.isLt; omega⟩

theorem emb4 (t : Fin cfg0.N) (y : S2x2x1024x128.Idx) : (win0_4.blk t).view.emb y = ix4 (seqOf t (y 0)) (y 1) (y 2) (y 3) := by
  blk_ext [idx4]
  show _ = 2 * t.val + (y 0).val
  omega

theorem emb9 (t : Fin cfg0.N) (y : S2x2x1024x128.Idx) : (win0_9.blk t).view.emb y = ix4 (seqOf t (y 0)) (y 1) (y 2) (y 3) := by
  blk_ext [idx9]
  show _ = 2 * t.val + (y 0).val
  omega

theorem emb10 (t : Fin cfg0.N) (y : S2x2x1024x128.Idx) : (win0_10.blk t).view.emb y = ix4 (seqOf t (y 0)) (y 1) (y 2) (y 3) := by
  blk_ext [idx10]
  show _ = 2 * t.val + (y 0).val
  omega

theorem emb5 (t : Fin cfg0.N) (y : S512x1024.Idx) : (win0_5.blk t).view.emb y = ix2 (rowOf t (y 0)) (y 1) := by
  blk_ext [idx5]
  show _ = 512 * t.val + (y 0).val
  omega

theorem emb6 (t : Fin cfg0.N) (y : S512x1024.Idx) : (win0_6.blk t).view.emb y = ix2 (rowOf t (y 0)) (y 1) := by
  blk_ext [idx6]
  show _ = 512 * t.val + (y 0).val
  omega

theorem emb7 (t : Fin cfg0.N) (y : S512x1024.Idx) : (win0_7.blk t).view.emb y = ix2 (rowOf t (y 0)) (y 1) := by
  blk_ext [idx7]
  show _ = 512 * t.val + (y 0).val
  omega

theorem emb8 (t : Fin cfg0.N) (y : S512x1024.Idx) : (win0_8.blk t).view.emb y = ix2 (rowOf t (y 0)) (y 1) := by
  blk_ext [idx8]
  show _ = 512 * t.val + (y 0).val
  omega

/-- An array of rows, one a position. -/
def inRows (f : Fin 32 → Fin 256 → Fin 1024 → EReal) (i : S8192x1024.Idx) : EReal :=
  f ⟨(i 0).val / 256, Nat.div_lt_of_lt_mul (i 0).isLt⟩ ⟨(i 0).val % 256, Nat.mod_lt _ (Nat.succ_pos 255)⟩ (i 1)

/-- An array with the channels down the rows, 128 positions to a block. -/
def inChans (f : Fin 32 → Fin 256 → Fin 1024 → EReal) (i : S32x2x1024x128.Idx) : EReal :=
  f (i 0) ⟨128 * (i 1).val + (i 3).val, by have h1 : (i 1).val < 2 := (i 1).isLt; have h3 : (i 3).val < 128 := (i 3).isLt; omega⟩ (i 2)

theorem inRows_at (f : Fin 32 → Fin 256 → Fin 1024 → EReal) (i : Fin 512) (n : Fin 1024) :
    f (rowSeq t i) (rowPos i) n = inRows f (ix2 (rowOf t i) n) := by
  unfold inRows
  refine congrFun (congr (congrArg f (Fin.ext ?_)) (Fin.ext ?_)) n
  · show 2 * t.val + i.val / 256 = (512 * t.val + i.val) / 256
    omega
  · show i.val % 256 = (512 * t.val + i.val) % 256
    omega

theorem inChans_at (f : Fin 32 → Fin 256 → Fin 1024 → EReal) (a b : Fin 2) (r : Fin 1024) (q : Fin 128) :
    f (rowSeq t (chanRow a b q)) (rowPos (chanRow a b q)) r = inChans f (ix4 (seqOf t a) b r q) := by
  unfold inChans
  have ha := a.isLt
  have hb := b.isLt
  have hq := q.isLt
  refine congrFun (congr (congrArg f (Fin.ext ?_)) (Fin.ext ?_)) r
  · show 2 * t.val + (256 * a.val + 128 * b.val + q.val) / 256 = 2 * t.val + a.val
    omega
  · show (256 * a.val + 128 * b.val + q.val) % 256 = 128 * b.val + q.val
    omega

theorem arr4 : (dats m 0 c).arrAt 4 cfg0.N = inChans fun s p n => RecSpec.silu (prM m c s p (RecSpec.col 0 n)) := by
  refine (dats m 0 c).arrAt_eq_of_covers 4 _ (by decide +kernel) fun t hf y => ?_
  have h := (q_at m c t (y 0) (y 1) (y 2) (y 3)).trans (inChans_at t (fun s p n => RecSpec.silu (prM m c s p (RecSpec.col 0 n))) (y 0) (y 1) (y 2) (y 3))
  blk_simp
  refine (congrArg ((dats m 0 c).after 4 t) (ValueIdx.eq_ix4 y)).trans (h.trans ?_)
  exact (congrArg (inChans fun s p n => RecSpec.silu (prM m c s p (RecSpec.col 0 n))) (emb4 t y)).symm

theorem arr9 : (dats m 0 c).arrAt 9 cfg0.N = inChans fun s p n => RecSpec.key (m (c, main_arg3) (ix2 0 n)) (prM m c s p (RecSpec.col 1 n)) := by
  refine (dats m 0 c).arrAt_eq_of_covers 9 _ (by decide +kernel) fun t hf y => ?_
  have h := (k_at_fw m c t (y 0) (y 1) (y 2) (y 3)).trans (inChans_at t (fun s p n => RecSpec.key (m (c, main_arg3) (ix2 0 n)) (prM m c s p (RecSpec.col 1 n))) (y 0) (y 1) (y 2) (y 3))
  blk_simp
  refine (congrArg ((dats m 0 c).after 9 t) (ValueIdx.eq_ix4 y)).trans (h.trans ?_)
  exact (congrArg (inChans fun s p n => RecSpec.key (m (c, main_arg3) (ix2 0 n)) (prM m c s p (RecSpec.col 1 n))) (emb9 t y)).symm

theorem arr10 : (dats m 0 c).arrAt 10 cfg0.N = inChans fun s p n => RecSpec.key (m (c, main_arg3) (ix2 1 n)) (prM m c s p (RecSpec.col 2 n)) := by
  refine (dats m 0 c).arrAt_eq_of_covers 10 _ (by decide +kernel) fun t hf y => ?_
  have h := (k_at_bw m c t (y 0) (y 1) (y 2) (y 3)).trans (inChans_at t (fun s p n => RecSpec.key (m (c, main_arg3) (ix2 1 n)) (prM m c s p (RecSpec.col 2 n))) (y 0) (y 1) (y 2) (y 3))
  blk_simp
  refine (congrArg ((dats m 0 c).after 10 t) (ValueIdx.eq_ix4 y)).trans (h.trans ?_)
  exact (congrArg (inChans fun s p n => RecSpec.key (m (c, main_arg3) (ix2 1 n)) (prM m c s p (RecSpec.col 2 n))) (emb10 t y)).symm

theorem arr5 : (dats m 0 c).arrAt 5 cfg0.N = inRows fun s p n => prM m c s p (RecSpec.col 3 n) := by
  refine (dats m 0 c).arrAt_eq_of_covers 5 _ (by decide +kernel) fun t hf y => ?_
  have h := (v_at m c t (y 0) (y 1)).trans (inRows_at t (fun s p n => prM m c s p (RecSpec.col 3 n)) (y 0) (y 1))
  blk_simp
  refine (congrArg ((dats m 0 c).after 5 t) (ValueIdx.eq_ix2 y)).trans (h.trans ?_)
  exact (congrArg (inRows fun s p n => prM m c s p (RecSpec.col 3 n)) (emb5 t y)).symm

theorem arr6 : (dats m 0 c).arrAt 6 cfg0.N = inRows fun s p n => RecSpec.silu (prM m c s p (RecSpec.col 4 n)) := by
  refine (dats m 0 c).arrAt_eq_of_covers 6 _ (by decide +kernel) fun t hf y => ?_
  have h := (g_at m c t (y 0) (y 1)).trans (inRows_at t (fun s p n => RecSpec.silu (prM m c s p (RecSpec.col 4 n))) (y 0) (y 1))
  blk_simp
  refine (congrArg ((dats m 0 c).after 6 t) (ValueIdx.eq_ix2 y)).trans (h.trans ?_)
  exact (congrArg (inRows fun s p n => RecSpec.silu (prM m c s p (RecSpec.col 4 n))) (emb6 t y)).symm

theorem arr7 : (dats m 0 c).arrAt 7 cfg0.N = inRows fun s p n => RecSpec.lf (m (c, main_arg3) (ix2 0 n)) (prM m c s p (RecSpec.col 1 n)) := by
  refine (dats m 0 c).arrAt_eq_of_covers 7 _ (by decide +kernel) fun t hf y => ?_
  have h := (lf_at_fw m c t (y 0) (y 1)).trans (inRows_at t (fun s p n => RecSpec.lf (m (c, main_arg3) (ix2 0 n)) (prM m c s p (RecSpec.col 1 n))) (y 0) (y 1))
  blk_simp
  refine (congrArg ((dats m 0 c).after 7 t) (ValueIdx.eq_ix2 y)).trans (h.trans ?_)
  exact (congrArg (inRows fun s p n => RecSpec.lf (m (c, main_arg3) (ix2 0 n)) (prM m c s p (RecSpec.col 1 n))) (emb7 t y)).symm

theorem arr8 : (dats m 0 c).arrAt 8 cfg0.N = inRows fun s p n => RecSpec.lf (m (c, main_arg3) (ix2 1 n)) (prM m c s p (RecSpec.col 2 n)) := by
  refine (dats m 0 c).arrAt_eq_of_covers 8 _ (by decide +kernel) fun t hf y => ?_
  have h := (lf_at_bw m c t (y 0) (y 1)).trans (inRows_at t (fun s p n => RecSpec.lf (m (c, main_arg3) (ix2 1 n)) (prM m c s p (RecSpec.col 2 n))) (y 0) (y 1))
  blk_simp
  refine (congrArg ((dats m 0 c).after 8 t) (ValueIdx.eq_ix2 y)).trans (h.trans ?_)
  exact (congrArg (inRows fun s p n => RecSpec.lf (m (c, main_arg3) (ix2 1 n)) (prM m c s p (RecSpec.col 2 n))) (emb8 t y)).symm

end Cert.Kernel2Ideal.Blk

end
-- ==== Proof.RecRef.lean ====
module

public import proofs.«01_k».proof.Proof.RecSpec
public import proofs.«01_k».proof.Proof.Gen.Reference2Ideal.Run
public import Idealize.ShloMosaic.Lib.Pointwise

/-! The reference of the gated projection at an index. -/

@[expose] public section

set_option maxRecDepth 16384

noncomputable section

namespace Cert.Reference2Ideal.At

open Cert.Reference2Ideal Cert.Reference2Ideal.Gen Cert.Reference2Ideal.Value Idealize.ShloMosaic Idealize.ShloMosaic.TcCoe Idealize.SL.Sem

/-- The projection of the modulated activations. -/
def projR (x : FVec Ideal S32x256x1024 .f32) (md : FVec Ideal S2x8x3072 .f32) (w : FVec Ideal S1x1024x5120 .f32) : FVec Ideal S32x256x5120 .f32 :=
  Host.dotGeneral dot_S32x256x1024_S1024x5120_S32x256x5120_2_0_01_1_n_n none (addf (mulf x (broadcastInDim S32x256x1024 ![0, 1, 2] bcast_S1x1x1024_S32x256x1024_0_1_2 (broadcastInDim S1x1x1024 ![2] bcast_S1024_S1x1x1024_2 (addf (broadcastInDim S1024 ![] bcast_S_S1024 (constant S_ .f32 0x3F800000#32)) (extractStridedSlice S1024 ![1024] (shapeCast _ (extractStridedSlice S1x1x3072 ![1, 0, 0] md slices_S2x8x3072_S1x1x3072_1_0_0) shapeCasts_S1x1x3072_S3072) slices_S3072_S1024_1024))))) (broadcastInDim S32x256x1024 ![0, 1, 2] bcast_S1x1x1024_S32x256x1024_0_1_2 (broadcastInDim S1x1x1024 ![2] bcast_S1024_S1x1x1024_2 (extractStridedSlice S1024 ![0] (shapeCast _ (extractStridedSlice S1x1x3072 ![1, 0, 0] md slices_S2x8x3072_S1x1x3072_1_0_0) shapeCasts_S1x1x3072_S3072) slices_S3072_S1024_0)))) (shapeCast _ w shapeCasts_S1x1024x5120_S1024x5120)

/-- The logistic function. -/
def sigR (u : FVec Ideal S32x256x1024 .f32) : FVec Ideal S32x256x1024 .f32 :=
  Host.divf (broadcastInDim S32x256x1024 ![] bcast_S_S32x256x1024 (constant S_ .f32 0x3F800000#32)) (addf (broadcastInDim S32x256x1024 ![] bcast_S_S32x256x1024 (constant S_ .f32 0x3F800000#32)) (Host.exp (Host.negf u)))

/-- The logarithm of the forget gate, from the logistic function's values. -/
def lfR (l : FVec Ideal S1x1024 .f32) (s : FVec Ideal S32x256x1024 .f32) : FVec Ideal S32x256x1024 .f32 :=
  Host.log (addf (broadcastInDim S32x256x1024 ![0, 1, 2] bcast_S1x1x1024_S32x256x1024_0_1_2 (broadcastInDim S1x1x1024 ![2] bcast_S1024_S1x1x1024_2 (shapeCast _ l shapeCasts_S1x1024_S1024))) (mulf (broadcastInDim S32x256x1024 ![0, 1, 2] bcast_S1x1x1024_S32x256x1024_0_1_2 (broadcastInDim S1x1x1024 ![2] bcast_S1024_S1x1x1024_2 (subf (broadcastInDim S1024 ![] bcast_S_S1024 (constant S_ .f32 0x3F800000#32)) (shapeCast _ l shapeCasts_S1x1024_S1024)))) s))

/-- The input gate, from the logistic function's values. -/
def keyR (l : FVec Ideal S1x1024 .f32) (s : FVec Ideal S32x256x1024 .f32) : FVec Ideal S32x256x1024 .f32 :=
  mulf (broadcastInDim S32x256x1024 ![0, 1, 2] bcast_S1x1x1024_S32x256x1024_0_1_2 (broadcastInDim S1x1x1024 ![2] bcast_S1024_S1x1x1024_2 (subf (broadcastInDim S1024 ![] bcast_S_S1024 (constant S_ .f32 0x3F800000#32)) (shapeCast _ l shapeCasts_S1x1024_S1024)))) s

/-- The array as rows, one a position. -/
def rows (u : FVec Ideal S32x256x1024 .f32) : FVec Ideal S8192x1024 .f32 := shapeCast _ u shapeCasts_S32x256x1024_S8192x1024

/-- The array with the channels down the rows, 128 positions to a block. -/
def chans (u : FVec Ideal S32x256x1024 .f32) : FVec Ideal S32x2x1024x128 .f32 :=
  transpose S32x2x1024x128 [0, 1, 3, 2] (shapeCast _ u shapeCasts_S32x256x1024_S32x2x128x1024) transposes_S32x2x128x1024_S32x2x1024x128_0_1_3_2

theorem projR_at (x : FVec Ideal S32x256x1024 .f32) (md : FVec Ideal S2x8x3072 .f32) (w : FVec Ideal S1x1024x5120 .f32) (s : Fin 32) (p : Fin 256) (n : Fin 5120) :
    projR x md w (ix3 s p n) = RecSpec.pr (fun k => x (ix3 s p k)) (fun n => md (ix3 1 0 n)) (fun k n => w (ix3 0 k n)) n := by
  unfold projR RecSpec.pr RecSpec.act
  pointwise

theorem sigR_at (u : FVec Ideal S32x256x1024 .f32) (s : Fin 32) (p : Fin 256) (n : Fin 1024) : sigR u (ix3 s p n) = RecSpec.sig (u (ix3 s p n)) := by
  unfold sigR RecSpec.sig
  pointwise

theorem lfR_at (l : FVec Ideal S1x1024 .f32) (v : FVec Ideal S32x256x1024 .f32) (s : Fin 32) (p : Fin 256) (n : Fin 1024) :
    lfR l v (ix3 s p n) = Ideal.log (l (ix2 0 n) + (1 - l (ix2 0 n)) * v (ix3 s p n)) := by
  unfold lfR
  pointwise

theorem keyR_at (l : FVec Ideal S1x1024 .f32) (v : FVec Ideal S32x256x1024 .f32) (s : Fin 32) (p : Fin 256) (n : Fin 1024) :
    keyR l v (ix3 s p n) = (1 - l (ix2 0 n)) * v (ix3 s p n) := by
  unfold keyR
  pointwise

theorem rows_at (u : FVec Ideal S32x256x1024 .f32) (r : Fin 8192) (n : Fin 1024) :
    rows u (ix2 r n) = u (ix3 ⟨r.val / 256, by omega⟩ ⟨r.val % 256, Nat.mod_lt _ (Nat.succ_pos 255)⟩ n) := by
  unfold rows
  refine shapeCast_apply u _ _ (ix3 ⟨r.val / 256, by omega⟩ ⟨r.val % 256, Nat.mod_lt _ (Nat.succ_pos 255)⟩ n) ?_
  rw [Shape.rowMajor_val_three, Shape.rowMajor_val_two]
  show (r.val / 256 * 256 + r.val % 256) * 1024 + n.val = r.val * 1024 + n.val
  omega

theorem chans_at (u : FVec Ideal S32x256x1024 .f32) (s : Fin 32) (b : Fin 2) (r : Fin 1024) (q : Fin 128) :
    chans u (ix4 s b r q) = u (ix3 s ⟨128 * b.val + q.val, by omega⟩ r) := by
  have e : chans u (ix4 s b r q) = shapeCast S32x2x128x1024 u shapeCasts_S32x256x1024_S32x2x128x1024 (ix4 s b q r) := by
    unfold chans
    generalize shapeCast S32x2x128x1024 u shapeCasts_S32x256x1024_S32x2x128x1024 = z
    pointwise
  rw [e]
  refine shapeCast_apply u _ _ (ix3 s ⟨128 * b.val + q.val, by omega⟩ r) ?_
  rw [Shape.rowMajor_val_three, Shape.rowMajor_val_four]
  show (s.val * 256 + (128 * b.val + q.val)) * 1024 + r.val = ((s.val * 2 + b.val) * 128 + q.val) * 1024 + r.val
  omega

theorem slice0_at (u : FVec Ideal S32x256x5120 .f32) (s : Fin 32) (p : Fin 256) (n : Fin 1024) :
    extractStridedSlice S32x256x1024 ![0, 0, 0] u slices_S32x256x5120_S32x256x1024_0_0_0 (ix3 s p n) = u (ix3 s p (RecSpec.col 0 n)) := by
  refine congrArg u (funext fun a => Fin.ext ?_)
  fin_cases a
  · exact Nat.zero_add _
  · exact Nat.zero_add _
  · rfl

theorem slice1_at (u : FVec Ideal S32x256x5120 .f32) (s : Fin 32) (p : Fin 256) (n : Fin 1024) :
    extractStridedSlice S32x256x1024 ![0, 0, 1024] u slices_S32x256x5120_S32x256x1024_0_0_1024 (ix3 s p n) = u (ix3 s p (RecSpec.col 1 n)) := by
  refine congrArg u (funext fun a => Fin.ext ?_)
  fin_cases a
  · exact Nat.zero_add _
  · exact Nat.zero_add _
  · rfl

theorem slice2_at (u : FVec Ideal S32x256x5120 .f32) (s : Fin 32) (p : Fin 256) (n : Fin 1024) :
    extractStridedSlice S32x256x1024 ![0, 0, 2048] u slices_S32x256x5120_S32x256x1024_0_0_2048 (ix3 s p n) = u (ix3 s p (RecSpec.col 2 n)) := by
  refine congrArg u (funext fun a => Fin.ext ?_)
  fin_cases a
  · exact Nat.zero_add _
  · exact Nat.zero_add _
  · rfl

theorem slice3_at (u : FVec Ideal S32x256x5120 .f32) (s : Fin 32) (p : Fin 256) (n : Fin 1024) :
    extractStridedSlice S32x256x1024 ![0, 0, 3072] u slices_S32x256x5120_S32x256x1024_0_0_3072 (ix3 s p n) = u (ix3 s p (RecSpec.col 3 n)) := by
  refine congrArg u (funext fun a => Fin.ext ?_)
  fin_cases a
  · exact Nat.zero_add _
  · exact Nat.zero_add _
  · rfl

theorem slice4_at (u : FVec Ideal S32x256x5120 .f32) (s : Fin 32) (p : Fin 256) (n : Fin 1024) :
    extractStridedSlice S32x256x1024 ![0, 0, 4096] u slices_S32x256x5120_S32x256x1024_0_0_4096 (ix3 s p n) = u (ix3 s p (RecSpec.col 4 n)) := by
  refine congrArg u (funext fun a => Fin.ext ?_)
  fin_cases a
  · exact Nat.zero_add _
  · exact Nat.zero_add _
  · rfl

theorem low0_at (l : FVec Ideal S2x1024 .f32) (n : Fin 1024) : extractStridedSlice S1x1024 ![0, 0] l slices_S2x1024_S1x1024_0_0 (ix2 0 n) = l (ix2 0 n) := by
  pointwise

theorem low1_at (l : FVec Ideal S2x1024 .f32) (n : Fin 1024) : extractStridedSlice S1x1024 ![1, 0] l slices_S2x1024_S1x1024_1_0 (ix2 0 n) = l (ix2 1 n) := by
  pointwise

/-- The projection at position `p` of sequence `s`, from the arrays. -/
def prA (x : FVec Ideal S32x256x1024 .f32) (md : FVec Ideal S2x8x3072 .f32) (w : FVec Ideal S1x1024x5120 .f32) (s : Fin 32) (p : Fin 256) (n : Fin 5120) : EReal :=
  RecSpec.pr (fun k => x (ix3 s p k)) (fun n => md (ix3 1 0 n)) (fun k n => w (ix3 0 k n)) n

variable (x : FVec Ideal S32x256x1024 .f32) (md : FVec Ideal S2x8x3072 .f32) (w : FVec Ideal S1x1024x5120 .f32) (l : FVec Ideal S2x1024 .f32)
  (s : Fin 32) (p : Fin 256) (n : Fin 1024)

theorem q_at : mulf (extractStridedSlice S32x256x1024 ![0, 0, 0] (projR x md w) slices_S32x256x5120_S32x256x1024_0_0_0)
    (sigR (extractStridedSlice S32x256x1024 ![0, 0, 0] (projR x md w) slices_S32x256x5120_S32x256x1024_0_0_0)) (ix3 s p n)
      = RecSpec.silu (prA x md w s p (RecSpec.col 0 n)) := by
  have h := (slice0_at (projR x md w) s p n).trans (projR_at x md w s p _)
  exact (congr (congrArg (fun a b : EReal => a * b) h) ((sigR_at _ s p n).trans (congrArg RecSpec.sig h)))

theorem v_at : extractStridedSlice S32x256x1024 ![0, 0, 3072] (projR x md w) slices_S32x256x5120_S32x256x1024_0_0_3072 (ix3 s p n)
      = prA x md w s p (RecSpec.col 3 n) := (slice3_at (projR x md w) s p n).trans (projR_at x md w s p _)

theorem g_at : mulf (extractStridedSlice S32x256x1024 ![0, 0, 4096] (projR x md w) slices_S32x256x5120_S32x256x1024_0_0_4096)
    (sigR (extractStridedSlice S32x256x1024 ![0, 0, 4096] (projR x md w) slices_S32x256x5120_S32x256x1024_0_0_4096)) (ix3 s p n)
      = RecSpec.silu (prA x md w s p (RecSpec.col 4 n)) := by
  have h := (slice4_at (projR x md w) s p n).trans (projR_at x md w s p _)
  exact (congr (congrArg (fun a b : EReal => a * b) h) ((sigR_at _ s p n).trans (congrArg RecSpec.sig h)))

theorem lf_fw_at : lfR (extractStridedSlice S1x1024 ![0, 0] l slices_S2x1024_S1x1024_0_0) (sigR (extractStridedSlice S32x256x1024 ![0, 0, 1024] (projR x md w) slices_S32x256x5120_S32x256x1024_0_0_1024)) (ix3 s p n)
      = RecSpec.lf (l (ix2 0 n)) (prA x md w s p (RecSpec.col 1 n)) := by
  have h := (slice1_at (projR x md w) s p n).trans (projR_at x md w s p _)
  refine (lfR_at _ _ s p n).trans ?_
  rw [low0_at, sigR_at, h]
  rfl

theorem key_fw_at : keyR (extractStridedSlice S1x1024 ![0, 0] l slices_S2x1024_S1x1024_0_0) (sigR (Host.negf (extractStridedSlice S32x256x1024 ![0, 0, 1024] (projR x md w) slices_S32x256x5120_S32x256x1024_0_0_1024))) (ix3 s p n)
      = RecSpec.key (l (ix2 0 n)) (prA x md w s p (RecSpec.col 1 n)) := by
  have h := (slice1_at (projR x md w) s p n).trans (projR_at x md w s p _)
  refine (keyR_at _ _ s p n).trans ?_
  rw [low0_at, sigR_at]
  exact congrArg (fun z : EReal => (1 - l (ix2 0 n)) * RecSpec.sig (-z)) h

theorem lf_bw_at : lfR (extractStridedSlice S1x1024 ![1, 0] l slices_S2x1024_S1x1024_1_0) (sigR (extractStridedSlice S32x256x1024 ![0, 0, 2048] (projR x md w) slices_S32x256x5120_S32x256x1024_0_0_2048)) (ix3 s p n)
      = RecSpec.lf (l (ix2 1 n)) (prA x md w s p (RecSpec.col 2 n)) := by
  have h := (slice2_at (projR x md w) s p n).trans (projR_at x md w s p _)
  refine (lfR_at _ _ s p n).trans ?_
  rw [low1_at, sigR_at, h]
  rfl

theorem key_bw_at : keyR (extractStridedSlice S1x1024 ![1, 0] l slices_S2x1024_S1x1024_1_0) (sigR (Host.negf (extractStridedSlice S32x256x1024 ![0, 0, 2048] (projR x md w) slices_S32x256x5120_S32x256x1024_0_0_2048))) (ix3 s p n)
      = RecSpec.key (l (ix2 1 n)) (prA x md w s p (RecSpec.col 2 n)) := by
  have h := (slice2_at (projR x md w) s p n).trans (projR_at x md w s p _)
  refine (keyR_at _ _ s p n).trans ?_
  rw [low1_at, sigR_at]
  exact congrArg (fun z : EReal => (1 - l (ix2 1 n)) * RecSpec.sig (-z)) h

end Cert.Reference2Ideal.At

end
-- ==== Proof.RecClaims.lean ====
module

public import proofs.«01_k».proof.Proof.RecOut
public import proofs.«01_k».proof.Proof.RecRef
public import proofs.«01_k».proof.Defs
public import proofs.«01_k».proof.Proof.Gen.Kernel2.Frame
public import Idealize.ShloMosaic.Lib.Quiescent

/-! The certificate's conjuncts about the gated projection. -/

@[expose] public section

set_option maxRecDepth 16384

noncomputable section

namespace Cert.Proof

open Idealize.ShloMosaic Idealize.ShloMosaic.TcCoe Idealize.SL.Sem

theorem frame_p2 : Cert.quiescent_Kernel2 := fun m ρ _ => Cert.Kernel2.Gen.frame m ρ
theorem frame_pi2 : Cert.quiescent_Kernel2Ideal := fun m ρ _ => Cert.Kernel2Ideal.Gen.frame m ρ

theorem frame_ri2 : Cert.quiescent_Reference2Ideal := fun m ρ _ =>
  (θ_run Cert.Reference2Ideal.defs _ _).mono (fun r h => ⟨fun c => (h c).2.2.2.2.2.2.2, Idealize.ShloMosaic.sem_eq_zero_of_no_sems (by decide) r.2⟩)
    (Cert.Reference2Ideal.Value.run (F := Ideal) m ρ)

theorem preserves2 : Cert.preserves_Kernel2_Kernel2Ideal := trivial

section Layouts

open Cert.Reference2Ideal Cert.Reference2Ideal.At

/-- The reference's rows are the kernel's. -/
theorem rows_eq (u : FVec Ideal S32x256x1024 .f32) (f : Fin 32 → Fin 256 → Fin 1024 → EReal) (h : ∀ s p n, u (ix3 s p n) = f s p n) :
    rows u = Cert.Kernel2Ideal.Blk.inRows f := by
  funext i
  rw [ValueIdx.eq_ix2 i]
  exact (rows_at u (i 0) (i 1)).trans (h _ _ _)

/-- The reference's blocks of channels are the kernel's. -/
theorem chans_eq (u : FVec Ideal S32x256x1024 .f32) (f : Fin 32 → Fin 256 → Fin 1024 → EReal) (h : ∀ s p n, u (ix3 s p n) = f s p n) :
    chans u = Cert.Kernel2Ideal.Blk.inChans f := by
  funext i
  rw [ValueIdx.eq_ix4 i]
  exact (chans_at u (i 0) (i 1) (i 2) (i 3)).trans (h _ _ _)

end Layouts

theorem algebraic2 : Cert.algebraic_Kernel2Ideal_Reference2Ideal := by
  intro m ρ m' ρ' _ hagree
  refine ⟨fun c => (Cert.Kernel2Ideal.Gen.dats m 0 c).arrAt 4 Cert.Kernel2Ideal.cfg0.N, fun c => (Cert.Kernel2Ideal.Gen.dats m 0 c).arrAt 5 Cert.Kernel2Ideal.cfg0.N,
    fun c => (Cert.Kernel2Ideal.Gen.dats m 0 c).arrAt 6 Cert.Kernel2Ideal.cfg0.N, fun c => (Cert.Kernel2Ideal.Gen.dats m 0 c).arrAt 7 Cert.Kernel2Ideal.cfg0.N,
    fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, Cert.Kernel2Ideal.Value.run_blocks m ρ, ?_⟩
  refine (θ_run Cert.Reference2Ideal.defs _ _).mono (fun r h c => ?_) (Cert.Reference2Ideal.Value.run (F := Ideal) m' ρ')
  obtain ⟨a0, a1, a2, a3⟩ := hagree c
  obtain ⟨h0, h1, h2, h3, h4, h5, h6, hk⟩ := h c
  have hpr : ∀ s p n, Cert.Reference2Ideal.At.prA (m' (c, Cert.Reference2Ideal.main_arg0)) (m' (c, Cert.Reference2Ideal.main_arg1)) (m' (c, Cert.Reference2Ideal.main_arg2)) s p n
      = Cert.Kernel2Ideal.Blk.prM m c s p n := fun s p n => by
    have e0 := fun k : Fin 1024 => congrFun a0 (ix3 s p k)
    have e1 := fun k : Fin 3072 => congrFun a1 (ix3 1 0 k)
    have e2 := fun (k : Fin 1024) (n : Fin 5120) => congrFun a2 (ix3 0 k n)
    exact congrFun (congr (congr (congrArg Cert.RecSpec.pr (funext e0)) (funext e1)) (funext fun k => funext fun n => e2 k n)) n
  have hl := fun (d : Fin 2) (n : Fin 1024) => congrFun a3 (ix2 d n)
  refine ⟨h0.trans ?_, h1.trans ?_, h2.trans ?_, h3.trans ?_, h4.trans ?_, h5.trans ?_, h6.trans ?_, hk⟩
  · exact Eq.trans (chans_eq _ _ fun s p n => (Cert.Reference2Ideal.At.q_at _ _ _ s p n).trans (congrArg Cert.RecSpec.silu (hpr s p _)))
      (Cert.Kernel2Ideal.Blk.arr4 m c).symm
  · exact Eq.trans (rows_eq _ _ fun s p n => (Cert.Reference2Ideal.At.v_at _ _ _ s p n).trans (hpr s p _)) (Cert.Kernel2Ideal.Blk.arr5 m c).symm
  · exact Eq.trans (rows_eq _ _ fun s p n => (Cert.Reference2Ideal.At.g_at _ _ _ s p n).trans (congrArg Cert.RecSpec.silu (hpr s p _)))
      (Cert.Kernel2Ideal.Blk.arr6 m c).symm
  · exact Eq.trans (rows_eq _ _ fun s p n => (Cert.Reference2Ideal.At.lf_fw_at _ _ _ _ s p n).trans
      (congr (congrArg Cert.RecSpec.lf (hl 0 n)) (hpr s p _))) (Cert.Kernel2Ideal.Blk.arr7 m c).symm
  · exact Eq.trans (rows_eq _ _ fun s p n => (Cert.Reference2Ideal.At.lf_bw_at _ _ _ _ s p n).trans
      (congr (congrArg Cert.RecSpec.lf (hl 1 n)) (hpr s p _))) (Cert.Kernel2Ideal.Blk.arr8 m c).symm
  · exact Eq.trans (chans_eq _ _ fun s p n => (Cert.Reference2Ideal.At.key_fw_at _ _ _ _ s p n).trans
      (congr (congrArg Cert.RecSpec.key (hl 0 n)) (hpr s p _))) (Cert.Kernel2Ideal.Blk.arr9 m c).symm
  · exact Eq.trans (chans_eq _ _ fun s p n => (Cert.Reference2Ideal.At.key_bw_at _ _ _ _ s p n).trans
      (congr (congrArg Cert.RecSpec.key (hl 1 n)) (hpr s p _))) (Cert.Kernel2Ideal.Blk.arr10 m c).symm

end Cert.Proof

end
-- ==== Proof.OutBlock.lean ====
module

public import proofs.«01_k».proof.Proof.Gen.Kernel3Ideal.Value
public import Idealize.ShloMosaic.Lib.Pipeline.ValueKit
public import Idealize.ShloMosaic.Lib.Pipeline.ReadBack

/-! The output projection's body as a function of its input blocks, 1024 rows in chunks of 256: `o` the recurrence's rows,
`sg` their gates, `x` the residual's rows, `md` the modulation row, `ng` the head norm's gain, `w` the projection,
`lg`/`lb` the layer norm's gain and bias. -/

@[expose] public section

set_option maxRecDepth 16384

noncomputable section

namespace Cert.Kernel3Ideal.Blk

open Cert.Kernel3Ideal Cert.Kernel3Ideal.Gen Idealize.ShloMosaic Idealize.ShloMosaic.TcCoe Idealize.SL.Sem

variable {F : FTy → Type} [FloatOps F]

theorem inb_head (r h : ℕ) : ∀ a, ![256 * (r % 4), 128 * (h % 8)] a + ![256, 128] a ≤ S1024x1024.size a := by
  intro a; fin_cases a <;> simp <;> omega

theorem inb_chunk (r : ℕ) : ∀ a, ![256 * (r % 4), 0] a + ![256, 1024] a ≤ S1024x1024.size a := by
  intro a; fin_cases a <;> simp; omega

theorem inb_full : ∀ a, ![0, 0] a + ![1024, 1024] a ≤ S1024x1024.size a := by
  intro a; fin_cases a <;> simp

theorem inb_gain : ∀ a, ![0, 0] a + ![1, 128] a ≤ S1x128.size a := by
  intro a; fin_cases a <;> simp

theorem inb_row : ∀ a, ![0, 0] a + ![1, 1024] a ≤ S1x1024.size a := by
  intro a; fin_cases a <;> simp

theorem inb_mod : ∀ a, ![0, 0, 0, 0] a + ![1, 1, 1, 3072] a ≤ S1x1x1x3072.size a := by
  intro a; fin_cases a <;> simp

/-- One head under its RMS norm. -/
def headNorm (u : FVec F S256x128 .f32) (g : Vec F S1x128 .f32) : FVec F S256x128 .f32 :=
  mulf (mulf u (broadcastTo S256x128 (rsqrt (addf (divf (shapeCast S256x1 (multiReduction .add [1] S256 (mulf u u) 0x00000000#32 reduces_S256x128_S256 (.inl rfl) rfl)
      shapeCasts_S256_S256x1) (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

/-- Head `h` of chunk `r`. -/
def headC (o : Vec F S1024x1024 .f32) (r h : ℕ) : FVec F S256x128 .f32 :=
  shapeCast S256x128 (View.ld o (Rect.unit ![256 * (r % 4), 128 * (h % 8)] ![256, 128] (inb_head r h))) shapeCasts_S256x128_S256x128

/-- Chunk `r` of the rows. -/
def chunk {e : EltTy} (a : Vec F S1024x1024 e) (r : ℕ) : Vec F S256x1024 e :=
  View.ld a (Rect.unit ![256 * (r % 4), 0] ![256, 1024] (inb_chunk r))

/-- Eight heads of 128 lanes, side by side. -/
def stack (p : ℕ → FVec F S256x128 .f32) : FVec F S256x1024 .f32 :=
  concatenate S256x1024 1 [⟨S256x128, p 0⟩, ⟨S256x128, p 1⟩, ⟨S256x128, p 2⟩, ⟨S256x128, p 3⟩, ⟨S256x128, p 4⟩, ⟨S256x128, p 5⟩, ⟨S256x128, p 6⟩, ⟨S256x128, p 7⟩]
    concatenates_S256x128_S256x128_S256x128_S256x128_S256x128_S256x128_S256x128_S256x128_S256x1024_d1

/-- The residual plus the gated branch. -/
def resid (u : FVec F S256x1024 .f32) (sg : Vec F S256x1024 .bf16) (x : Vec F S256x1024 .f32) (md : Vec F S1x1x1x3072 .f32) (w : Vec F S1024x1024 .bf16) :
    FVec F S256x1024 .f32 :=
  addf (mulf (broadcast S256x1024 (Scalar.ofBits .f32 0x3FB504F3#32)) (shapeCast S256x1024 x shapeCasts_S256x1024_S256x1024))
    (mulf (broadcastTo S256x1024 (extractStridedSlice S1x1024 ![0, 2048] (shapeCast S1x3072 md shapeCasts_S1x1x1x3072_S1x3072) slices_S1x3072_o0_2048_S1x1024)
        broadcasts_S1x1024_S256x1024)
      (matmul dot_S256x1024_S1024x1024_S256x1024_1_0_0_1_n_n none
        (truncf .bf16 (mulf u (extf .f32 (shapeCast S256x1024 sg shapeCasts_S256x1024_S256x1024) bitsLt_bf16_f32)) bitsLt_bf16_f32)
        (shapeCast S1024x1024 w shapeCasts_S1024x1024_S1024x1024) (constant S256x1024 .f32 0x00000000#32)))

/-- A row's mean. -/
def rowMean (y : FVec F S256x1024 .f32) : FVec F S256x1 .f32 :=
  divf (shapeCast S256x1 (multiReduction .add [1] S256 y 0x00000000#32 reduces_S256x1024_S256 (.inl rfl) rfl) shapeCasts_S256_S256x1)
    (broadcast S256x1 (Scalar.ofBits .f32 0x44800000#32))

/-- The rows less their means. -/
def centred (y : FVec F S256x1024 .f32) : FVec F S256x1024 .f32 :=
  subf y (broadcastTo S256x1024 (rowMean y) broadcasts_S256x1_S256x1024)

/-- The layer norm of the rows. -/
def layerNorm (y : FVec F S256x1024 .f32) (lg lb : Vec F S1x1024 .f32) : FVec F S256x1024 .f32 :=
  addf (mulf (mulf (centred y) (broadcastTo S256x1024 (rsqrt (addf (rowMean (mulf (centred y) (centred y)))
      (broadcast S256x1 (Scalar.ofBits .f32 0x3727C5AC#32)))) broadcasts_S256x1_S256x1024))
    (broadcastTo S256x1024 (shapeCast S1x1024 lg shapeCasts_S1x1024_S1x1024) broadcasts_S1x1024_S256x1024))
    (broadcastTo S256x1024 (shapeCast S1x1024 lb shapeCasts_S1x1024_S1x1024) broadcasts_S1x1024_S256x1024)

section

variable (o : Vec F S1024x1024 .f32) (sg : Vec F S1024x1024 .bf16) (x : Vec F S1024x1024 .f32) (md : Vec F S1x1x1x3072 .f32) (ng : Vec F S1x128 .f32)
  (w : Vec F S1024x1024 .bf16) (lg lb : Vec F S1x1024 .f32)

/-- The output's chunk `r`. -/
def yC (r : ℕ) : FVec F S256x1024 .f32 :=
  layerNorm (resid (stack fun h => headNorm (headC o r h) (View.ld ng (Rect.unit ![0, 0] ![1, 128] inb_gain))) (chunk sg r) (chunk x r)
      (View.ld md (Rect.unit ![0, 0, 0, 0] ![1, 1, 1, 3072] inb_mod)) (View.ld w (Rect.unit ![0, 0] ![1024, 1024] inb_full)))
    (View.ld lg (Rect.unit ![0, 0] ![1, 1024] inb_row)) (View.ld lb (Rect.unit ![0, 0] ![1, 1024] inb_row))

/-- The first `n` chunks stored. -/
def pieces (p : ℕ → FVec F S256x1024 .f32) : ℕ → List (View.Piece (Elt F) S1024x1024 .f32)
  | 0 => []
  | n + 1 => ⟨Rect.unit ![256 * (n % 4), 0] ![256, 1024] (inb_chunk n), p n⟩ :: pieces p n

theorem out8_eq : out0_8 o sg x md ng w lg lb = View.canon (pieces (yC o sg x md ng w lg lb) 4) := by
  unfold_out out0_8
  rfl

end

end Cert.Kernel3Ideal.Blk

end
-- ==== Proof.OutSpec.lean ====
module

public import proofs.«01_k».proof.Proof.Norm

/-! The recurrence's output projection under its residual and layer norm, on extended reals: one row at a time. -/

@[expose] public section

noncomputable section

namespace Cert.OutSpec

open Idealize.ShloMosaic

/-- Lane `k` of the head that holds lane `n`. -/
def mate (n : Fin 1024) (k : Fin 128) : Fin 1024 := ⟨128 * (n.val / 128) + k.val, by omega⟩

/-- The place of lane `n` in its head. -/
def place (n : Fin 1024) : Fin 128 := ⟨n.val % 128, Nat.mod_lt _ (Nat.succ_pos 127)⟩

/-- A row whose heads of 128 lanes are each under their RMS norm with gain `g`. -/
def heads (u : Fin 1024 → EReal) (g : Fin 128 → EReal) (n : Fin 1024) : EReal :=
  u n * Ideal.rsqrt (Ideal.div (∑ k, u (mate n k) * u (mate n k)) (Ideal.ofBits .f32 0x43000000#32) + Ideal.ofBits .f32 0x358637BD#32) * g (place n)

/-- The layer's output row: `o` the recurrence's row, `s` its gates, `x` the residual's row, `gt` the modulation's gate. -/
def out (o s x gt : Fin 1024 → EReal) (g : Fin 128 → EReal) (w : Fin 1024 → Fin 1024 → EReal) (lg lb : Fin 1024 → EReal) (j : Fin 1024) : EReal :=
  Spec.lnorm (Spec.resid x gt (fun n => heads o g n * s n) w) lg lb j

/-- An array of rows, one a position of one of the sequences of 256. -/
def inRows (f : Fin 32 → Fin 256 → Fin 1024 → EReal) (i : (⟨2, ![8192, 1024]⟩ : Shape).Idx) : EReal :=
  f ⟨(i 0).val / 256, Nat.div_lt_of_lt_mul (i 0).isLt⟩ ⟨(i 0).val % 256, Nat.mod_lt _ (Nat.succ_pos 255)⟩ (i 1)

/-- An array of rows, one a position of one of the sequences of 1024. -/
def inSeqs (f : Fin 4 → Fin 1024 → Fin 1024 → EReal) (i : (⟨2, ![4096, 1024]⟩ : Shape).Idx) : EReal :=
  f ⟨(i 0).val / 1024, Nat.div_lt_of_lt_mul (i 0).isLt⟩ ⟨(i 0).val % 1024, Nat.mod_lt _ (Nat.succ_pos 1023)⟩ (i 1)

end Cert.OutSpec

end
-- ==== Proof.OutRows.lean ====
module

public import proofs.«01_k».proof.Proof.OutBlock
public import proofs.«01_k».proof.Proof.OutSpec

/-! The output projection's body at an index. -/

@[expose] public section

set_option maxRecDepth 16384

noncomputable section

namespace Cert.Kernel3Ideal.Blk

open Cert.Kernel3Ideal Cert.Kernel3Ideal.Gen Idealize.ShloMosaic Idealize.ShloMosaic.TcCoe Idealize.SL.Sem

theorem ld_gain (v : Vec Ideal S1x128 .f32) : View.ld (Val := Elt Ideal) v (Rect.unit ![0, 0] ![1, 128] inb_gain) = v := by
  funext j
  unfold View.ld
  refine congrArg v (funext fun a => Fin.ext ?_)
  fin_cases a
  · show 0 + 1 * (j 0).val = (j 0).val
    omega
  · show 0 + 1 * (j 1).val = (j 1).val
    omega

theorem ld_row (v : Vec Ideal S1x1024 .f32) : View.ld (Val := Elt Ideal) v (Rect.unit ![0, 0] ![1, 1024] inb_row) = v := by
  funext j
  unfold View.ld
  refine congrArg v (funext fun a => Fin.ext ?_)
  fin_cases a
  · show 0 + 1 * (j 0).val = (j 0).val
    omega
  · show 0 + 1 * (j 1).val = (j 1).val
    omega

theorem ld_full (v : Vec Ideal S1024x1024 .bf16) : View.ld (Val := Elt Ideal) v (Rect.unit ![0, 0] ![1024, 1024] inb_full) = v := by
  funext j
  unfold View.ld
  refine congrArg v (funext fun a => Fin.ext ?_)
  fin_cases a
  · show 0 + 1 * (j 0).val = (j 0).val
    omega
  · show 0 + 1 * (j 1).val = (j 1).val
    omega

theorem ld_mod (v : Vec Ideal S1x1x1x3072 .f32) : View.ld (Val := Elt Ideal) v (Rect.unit ![0, 0, 0, 0] ![1, 1, 1, 3072] inb_mod) = v := by
  funext j
  unfold View.ld
  refine congrArg v (funext fun a => Fin.ext ?_)
  fin_cases a
  · show 0 + 1 * (j 0).val = (j 0).val
    omega
  · show 0 + 1 * (j 1).val = (j 1).val
    omega
  · show 0 + 1 * (j 2).val = (j 2).val
    omega
  · show 0 + 1 * (j 3).val = (j 3).val
    omega

theorem chunk_at {e : EltTy} (a : Vec Ideal S1024x1024 e) (r : ℕ) (hr : r < 4) (i : Fin 256) (j : Fin 1024) :
    chunk a r (ix2 i j) = a (ix2 ⟨256 * r + i.val, by omega⟩ j) := by
  have hm : r % 4 = r := Nat.mod_eq_of_lt hr
  unfold chunk View.ld
  refine congrArg a (funext fun b => Fin.ext ?_)
  fin_cases b
  · show 256 * (r % 4) + 1 * i.val = 256 * r + i.val
    omega
  · show 0 + 1 * j.val = j.val
    omega

theorem headC_at (o : Vec Ideal S1024x1024 .f32) (r h : ℕ) (hr : r < 4) (hh : h < 8) (i : Fin 256) (d : Fin 128) :
    headC o r h (ix2 i d) = o (ix2 ⟨256 * r + i.val, by omega⟩ ⟨128 * h + d.val, by omega⟩) := by
  have hm : r % 4 = r := Nat.mod_eq_of_lt hr
  have hn : h % 8 = h := Nat.mod_eq_of_lt hh
  unfold headC
  refine (shapeCast_apply _ _ _ (ix2 i d) rfl).trans ?_
  unfold View.ld
  refine congrArg o (funext fun b => Fin.ext ?_)
  fin_cases b
  · show 256 * (r % 4) + 1 * i.val = 256 * r + i.val
    omega
  · show 128 * (h % 8) + 1 * d.val = 128 * h + d.val
    omega

theorem headNorm_at (u : FVec Ideal S256x128 .f32) (g : Vec Ideal S1x128 .f32) (i : Fin 256) (d : Fin 128) :
    headNorm u g (ix2 i d) = u (ix2 i d) * Ideal.rsqrt (Ideal.div (∑ k, u (ix2 i k) * u (ix2 i k)) (Ideal.ofBits .f32 0x43000000#32) + Ideal.ofBits .f32 0x358637BD#32)
      * g (ix2 0 d) := by
  unfold headNorm
  pointwise

theorem stack_cases (p : ℕ → FVec Ideal S256x128 .f32) (i : Fin 256) (n : Fin 1024) (h d : ℕ) (hd : d < 128) (e : n.val = 128 * h + d) :
    p h (ix2 i ⟨d, hd⟩) = p (n.val / 128) (ix2 i (OutSpec.place n)) := by
  have h1 : n.val / 128 = h := by omega
  have h2 : OutSpec.place n = ⟨d, hd⟩ := Fin.ext (by show n.val % 128 = d; omega)
  rw [h1, h2]

theorem stack_at (p : ℕ → FVec Ideal S256x128 .f32) (i : Fin 256) (n : Fin 1024) :
    stack p (ix2 i n) = p (n.val / 128) (ix2 i (OutSpec.place n)) := by
  have hn := n.isLt
  unfold stack
  pointwise
  repeat' split
  all_goals exact stack_cases p i n _ _ _ (by omega)

theorem rowMean_at (y : FVec Ideal S256x1024 .f32) (i : Fin 256) : rowMean (F := Ideal) y (ix2 i 0) = Spec.mean fun k => y (ix2 i k) := by
  unfold rowMean Spec.mean
  pointwise

theorem centred_at (y : FVec Ideal S256x1024 .f32) (i : Fin 256) (j : Fin 1024) :
    centred (F := Ideal) y (ix2 i j) = y (ix2 i j) - Spec.mean fun k => y (ix2 i k) := by
  unfold centred
  rw [← rowMean_at]
  generalize rowMean (F := Ideal) y = w
  pointwise

theorem layerNorm_at (y : FVec Ideal S256x1024 .f32) (lg lb : Vec Ideal S1x1024 .f32) (i : Fin 256) (j : Fin 1024) :
    layerNorm (F := Ideal) y lg lb (ix2 i j) = Spec.lnorm (fun k => y (ix2 i k)) (fun k => lg (ix2 0 k)) (fun k => lb (ix2 0 k)) j := by
  have hm := rowMean_at (mulf (centred y) (centred y)) i
  have hd : ∀ k, mulf (centred (F := Ideal) y) (centred y) (ix2 i k) = centred (F := Ideal) y (ix2 i k) * centred (F := Ideal) y (ix2 i k) := fun k => rfl
  simp only [hd, centred_at] at hm
  unfold Spec.lnorm
  rw [← hm, ← centred_at]
  unfold layerNorm
  generalize rowMean (F := Ideal) _ = w
  generalize centred (F := Ideal) y = v
  pointwise

theorem resid_at (u : FVec Ideal S256x1024 .f32) (sg : Vec Ideal S256x1024 .bf16) (x : Vec Ideal S256x1024 .f32) (md : Vec Ideal S1x1x1x3072 .f32)
    (w : Vec Ideal S1024x1024 .bf16) (i : Fin 256) (j : Fin 1024) :
    resid (F := Ideal) u sg x md w (ix2 i j)
      = Spec.resid (fun k => x (ix2 i k)) (fun k => md (ix4 0 0 0 ⟨2048 + k.val, by omega⟩)) (fun n => u (ix2 i n) * sg (ix2 i n)) (fun n k => w (ix2 n k)) j := by
  unfold resid Spec.resid
  pointwise

section

variable (o : Vec Ideal S1024x1024 .f32) (sg : Vec Ideal S1024x1024 .bf16) (x : Vec Ideal S1024x1024 .f32) (md : Vec Ideal S1x1x1x3072 .f32) (ng : Vec Ideal S1x128 .f32)
  (w : Vec Ideal S1024x1024 .bf16) (lg lb : Vec Ideal S1x1024 .f32)

/-- The output block's row `i`. -/
def yRow (i : Fin 1024) (j : Fin 1024) : EReal :=
  OutSpec.out (fun k => o (ix2 i k)) (fun k => sg (ix2 i k)) (fun k => x (ix2 i k)) (fun k => md (ix4 0 0 0 ⟨2048 + k.val, by omega⟩)) (fun k => ng (ix2 0 k))
    (fun n k => w (ix2 n k)) (fun k => lg (ix2 0 k)) (fun k => lb (ix2 0 k)) j

theorem heads_at (r : ℕ) (hr : r < 4) (i : Fin 256) (n : Fin 1024) :
    stack (fun h => headNorm (headC o r h) ng) (ix2 i n)
      = OutSpec.heads (fun k => o (ix2 ⟨256 * r + i.val, by omega⟩ k)) (fun k => ng (ix2 0 k)) n := by
  have hh : n.val / 128 < 8 := by omega
  have hl : (⟨128 * (n.val / 128) + (OutSpec.place n).val, by have := (OutSpec.place n).isLt; omega⟩ : Fin 1024) = n := Fin.ext (Nat.div_add_mod n.val 128)
  rw [stack_at, headNorm_at]
  simp only [headC_at o r _ hr hh]
  rw [hl]
  rfl

theorem yC_at (r : ℕ) (hr : r < 4) (i : Fin 256) (j : Fin 1024) :
    yC o sg x md ng w lg lb r (ix2 i j) = yRow o sg x md ng w lg lb ⟨256 * r + i.val, by omega⟩ j := by
  unfold yC yRow OutSpec.out
  rw [ld_gain, ld_mod, ld_full, ld_row, ld_row]
  refine (layerNorm_at _ lg lb i j).trans (congrArg (fun q => Spec.lnorm q _ _ j) (funext fun k => ?_))
  refine (resid_at _ _ _ md w i k).trans ?_
  simp only [chunk_at _ r hr, heads_at o ng r hr]

/-- The stored chunks read at a row below the `n`-th chunk. -/
theorem canon_pieces (p : ℕ → FVec Ideal S256x1024 .f32) (y : S1024x1024.Idx) :
    ∀ n ≤ 4, (y 0).val < 256 * n →
      View.canon (pieces p n) y = p ((y 0).val / 256) (ix2 ⟨(y 0).val % 256, Nat.mod_lt _ (by decide)⟩ (y 1))
  | 0, _, h => absurd h (by omega)
  | n + 1, hn, h => by
    have hm : n % 4 = n := Nat.mod_eq_of_lt (by omega)
    by_cases hlt : (y 0).val < 256 * n
    · refine Eq.trans ?_ (canon_pieces p y n (by omega) hlt)
      refine View.canon_cons_of_not_mem _ _ (Rect.not_mem_set_of_axis _ y (0 : Fin 2) (256 * (n % 4)) 256 rfl rfl rfl (.inl ?_))
      rw [hm]; omega
    · have hx := Rect.emb_eq_of_coords (Rect.unit (s := S1024x1024) ![256 * (n % 4), 0] ![256, 1024] (inb_chunk n))
        (ix2 (n0 := 256) (n1 := 1024) ⟨(y 0).val - 256 * n, by omega⟩ (y 1)) y (fun a => by
        fin_cases a
        · show (y 0).val = 256 * (n % 4) + 1 * ((y 0).val - 256 * n); omega
        · show (y 1).val = 0 + 1 * (y 1).val; omega)
      have hd : (y 0).val / 256 = n := by omega
      have hz : (⟨(y 0).val % 256, Nat.mod_lt _ (by decide)⟩ : Fin 256) = ⟨(y 0).val - 256 * n, by omega⟩ := Fin.ext (by simp; omega)
      rw [hd, hz]
      refine Eq.trans (congrArg _ hx.symm) ?_
      exact View.canon_cons_emb _ _ _ _

theorem out8_at (i j : Fin 1024) : out0_8 o sg x md ng w lg lb (ix2 i j) = yRow o sg x md ng w lg lb i j := by
  have hi := i.isLt
  rw [out8_eq]
  refine (canon_pieces _ (ix2 i j) 4 le_rfl hi).trans ?_
  refine (yC_at o sg x md ng w lg lb (i.val / 256) (by omega) ⟨i.val % 256, Nat.mod_lt _ (Nat.succ_pos 255)⟩ j).trans ?_
  exact congrArg (fun q => yRow o sg x md ng w lg lb q j) (Fin.ext (Nat.div_add_mod i.val 256))

end

end Cert.Kernel3Ideal.Blk

end
-- ==== Proof.OutOut.lean ====
module

public import proofs.«01_k».proof.Proof.OutRows
public import Idealize.ShloMosaic.Lib.StableHlo.ReadAt

/-! The output projection's input blocks as elements of the arguments, and its result array after the run. -/

@[expose] public section

set_option maxRecDepth 16384

noncomputable section

namespace Cert.Kernel3Ideal.Blk

open Cert.Kernel3Ideal Cert.Kernel3Ideal.Gen Idealize.ShloMosaic Idealize.ShloMosaic.TcCoe Idealize.SL.Sem

variable (m : (ℓ : Loc nD τ sig) → Buf (Elt Ideal) ℓ) (c : Dev nD) (t : Fin cfg0.N)

/-- The sequence the block's row `i` is of, and its position there. -/
def rowSeq (t : Fin cfg0.N) (i : Fin 1024) : Fin 32 := ⟨4 * t.val + i.val / 256, by have : t.val < 8 := t.isLt; have := i.isLt; omega⟩
def rowPos (i : Fin 1024) : Fin 256 := ⟨i.val % 256, Nat.mod_lt _ (Nat.succ_pos 255)⟩

theorem row_lt (t : Fin cfg0.N) (i : Fin 1024) : 1024 * t.val + i.val < 8192 := by
  have h : t.val < 8 := t.isLt
  omega

/-- The array's row that the block's row `i` is. -/
def rowOf (t : Fin cfg0.N) (i : Fin 1024) : Fin 8192 := ⟨1024 * t.val + i.val, row_lt t i⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![1, 0, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel

theorem iblk0 (i : Fin 1024) (j : Fin 1024) : iblk m c 0 t (ix2 i j) = m (c, main_arg0) (ix3 (rowSeq t i) (rowPos i) j) := by
  blk_simp [iblk, idx0]
  unfold V
  after_reads_at
  have e : ((View.whole main_v0).slice (win0_0.rect t)).emb (ix2 i j) = ix2 (n0 := 8192) (n1 := 1024) ⟨1024 * t.val + i.val, row_lt t i⟩ j := by
    blk_ext [idx0]
  simp only [e]
  refine congrArg (m (c, main_arg0)) (funext fun a => Fin.ext ?_)
  fin_cases a
  · show (1024 * t.val + i.val) / 256 = 4 * t.val + i.val / 256
    omega
  · show (1024 * t.val + i.val) % 256 = i.val % 256
    omega
  · rfl

theorem iblk1 (i : Fin 1024) (j : Fin 1024) : iblk m c 1 t (ix2 i j) = m (c, main_arg1) (ix3 (rowSeq t i) (rowPos i) j) := by
  blk_simp [iblk, idx1]
  unfold V
  after_reads_at
  have e : ((View.whole main_v1).slice (win0_1.rect t)).emb (ix2 i j) = ix2 (n0 := 8192) (n1 := 1024) ⟨1024 * t.val + i.val, row_lt t i⟩ j := by
    blk_ext [idx1]
  simp only [e]
  refine congrArg (m (c, main_arg1)) (funext fun a => Fin.ext ?_)
  fin_cases a
  · show (1024 * t.val + i.val) / 256 = 4 * t.val + i.val / 256
    omega
  · show (1024 * t.val + i.val) % 256 = i.val % 256
    omega
  · rfl

theorem iblk2 (i : Fin 1024) (j : Fin 1024) : iblk m c 2 t (ix2 i j) = m (c, main_arg2) (ix3 (rowSeq t i) (rowPos i) j) := by
  blk_simp [iblk, idx2]
  unfold V
  after_reads_at
  have e : ((View.whole main_v2).slice (win0_2.rect t)).emb (ix2 i j) = ix2 (n0 := 8192) (n1 := 1024) ⟨1024 * t.val + i.val, row_lt t i⟩ j := by
    blk_ext [idx2]
  simp only [e]
  refine congrArg (m (c, main_arg2)) (funext fun a => Fin.ext ?_)
  fin_cases a
  · show (1024 * t.val + i.val) / 256 = 4 * t.val + i.val / 256
    omega
  · show (1024 * t.val + i.val) % 256 = i.val % 256
    omega
  · rfl

theorem iblk3 (n : Fin 3072) : iblk m c 3 t (ix4 0 0 0 n) = m (c, main_arg3) (ix3 1 0 n) := by
  blk_simp [iblk, idx3]
  unfold V
  after_reads_at
  blk_ext [idx3]

theorem iblk4 (n : Fin 128) : iblk m c 4 t (ix2 0 n) = m (c, main_arg4) (ix2 0 n) := by
  blk_simp [iblk, idx4]
  unfold V
  after_reads_at
  blk_ext [idx4]

theorem iblk5 (k n : Fin 1024) : iblk m c 5 t (ix2 k n) = m (c, main_arg5) (ix3 0 k n) := by
  blk_simp [iblk, idx5]
  unfold V
  after_reads_at
  blk_ext [idx5]

theorem iblk6 (n : Fin 1024) : iblk m c 6 t (ix2 0 n) = m (c, main_arg6) (ix2 1 n) := by
  blk_simp [iblk, idx6]
  unfold V
  after_reads_at
  blk_ext [idx6]

theorem iblk7 (n : Fin 1024) : iblk m c 7 t (ix2 0 n) = m (c, main_arg7) (ix2 1 n) := by
  blk_simp [iblk, idx7]
  unfold V
  after_reads_at
  blk_ext [idx7]

/-- The layer's output at position `p` of sequence `s`. -/
def yM (s : Fin 32) (p : Fin 256) (j : Fin 1024) : EReal :=
  OutSpec.out (fun k => m (c, main_arg0) (ix3 s p k)) (fun k => m (c, main_arg1) (ix3 s p k)) (fun k => m (c, main_arg2) (ix3 s p k))
    (fun k => m (c, main_arg3) (ix3 1 0 ⟨2048 + k.val, by omega⟩)) (fun k => m (c, main_arg4) (ix2 0 k)) (fun n k => m (c, main_arg5) (ix3 0 n k))
    (fun k => m (c, main_arg6) (ix2 1 k)) (fun k => m (c, main_arg7) (ix2 1 k)) j

theorem y_at (i j : Fin 1024) : (dats m 0 c).after 8 t (ix2 i j) = yM m c (rowSeq t i) (rowPos i) j := by
  rw [after0_8]
  refine (out8_at _ _ _ _ _ _ _ _ i j).trans ?_
  unfold yRow yM
  simp only [iblk0, iblk1, iblk2, iblk3, iblk4, iblk5, iblk6, iblk7]

theorem emb8 (t : Fin cfg0.N) (y : S1024x1024.Idx) : (win0_8.blk t).view.emb y = ix2 (rowOf t (y 0)) (y 1) := by
  blk_ext [idx8]
  show _ = 1024 * t.val + (y 0).val
  omega

theorem inRows_at (f : Fin 32 → Fin 256 → Fin 1024 → EReal) (i : Fin 1024) (n : Fin 1024) :
    f (rowSeq t i) (rowPos i) n = OutSpec.inRows f (ix2 (rowOf t i) n) := by
  unfold OutSpec.inRows
  refine congrFun (congr (congrArg f (Fin.ext ?_)) (Fin.ext ?_)) n
  · show 4 * t.val + i.val / 256 = (1024 * t.val + i.val) / 256
    omega
  · show i.val % 256 = (1024 * t.val + i.val) % 256
    omega

theorem arr8 : (dats m 0 c).arrAt 8 cfg0.N = OutSpec.inRows (yM m c) := by
  refine (dats m 0 c).arrAt_eq_of_covers 8 _ (by decide +kernel) fun t hf y => ?_
  have h := (y_at m c t (y 0) (y 1)).trans (inRows_at t (yM m c) (y 0) (y 1))
  blk_simp
  refine (congrArg ((dats m 0 c).after 8 t) (ValueIdx.eq_ix2 y)).trans (h.trans ?_)
  exact (congrArg (OutSpec.inRows (yM m c)) (emb8 t y)).symm

end Cert.Kernel3Ideal.Blk

end
-- ==== Proof.OutRef.lean ====
module

public import proofs.«01_k».proof.Proof.OutSpec
public import proofs.«01_k».proof.Proof.Gen.Reference3Ideal.Run
public import Idealize.ShloMosaic.Lib.Pointwise

/-! The reference of the output projection at an index. -/

@[expose] public section

set_option maxRecDepth 16384

noncomputable section

namespace Cert.Reference3Ideal.At

open Cert.Reference3Ideal Cert.Reference3Ideal.Gen Cert.Reference3Ideal.Value Idealize.ShloMosaic Idealize.ShloMosaic.TcCoe Idealize.SL.Sem

/-- The heads, each under its RMS norm. -/
def normR (u : FVec Ideal S32x256x8x128 .f32) (g : FVec Ideal S1x128 .f32) : FVec Ideal S32x256x8x128 .f32 :=
  mulf (mulf u (broadcastInDim S32x256x8x128 ![0, 1, 2, 3] bcast_S32x256x8x1_S32x256x8x128_0_1_2_3 (Host.rsqrt (addf (Host.divf (broadcastInDim S32x256x8x1 ![0, 1, 2] bcast_S32x256x8_S32x256x8x1_0_1_2 (Host.reduceAdd (mulf u u) (constant S_ .f32 0x00000000#32) reducesTo_S32x256x8x128_S32x256x8_d3 h_S_)) (broadcastInDim S32x256x8x1 ![] bcast_S_S32x256x8x1 (constant S_ .f32 0x43000000#32))) (broadcastInDim S32x256x8x1 ![] bcast_S_S32x256x8x1 (constant S_ .f32 0x358637BD#32)))))) (broadcastInDim S32x256x8x128 ![0, 1, 2, 3] bcast_S1x1x1x128_S32x256x8x128_0_1_2_3 (broadcastInDim S1x1x1x128 ![3] bcast_S128_S1x1x1x128_3 (shapeCast _ g shapeCasts_S1x128_S128)))

/-- The heads of the rows, and the rows of the heads. -/
def splitR (o : FVec Ideal S32x256x1024 .f32) : FVec Ideal S32x256x8x128 .f32 := shapeCast _ o shapeCasts_S32x256x1024_S32x256x8x128
def flatR (u : FVec Ideal S32x256x8x128 .f32) : FVec Ideal S32x256x1024 .f32 := shapeCast _ u shapeCasts_S32x256x8x128_S32x256x1024

/-- The residual plus the gated branch. -/
def residR (x : FVec Ideal S32x256x1024 .f32) (md : FVec Ideal S2x8x3072 .f32) (u : FVec Ideal S32x256x1024 .f32) (sg : FVec Ideal S32x256x1024 .bf16)
    (w : FVec Ideal S1x1024x1024 .f32) : FVec Ideal S32x256x1024 .f32 :=
  addf (mulf (broadcastInDim S32x256x1024 ![] bcast_S_S32x256x1024 (constant S_ .f32 0x3FB504F3#32)) x) (mulf (broadcastInDim S32x256x1024 ![0, 1, 2] bcast_S1x1x1024_S32x256x1024_0_1_2 (broadcastInDim S1x1x1024 ![2] bcast_S1024_S1x1x1024_2 (extractStridedSlice S1024 ![2048] (shapeCast _ (extractStridedSlice S1x1x3072 ![1, 0, 0] md slices_S2x8x3072_S1x1x3072_1_0_0) shapeCasts_S1x1x3072_S3072) slices_S3072_S1024_2048))) (Host.dotGeneral dot_S32x256x1024_S1024x1024_S32x256x1024_2_0_01_1_n_n none (mulf u (extf .f32 sg bitsLt_bf16_f32)) (shapeCast _ w shapeCasts_S1x1024x1024_S1024x1024)))

/-- The rows' means. -/
def meanR (y : FVec Ideal S32x256x1024 .f32) : FVec Ideal S32x256x1 .f32 :=
  Host.divf (broadcastInDim S32x256x1 ![0, 1] bcast_S32x256_S32x256x1_0_1 (Host.reduceAdd y (constant S_ .f32 0x00000000#32) reducesTo_S32x256x1024_S32x256_d2 h_S_)) (broadcastInDim S32x256x1 ![] bcast_S_S32x256x1 (constant S_ .f32 0x44800000#32))

/-- The rows less their means. -/
def centredR (y : FVec Ideal S32x256x1024 .f32) (mu : FVec Ideal S32x256x1 .f32) : FVec Ideal S32x256x1024 .f32 :=
  subf y (broadcastInDim S32x256x1024 ![0, 1, 2] bcast_S32x256x1_S32x256x1024_0_1_2 mu)

/-- The centred rows over the root of their variance, with gain and bias. -/
def lnormR (v : FVec Ideal S32x256x1024 .f32) (var : FVec Ideal S32x256x1 .f32) (lg lb : FVec Ideal S2x1024 .f32) : FVec Ideal S32x256x1024 .f32 :=
  addf (mulf (mulf v (broadcastInDim S32x256x1024 ![0, 1, 2] bcast_S32x256x1_S32x256x1024_0_1_2 (Host.rsqrt (addf var (broadcastInDim S32x256x1 ![] bcast_S_S32x256x1 (constant S_ .f32 0x3727C5AC#32)))))) (broadcastInDim S32x256x1024 ![0, 1, 2] bcast_S1x1x1024_S32x256x1024_0_1_2 (broadcastInDim S1x1x1024 ![2] bcast_S1024_S1x1x1024_2 (shapeCast _ (extractStridedSlice S1x1024 ![1, 0] lg slices_S2x1024_S1x1024_1_0) shapeCasts_S1x1024_S1024)))) (broadcastInDim S32x256x1024 ![0, 1, 2] bcast_S1x1x1024_S32x256x1024_0_1_2 (broadcastInDim S1x1x1024 ![2] bcast_S1024_S1x1x1024_2 (shapeCast _ (extractStridedSlice S1x1024 ![1, 0] lb slices_S2x1024_S1x1024_1_0) shapeCasts_S1x1024_S1024)))

/-- The layer norm of the rows. -/
def lnR (y : FVec Ideal S32x256x1024 .f32) (lg lb : FVec Ideal S2x1024 .f32) : FVec Ideal S32x256x1024 .f32 :=
  lnormR (centredR y (meanR y)) (meanR (mulf (centredR y (meanR y)) (centredR y (meanR y)))) lg lb

/-- One row a position. -/
def rows (u : FVec Ideal S32x256x1024 .f32) : FVec Ideal S8192x1024 .f32 := shapeCast _ u shapeCasts_S32x256x1024_S8192x1024

theorem normR_at (u : FVec Ideal S32x256x8x128 .f32) (g : FVec Ideal S1x128 .f32) (s : Fin 32) (p : Fin 256) (h : Fin 8) (d : Fin 128) :
    normR u g (ix4 s p h d) = u (ix4 s p h d) * Ideal.rsqrt (Ideal.div (∑ k, u (ix4 s p h k) * u (ix4 s p h k)) (Ideal.ofBits .f32 0x43000000#32) + Ideal.ofBits .f32 0x358637BD#32)
      * g (ix2 0 d) := by
  unfold normR
  pointwise

theorem splitR_at (o : FVec Ideal S32x256x1024 .f32) (s : Fin 32) (p : Fin 256) (h : Fin 8) (d : Fin 128) :
    splitR o (ix4 s p h d) = o (ix3 s p ⟨128 * h.val + d.val, by omega⟩) := by
  unfold splitR
  refine shapeCast_apply o _ _ (ix3 s p ⟨128 * h.val + d.val, by omega⟩) ?_
  rw [Shape.rowMajor_val_three, Shape.rowMajor_val_four]
  show (s.val * 256 + p.val) * 1024 + (128 * h.val + d.val) = ((s.val * 256 + p.val) * 8 + h.val) * 128 + d.val
  omega

theorem flatR_at (u : FVec Ideal S32x256x8x128 .f32) (s : Fin 32) (p : Fin 256) (n : Fin 1024) :
    flatR u (ix3 s p n) = u (ix4 s p ⟨n.val / 128, by omega⟩ (OutSpec.place n)) := by
  unfold flatR
  refine shapeCast_apply u _ _ (ix4 s p ⟨n.val / 128, by omega⟩ (OutSpec.place n)) ?_
  rw [Shape.rowMajor_val_three, Shape.rowMajor_val_four]
  show ((s.val * 256 + p.val) * 8 + n.val / 128) * 128 + n.val % 128 = (s.val * 256 + p.val) * 1024 + n.val
  omega

theorem heads_at (o : FVec Ideal S32x256x1024 .f32) (g : FVec Ideal S1x128 .f32) (s : Fin 32) (p : Fin 256) (n : Fin 1024) :
    flatR (normR (splitR o) g) (ix3 s p n) = OutSpec.heads (fun k => o (ix3 s p k)) (fun k => g (ix2 0 k)) n := by
  have hl : (⟨128 * (n.val / 128) + (OutSpec.place n).val, by have := (OutSpec.place n).isLt; omega⟩ : Fin 1024) = n := Fin.ext (Nat.div_add_mod n.val 128)
  rw [flatR_at, normR_at]
  simp only [splitR_at]
  rw [hl]
  rfl

theorem residR_at (x : FVec Ideal S32x256x1024 .f32) (md : FVec Ideal S2x8x3072 .f32) (u : FVec Ideal S32x256x1024 .f32) (sg : FVec Ideal S32x256x1024 .bf16)
    (w : FVec Ideal S1x1024x1024 .f32) (s : Fin 32) (p : Fin 256) (j : Fin 1024) :
    residR x md u sg w (ix3 s p j) = Spec.resid (fun k => x (ix3 s p k)) (fun k => md (ix3 1 0 ⟨2048 + k.val, by omega⟩))
      (fun n => u (ix3 s p n) * sg (ix3 s p n)) (fun n k => w (ix3 0 n k)) j := by
  unfold residR Spec.resid
  pointwise

theorem meanR_at (y : FVec Ideal S32x256x1024 .f32) (s : Fin 32) (i : Fin 256) : meanR y (ix3 s i 0) = Spec.mean fun k => y (ix3 s i k) := by
  unfold meanR Spec.mean
  pointwise

theorem centredR_at (y : FVec Ideal S32x256x1024 .f32) (mu : FVec Ideal S32x256x1 .f32) (s : Fin 32) (i : Fin 256) (j : Fin 1024) :
    centredR y mu (ix3 s i j) = y (ix3 s i j) - mu (ix3 s i 0) := by
  unfold centredR
  pointwise

theorem lnR_at (y : FVec Ideal S32x256x1024 .f32) (lg lb : FVec Ideal S2x1024 .f32) (s : Fin 32) (i : Fin 256) (j : Fin 1024) :
    lnR y lg lb (ix3 s i j) = Spec.lnorm (fun k => y (ix3 s i k)) (fun k => lg (ix2 1 k)) (fun k => lb (ix2 1 k)) j := by
  have hm := meanR_at (mulf (centredR y (meanR y)) (centredR y (meanR y))) s i
  have hd : ∀ k, mulf (centredR y (meanR y)) (centredR y (meanR y)) (ix3 s i k) = centredR y (meanR y) (ix3 s i k) * centredR y (meanR y) (ix3 s i k) := fun k => rfl
  have hc : ∀ k, centredR y (meanR y) (ix3 s i k) = y (ix3 s i k) - Spec.mean fun k => y (ix3 s i k) := fun k => by rw [centredR_at, meanR_at]
  simp only [hd, hc] at hm
  unfold Spec.lnorm
  rw [← hm, ← hc]
  unfold lnR
  generalize meanR (mulf _ _) = w
  generalize centredR y (meanR y) = v
  unfold lnormR
  pointwise

theorem rows_at (u : FVec Ideal S32x256x1024 .f32) (r : Fin 8192) (n : Fin 1024) :
    rows u (ix2 r n) = u (ix3 ⟨r.val / 256, by omega⟩ ⟨r.val % 256, Nat.mod_lt _ (Nat.succ_pos 255)⟩ n) := by
  unfold rows
  refine shapeCast_apply u _ _ (ix3 ⟨r.val / 256, by omega⟩ ⟨r.val % 256, Nat.mod_lt _ (Nat.succ_pos 255)⟩ n) ?_
  rw [Shape.rowMajor_val_three, Shape.rowMajor_val_two]
  show (r.val / 256 * 256 + r.val % 256) * 1024 + n.val = r.val * 1024 + n.val
  omega

section

variable (o : FVec Ideal S32x256x1024 .f32) (sg : FVec Ideal S32x256x1024 .bf16) (x : FVec Ideal S32x256x1024 .f32) (md : FVec Ideal S2x8x3072 .f32)
  (g : FVec Ideal S1x128 .f32) (w : FVec Ideal S1x1024x1024 .f32) (lg lb : FVec Ideal S2x1024 .f32)

/-- The reference's result before its rows are put one under another. -/
def yR : FVec Ideal S32x256x1024 .f32 := lnR (residR x md (flatR (normR (splitR o) g)) sg w) lg lb

theorem yR_at (s : Fin 32) (p : Fin 256) (j : Fin 1024) :
    yR o sg x md g w lg lb (ix3 s p j) = OutSpec.out (fun k => o (ix3 s p k)) (fun k => sg (ix3 s p k)) (fun k => x (ix3 s p k))
      (fun k => md (ix3 1 0 ⟨2048 + k.val, by omega⟩)) (fun k => g (ix2 0 k)) (fun n k => w (ix3 0 n k)) (fun k => lg (ix2 1 k)) (fun k => lb (ix2 1 k)) j := by
  unfold yR OutSpec.out
  refine (lnR_at _ lg lb s p j).trans (congrArg (fun q => Spec.lnorm q _ _ j) (funext fun k => ?_))
  refine (residR_at x md _ sg w s p k).trans ?_
  simp only [heads_at]

theorem rows_yR : rows (yR o sg x md g w lg lb) = OutSpec.inRows fun s p j => OutSpec.out (fun k => o (ix3 s p k)) (fun k => sg (ix3 s p k)) (fun k => x (ix3 s p k))
      (fun k => md (ix3 1 0 ⟨2048 + k.val, by omega⟩)) (fun k => g (ix2 0 k)) (fun n k => w (ix3 0 n k)) (fun k => lg (ix2 1 k)) (fun k => lb (ix2 1 k)) j := by
  funext i
  rw [ValueIdx.eq_ix2 i]
  exact (rows_at _ (i 0) (i 1)).trans (yR_at o sg x md g w lg lb _ _ _)

end

theorem res_eq (m : (ℓ : Loc nD τ sig) → Buf (Elt Ideal) ℓ) (c : Dev nD) :
    res_main_v59 m c = rows (yR (m (c, main_arg0)) (m (c, main_arg1)) (m (c, main_arg2)) (m (c, main_arg3)) (m (c, main_arg4)) (m (c, main_arg5)) (m (c, main_arg6))
      (m (c, main_arg7))) := rfl

end Cert.Reference3Ideal.At

end
-- ==== Proof.OutClaims.lean ====
module

public import proofs.«01_k».proof.Proof.OutOut
public import proofs.«01_k».proof.Proof.OutRef
public import proofs.«01_k».proof.Defs
public import proofs.«01_k».proof.Proof.Gen.Kernel3.Frame
public import Idealize.ShloMosaic.Lib.Quiescent

/-! The certificate's conjuncts about the recurrence's output projection. -/

@[expose] public section

set_option maxRecDepth 16384

noncomputable section

namespace Cert.Proof

open Idealize.ShloMosaic Idealize.ShloMosaic.TcCoe Idealize.SL.Sem

theorem frame_p3 : Cert.quiescent_Kernel3 := fun m ρ _ => Cert.Kernel3.Gen.frame m ρ
theorem frame_pi3 : Cert.quiescent_Kernel3Ideal := fun m ρ _ => Cert.Kernel3Ideal.Gen.frame m ρ

theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal := by
  intro m ρ m' ρ' _ hagree
  refine ⟨fun c => (Cert.Kernel3Ideal.Gen.dats m 0 c).arrAt 8 Cert.Kernel3Ideal.cfg0.N, Cert.Kernel3Ideal.Value.run_blocks m ρ, ?_⟩
  refine (θ_run Cert.Reference3Ideal.defs _ _).mono (fun r h c => ?_) (Cert.Reference3Ideal.Value.run (F := Ideal) m' ρ')
  obtain ⟨a0, a1, a2, a3, a4, a5, a6, a7⟩ := hagree c
  obtain ⟨h0, hk⟩ := h c
  refine ⟨h0.trans ?_, hk⟩
  refine (Cert.Reference3Ideal.At.res_eq m' c).trans ((Cert.Reference3Ideal.At.rows_yR _ _ _ _ _ _ _ _).trans (Eq.trans ?_ (Cert.Kernel3Ideal.Blk.arr8 m c).symm))
  refine congrArg Cert.OutSpec.inRows (funext fun s => funext fun p => funext fun j => ?_)
  have e0 := fun k : Fin 1024 => congrFun a0 (ix3 s p k)
  have e1 := fun k : Fin 1024 => congrFun a1 (ix3 s p k)
  have e2 := fun k : Fin 1024 => congrFun a2 (ix3 s p k)
  have e3 := fun k : Fin 1024 => congrFun a3 (ix3 1 0 ⟨2048 + k.val, by omega⟩)
  have e4 := fun k : Fin 128 => congrFun a4 (ix2 0 k)
  have e5 := fun n k : Fin 1024 => congrFun a5 (ix3 0 n k)
  have e6 := fun k : Fin 1024 => congrFun a6 (ix2 1 k)
  have e7 := fun k : Fin 1024 => congrFun a7 (ix2 1 k)
  exact congrFun (congr (congr (congr (congr (congr (congr (congr (congrArg Cert.OutSpec.out (funext e0)) (funext e1)) (funext e2)) (funext e3)) (funext e4))
    (funext fun n => funext fun k => e5 n k)) (funext e6)) (funext e7)) j

end Cert.Proof

end
-- ==== Proof.LatBlock.lean ====
module

public import proofs.«01_k».proof.Proof.Gen.Kernel4Ideal.Value
public import Idealize.ShloMosaic.Lib.Pipeline.ValueKit
public import Idealize.ShloMosaic.Lib.Pipeline.ReadBack

/-! The latent tokens' output projection's body as a function of its input blocks, 1024 rows in chunks of 256: `o` the recurrence's rows,
`sg` their gates, `x` the residual's rows, `md` the modulation row, `ng` the head norm's gain, `w` the projection,
`lg`/`lb` the layer norm's gain and bias. -/

@[expose] public section

set_option maxRecDepth 16384

noncomputable section

namespace Cert.Kernel4Ideal.Blk

open Cert.Kernel4Ideal Cert.Kernel4Ideal.Gen Idealize.ShloMosaic Idealize.ShloMosaic.TcCoe Idealize.SL.Sem

variable {F : FTy → Type} [FloatOps F]

theorem inb_head (r h : ℕ) : ∀ a, ![256 * (r % 4), 128 * (h % 8)] a + ![256, 128] a ≤ S1024x1024.size a := by
  intro a; fin_cases a <;> simp <;> omega

theorem inb_chunk (r : ℕ) : ∀ a, ![256 * (r % 4), 0] a + ![256, 1024] a ≤ S1024x1024.size a := by
  intro a; fin_cases a <;> simp; omega

theorem inb_full : ∀ a, ![0, 0] a + ![1024, 1024] a ≤ S1024x1024.size a := by
  intro a; fin_cases a <;> simp

theorem inb_gain : ∀ a, ![0, 0] a + ![1, 128] a ≤ S1x128.size a := by
  intro a; fin_cases a <;> simp

theorem inb_row : ∀ a, ![0, 0] a + ![1, 1024] a ≤ S1x1024.size a := by
  intro a; fin_cases a <;> simp

theorem inb_mod : ∀ a, ![0, 0, 0, 0] a + ![1, 1, 1, 3072] a ≤ S1x1x1x3072.size a := by
  intro a; fin_cases a <;> simp

/-- One head under its RMS norm. -/
def headNorm (u : FVec F S256x128 .f32) (g : Vec F S1x128 .f32) : FVec F S256x128 .f32 :=
  mulf (mulf u (broadcastTo S256x128 (rsqrt (addf (divf (shapeCast S256x1 (multiReduction .add [1] S256 (mulf u u) 0x00000000#32 reduces_S256x128_S256 (.inl rfl) rfl)
      shapeCasts_S256_S256x1) (broadcast S256x1 (Scalar.ofBits .f32 0x43000000#32))) (broadcast S256x1 (Scalar.ofBits .f32 0x358637BD#32)))) broadcasts_S256x1_S256x128))
    (broadcastTo S256x128 (shapeCast S1x128 g shapeCasts_S1x128_S1x128) broadcasts_S1x128_S256x128)

/-- Head `h` of chunk `r`. -/
def headC (o : Vec F S1024x1024 .f32) (r h : ℕ) : FVec F S256x128 .f32 :=
  shapeCast S256x128 (View.ld o (Rect.unit ![256 * (r % 4), 128 * (h % 8)] ![256, 128] (inb_head r h))) shapeCasts_S256x128_S256x128

/-- Chunk `r` of the rows. -/
def chunk {e : EltTy} (a : Vec F S1024x1024 e) (r : ℕ) : Vec F S256x1024 e :=
  View.ld a (Rect.unit ![256 * (r % 4), 0] ![256, 1024] (inb_chunk r))

/-- Eight heads of 128 lanes, side by side. -/
def stack (p : ℕ → FVec F S256x128 .f32) : FVec F S256x1024 .f32 :=
  concatenate S256x1024 1 [⟨S256x128, p 0⟩, ⟨S256x128, p 1⟩, ⟨S256x128, p 2⟩, ⟨S256x128, p 3⟩, ⟨S256x128, p 4⟩, ⟨S256x128, p 5⟩, ⟨S256x128, p 6⟩, ⟨S256x128, p 7⟩]
    concatenates_S256x128_S256x128_S256x128_S256x128_S256x128_S256x128_S256x128_S256x128_S256x1024_d1

/-- The residual plus the gated branch. -/
def resid (u : FVec F S256x1024 .f32) (sg : Vec F S256x1024 .bf16) (x : Vec F S256x1024 .f32) (md : Vec F S1x1x1x3072 .f32) (w : Vec F S1024x1024 .bf16) :
    FVec F S256x1024 .f32 :=
  addf (mulf (broadcast S256x1024 (Scalar.ofBits .f32 0x3FB504F3#32)) (shapeCast S256x1024 x shapeCasts_S256x1024_S256x1024))
    (mulf (broadcastTo S256x1024 (extractStridedSlice S1x1024 ![0, 2048] (shapeCast S1x3072 md shapeCasts_S1x1x1x3072_S1x3072) slices_S1x3072_o0_2048_S1x1024)
        broadcasts_S1x1024_S256x1024)
      (matmul dot_S256x1024_S1024x1024_S256x1024_1_0_0_1_n_n none
        (truncf .bf16 (mulf u (extf .f32 (shapeCast S256x1024 sg shapeCasts_S256x1024_S256x1024) bitsLt_bf16_f32)) bitsLt_bf16_f32)
        (shapeCast S1024x1024 w shapeCasts_S1024x1024_S1024x1024) (constant S256x1024 .f32 0x00000000#32)))

/-- A row's mean. -/
def rowMean (y : FVec F S256x1024 .f32) : FVec F S256x1 .f32 :=
  divf (shapeCast S256x1 (multiReduction .add [1] S256 y 0x00000000#32 reduces_S256x1024_S256 (.inl rfl) rfl) shapeCasts_S256_S256x1)
    (broadcast S256x1 (Scalar.ofBits .f32 0x44800000#32))

/-- The rows less their means. -/
def centred (y : FVec F S256x1024 .f32) : FVec F S256x1024 .f32 :=
  subf y (broadcastTo S256x1024 (rowMean y) broadcasts_S256x1_S256x1024)

/-- The layer norm of the rows. -/
def layerNorm (y : FVec F S256x1024 .f32) (lg lb : Vec F S1x1024 .f32) : FVec F S256x1024 .f32 :=
  addf (mulf (mulf (centred y) (broadcastTo S256x1024 (rsqrt (addf (rowMean (mulf (centred y) (centred y)))
      (broadcast S256x1 (Scalar.ofBits .f32 0x3727C5AC#32)))) broadcasts_S256x1_S256x1024))
    (broadcastTo S256x1024 (shapeCast S1x1024 lg shapeCasts_S1x1024_S1x1024) broadcasts_S1x1024_S256x1024))
    (broadcastTo S256x1024 (shapeCast S1x1024 lb shapeCasts_S1x1024_S1x1024) broadcasts_S1x1024_S256x1024)

section

variable (o : Vec F S1024x1024 .f32) (sg : Vec F S1024x1024 .bf16) (x : Vec F S1024x1024 .f32) (md : Vec F S1x1x1x3072 .f32) (ng : Vec F S1x128 .f32)
  (w : Vec F S1024x1024 .bf16) (lg lb : Vec F S1x1024 .f32)

/-- The output's chunk `r`. -/
def yC (r : ℕ) : FVec F S256x1024 .f32 :=
  layerNorm (resid (stack fun h => headNorm (headC o r h) (View.ld ng (Rect.unit ![0, 0] ![1, 128] inb_gain))) (chunk sg r) (chunk x r)
      (View.ld md (Rect.unit ![0, 0, 0, 0] ![1, 1, 1, 3072] inb_mod)) (View.ld w (Rect.unit ![0, 0] ![1024, 1024] inb_full)))
    (View.ld lg (Rect.unit ![0, 0] ![1, 1024] inb_row)) (View.ld lb (Rect.unit ![0, 0] ![1, 1024] inb_row))

/-- The first `n` chunks stored. -/
def pieces (p : ℕ → FVec F S256x1024 .f32) : ℕ → List (View.Piece (Elt F) S1024x1024 .f32)
  | 0 => []
  | n + 1 => ⟨Rect.unit ![256 * (n % 4), 0] ![256, 1024] (inb_chunk n), p n⟩ :: pieces p n

theorem out8_eq : out0_8 o sg x md ng w lg lb = View.canon (pieces (yC o sg x md ng w lg lb) 4) := by
  unfold_out out0_8
  rfl

end

end Cert.Kernel4Ideal.Blk

end
-- ==== Proof.LatRows.lean ====
module

public import proofs.«01_k».proof.Proof.LatBlock
public import proofs.«01_k».proof.Proof.OutSpec

/-! The latent tokens' output projection's body at an index. -/

@[expose] public section

set_option maxRecDepth 16384

noncomputable section

namespace Cert.Kernel4Ideal.Blk

open Cert.Kernel4Ideal Cert.Kernel4Ideal.Gen Idealize.ShloMosaic Idealize.ShloMosaic.TcCoe Idealize.SL.Sem

theorem ld_gain (v : Vec Ideal S1x128 .f32) : View.ld (Val := Elt Ideal) v (Rect.unit ![0, 0] ![1, 128] inb_gain) = v := by
  funext j
  unfold View.ld
  refine congrArg v (funext fun a => Fin.ext ?_)
  fin_cases a
  · show 0 + 1 * (j 0).val = (j 0).val
    omega
  · show 0 + 1 * (j 1).val = (j 1).val
    omega

theorem ld_row (v : Vec Ideal S1x1024 .f32) : View.ld (Val := Elt Ideal) v (Rect.unit ![0, 0] ![1, 1024] inb_row) = v := by
  funext j
  unfold View.ld
  refine congrArg v (funext fun a => Fin.ext ?_)
  fin_cases a
  · show 0 + 1 * (j 0).val = (j 0).val
    omega
  · show 0 + 1 * (j 1).val = (j 1).val
    omega

theorem ld_full (v : Vec Ideal S1024x1024 .bf16) : View.ld (Val := Elt Ideal) v (Rect.unit ![0, 0] ![1024, 1024] inb_full) = v := by
  funext j
  unfold View.ld
  refine congrArg v (funext fun a => Fin.ext ?_)
  fin_cases a
  · show 0 + 1 * (j 0).val = (j 0).val
    omega
  · show 0 + 1 * (j 1).val = (j 1).val
    omega

theorem ld_mod (v : Vec Ideal S1x1x1x3072 .f32) : View.ld (Val := Elt Ideal) v (Rect.unit ![0, 0, 0, 0] ![1, 1, 1, 3072] inb_mod) = v := by
  funext j
  unfold View.ld
  refine congrArg v (funext fun a => Fin.ext ?_)
  fin_cases a
  · show 0 + 1 * (j 0).val = (j 0).val
    omega
  · show 0 + 1 * (j 1).val = (j 1).val
    omega
  · show 0 + 1 * (j 2).val = (j 2).val
    omega
  · show 0 + 1 * (j 3).val = (j 3).val
    omega

theorem chunk_at {e : EltTy} (a : Vec Ideal S1024x1024 e) (r : ℕ) (hr : r < 4) (i : Fin 256) (j : Fin 1024) :
    chunk a r (ix2 i j) = a (ix2 ⟨256 * r + i.val, by omega⟩ j) := by
  have hm : r % 4 = r := Nat.mod_eq_of_lt hr
  unfold chunk View.ld
  refine congrArg a (funext fun b => Fin.ext ?_)
  fin_cases b
  · show 256 * (r % 4) + 1 * i.val = 256 * r + i.val
    omega
  · show 0 + 1 * j.val = j.val
    omega

theorem headC_at (o : Vec Ideal S1024x1024 .f32) (r h : ℕ) (hr : r < 4) (hh : h < 8) (i : Fin 256) (d : Fin 128) :
    headC o r h (ix2 i d) = o (ix2 ⟨256 * r + i.val, by omega⟩ ⟨128 * h + d.val, by omega⟩) := by
  have hm : r % 4 = r := Nat.mod_eq_of_lt hr
  have hn : h % 8 = h := Nat.mod_eq_of_lt hh
  unfold headC
  refine (shapeCast_apply _ _ _ (ix2 i d) rfl).trans ?_
  unfold View.ld
  refine congrArg o (funext fun b => Fin.ext ?_)
  fin_cases b
  · show 256 * (r % 4) + 1 * i.val = 256 * r + i.val
    omega
  · show 128 * (h % 8) + 1 * d.val = 128 * h + d.val
    omega

theorem headNorm_at (u : FVec Ideal S256x128 .f32) (g : Vec Ideal S1x128 .f32) (i : Fin 256) (d : Fin 128) :
    headNorm u g (ix2 i d) = u (ix2 i d) * Ideal.rsqrt (Ideal.div (∑ k, u (ix2 i k) * u (ix2 i k)) (Ideal.ofBits .f32 0x43000000#32) + Ideal.ofBits .f32 0x358637BD#32)
      * g (ix2 0 d) := by
  unfold headNorm
  pointwise

theorem stack_cases (p : ℕ → FVec Ideal S256x128 .f32) (i : Fin 256) (n : Fin 1024) (h d : ℕ) (hd : d < 128) (e : n.val = 128 * h + d) :
    p h (ix2 i ⟨d, hd⟩) = p (n.val / 128) (ix2 i (OutSpec.place n)) := by
  have h1 : n.val / 128 = h := by omega
  have h2 : OutSpec.place n = ⟨d, hd⟩ := Fin.ext (by show n.val % 128 = d; omega)
  rw [h1, h2]

theorem stack_at (p : ℕ → FVec Ideal S256x128 .f32) (i : Fin 256) (n : Fin 1024) :
    stack p (ix2 i n) = p (n.val / 128) (ix2 i (OutSpec.place n)) := by
  have hn := n.isLt
  unfold stack
  pointwise
  repeat' split
  all_goals exact stack_cases p i n _ _ _ (by omega)

theorem rowMean_at (y : FVec Ideal S256x1024 .f32) (i : Fin 256) : rowMean (F := Ideal) y (ix2 i 0) = Spec.mean fun k => y (ix2 i k) := by
  unfold rowMean Spec.mean
  pointwise

theorem centred_at (y : FVec Ideal S256x1024 .f32) (i : Fin 256) (j : Fin 1024) :
    centred (F := Ideal) y (ix2 i j) = y (ix2 i j) - Spec.mean fun k => y (ix2 i k) := by
  unfold centred
  rw [← rowMean_at]
  generalize rowMean (F := Ideal) y = w
  pointwise

theorem layerNorm_at (y : FVec Ideal S256x1024 .f32) (lg lb : Vec Ideal S1x1024 .f32) (i : Fin 256) (j : Fin 1024) :
    layerNorm (F := Ideal) y lg lb (ix2 i j) = Spec.lnorm (fun k => y (ix2 i k)) (fun k => lg (ix2 0 k)) (fun k => lb (ix2 0 k)) j := by
  have hm := rowMean_at (mulf (centred y) (centred y)) i
  have hd : ∀ k, mulf (centred (F := Ideal) y) (centred y) (ix2 i k) = centred (F := Ideal) y (ix2 i k) * centred (F := Ideal) y (ix2 i k) := fun k => rfl
  simp only [hd, centred_at] at hm
  unfold Spec.lnorm
  rw [← hm, ← centred_at]
  unfold layerNorm
  generalize rowMean (F := Ideal) _ = w
  generalize centred (F := Ideal) y = v
  pointwise

theorem resid_at (u : FVec Ideal S256x1024 .f32) (sg : Vec Ideal S256x1024 .bf16) (x : Vec Ideal S256x1024 .f32) (md : Vec Ideal S1x1x1x3072 .f32)
    (w : Vec Ideal S1024x1024 .bf16) (i : Fin 256) (j : Fin 1024) :
    resid (F := Ideal) u sg x md w (ix2 i j)
      = Spec.resid (fun k => x (ix2 i k)) (fun k => md (ix4 0 0 0 ⟨2048 + k.val, by omega⟩)) (fun n => u (ix2 i n) * sg (ix2 i n)) (fun n k => w (ix2 n k)) j := by
  unfold resid Spec.resid
  pointwise

section

variable (o : Vec Ideal S1024x1024 .f32) (sg : Vec Ideal S1024x1024 .bf16) (x : Vec Ideal S1024x1024 .f32) (md : Vec Ideal S1x1x1x3072 .f32) (ng : Vec Ideal S1x128 .f32)
  (w : Vec Ideal S1024x1024 .bf16) (lg lb : Vec Ideal S1x1024 .f32)

/-- The output block's row `i`. -/
def yRow (i : Fin 1024) (j : Fin 1024) : EReal :=
  OutSpec.out (fun k => o (ix2 i k)) (fun k => sg (ix2 i k)) (fun k => x (ix2 i k)) (fun k => md (ix4 0 0 0 ⟨2048 + k.val, by omega⟩)) (fun k => ng (ix2 0 k))
    (fun n k => w (ix2 n k)) (fun k => lg (ix2 0 k)) (fun k => lb (ix2 0 k)) j

theorem heads_at (r : ℕ) (hr : r < 4) (i : Fin 256) (n : Fin 1024) :
    stack (fun h => headNorm (headC o r h) ng) (ix2 i n)
      = OutSpec.heads (fun k => o (ix2 ⟨256 * r + i.val, by omega⟩ k)) (fun k => ng (ix2 0 k)) n := by
  have hh : n.val / 128 < 8 := by omega
  have hl : (⟨128 * (n.val / 128) + (OutSpec.place n).val, by have := (OutSpec.place n).isLt; omega⟩ : Fin 1024) = n := Fin.ext (Nat.div_add_mod n.val 128)
  rw [stack_at, headNorm_at]
  simp only [headC_at o r _ hr hh]
  rw [hl]
  rfl

theorem yC_at (r : ℕ) (hr : r < 4) (i : Fin 256) (j : Fin 1024) :
    yC o sg x md ng w lg lb r (ix2 i j) = yRow o sg x md ng w lg lb ⟨256 * r + i.val, by omega⟩ j := by
  unfold yC yRow OutSpec.out
  rw [ld_gain, ld_mod, ld_full, ld_row, ld_row]
  refine (layerNorm_at _ lg lb i j).trans (congrArg (fun q => Spec.lnorm q _ _ j) (funext fun k => ?_))
  refine (resid_at _ _ _ md w i k).trans ?_
  simp only [chunk_at _ r hr, heads_at o ng r hr]

/-- The stored chunks read at a row below the `n`-th chunk. -/
theorem canon_pieces (p : ℕ → FVec Ideal S256x1024 .f32) (y : S1024x1024.Idx) :
    ∀ n ≤ 4, (y 0).val < 256 * n →
      View.canon (pieces p n) y = p ((y 0).val / 256) (ix2 ⟨(y 0).val % 256, Nat.mod_lt _ (by decide)⟩ (y 1))
  | 0, _, h => absurd h (by omega)
  | n + 1, hn, h => by
    have hm : n % 4 = n := Nat.mod_eq_of_lt (by omega)
    by_cases hlt : (y 0).val < 256 * n
    · refine Eq.trans ?_ (canon_pieces p y n (by omega) hlt)
      refine View.canon_cons_of_not_mem _ _ (Rect.not_mem_set_of_axis _ y (0 : Fin 2) (256 * (n % 4)) 256 rfl rfl rfl (.inl ?_))
      rw [hm]; omega
    · have hx := Rect.emb_eq_of_coords (Rect.unit (s := S1024x1024) ![256 * (n % 4), 0] ![256, 1024] (inb_chunk n))
        (ix2 (n0 := 256) (n1 := 1024) ⟨(y 0).val - 256 * n, by omega⟩ (y 1)) y (fun a => by
        fin_cases a
        · show (y 0).val = 256 * (n % 4) + 1 * ((y 0).val - 256 * n); omega
        · show (y 1).val = 0 + 1 * (y 1).val; omega)
      have hd : (y 0).val / 256 = n := by omega
      have hz : (⟨(y 0).val % 256, Nat.mod_lt _ (by decide)⟩ : Fin 256) = ⟨(y 0).val - 256 * n, by omega⟩ := Fin.ext (by simp; omega)
      rw [hd, hz]
      refine Eq.trans (congrArg _ hx.symm) ?_
      exact View.canon_cons_emb _ _ _ _

theorem out8_at (i j : Fin 1024) : out0_8 o sg x md ng w lg lb (ix2 i j) = yRow o sg x md ng w lg lb i j := by
  have hi := i.isLt
  rw [out8_eq]
  refine (canon_pieces _ (ix2 i j) 4 le_rfl hi).trans ?_
  refine (yC_at o sg x md ng w lg lb (i.val / 256) (by omega) ⟨i.val % 256, Nat.mod_lt _ (Nat.succ_pos 255)⟩ j).trans ?_
  exact congrArg (fun q => yRow o sg x md ng w lg lb q j) (Fin.ext (Nat.div_add_mod i.val 256))

end

end Cert.Kernel4Ideal.Blk

end
-- ==== Proof.LatOut.lean ====
module

public import proofs.«01_k».proof.Proof.LatRows
public import Idealize.ShloMosaic.Lib.StableHlo.ReadAt

/-! The latent tokens' output projection's input blocks as elements of the arguments, and its result array after the run. -/

@[expose] public section

set_option maxRecDepth 16384

noncomputable section

namespace Cert.Kernel4Ideal.Blk

open Cert.Kernel4Ideal Cert.Kernel4Ideal.Gen Idealize.ShloMosaic Idealize.ShloMosaic.TcCoe Idealize.SL.Sem

variable (m : (ℓ : Loc nD τ sig) → Buf (Elt Ideal) ℓ) (c : Dev nD) (t : Fin cfg0.N)

theorem t_lt (t : Fin cfg0.N) : t.val < 4 := t.isLt

/-- The sequence the block is. -/
def seqOf (t : Fin cfg0.N) : Fin 4 := ⟨t.val, t_lt t⟩

theorem row_lt (t : Fin cfg0.N) (i : Fin 1024) : 1024 * t.val + i.val < 4096 := by
  have h := t_lt t
  omega

/-- The array's row that the block's row `i` is. -/
def rowOf (t : Fin cfg0.N) (i : Fin 1024) : Fin 4096 := ⟨1024 * t.val + i.val, row_lt t i⟩

theorem idx0 : ∀ t : Fin cfg0.N, win0_0.index t = ![t.val, 0] := by decide +kernel
theorem idx1 : ∀ t : Fin cfg0.N, win0_1.index t = ![t.val, 0] := by decide +kernel
theorem idx2 : ∀ t : Fin cfg0.N, win0_2.index t = ![t.val, 0] := by decide +kernel
theorem idx3 : ∀ t : Fin cfg0.N, win0_3.index t = ![1, 1 + t.val, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0] := by decide +kernel
theorem idx8 : ∀ t : Fin cfg0.N, win0_8.index t = ![t.val, 0] := by decide +kernel

theorem iblk0 (i : Fin 1024) (j : Fin 1024) : iblk m c 0 t (ix2 i j) = m (c, main_arg0) (ix3 (seqOf t) i j) := by
  blk_simp [iblk, idx0]
  unfold V
  after_reads_at
  have e : ((View.whole main_v0).slice (win0_0.rect t)).emb (ix2 i j) = ix2 (n0 := 4096) (n1 := 1024) ⟨1024 * t.val + i.val, row_lt t i⟩ j := by
    blk_ext [idx0]
  simp only [e]
  refine congrArg (m (c, main_arg0)) (funext fun a => Fin.ext ?_)
  fin_cases a
  · show (1024 * t.val + i.val) / 1024 = t.val
    omega
  · show (1024 * t.val + i.val) % 1024 = i.val
    omega
  · rfl

theorem iblk1 (i : Fin 1024) (j : Fin 1024) : iblk m c 1 t (ix2 i j) = m (c, main_arg1) (ix3 (seqOf t) i j) := by
  blk_simp [iblk, idx1]
  unfold V
  after_reads_at
  have e : ((View.whole main_v1).slice (win0_1.rect t)).emb (ix2 i j) = ix2 (n0 := 4096) (n1 := 1024) ⟨1024 * t.val + i.val, row_lt t i⟩ j := by
    blk_ext [idx1]
  simp only [e]
  refine congrArg (m (c, main_arg1)) (funext fun a => Fin.ext ?_)
  fin_cases a
  · show (1024 * t.val + i.val) / 1024 = t.val
    omega
  · show (1024 * t.val + i.val) % 1024 = i.val
    omega
  · rfl

theorem iblk2 (i : Fin 1024) (j : Fin 1024) : iblk m c 2 t (ix2 i j) = m (c, main_arg2) (ix3 (seqOf t) i j) := by
  blk_simp [iblk, idx2]
  unfold V
  after_reads_at
  have e : ((View.whole main_v2).slice (win0_2.rect t)).emb (ix2 i j) = ix2 (n0 := 4096) (n1 := 1024) ⟨1024 * t.val + i.val, row_lt t i⟩ j := by
    blk_ext [idx2]
  simp only [e]
  refine congrArg (m (c, main_arg2)) (funext fun a => Fin.ext ?_)
  fin_cases a
  · show (1024 * t.val + i.val) / 1024 = t.val
    omega
  · show (1024 * t.val + i.val) % 1024 = i.val
    omega
  · rfl

theorem iblk3 (n : Fin 3072) : iblk m c 3 t (ix4 0 0 0 n) = m (c, main_arg3) (ix3 1 ⟨1 + t.val, by have := t_lt t; omega⟩ n) := by
  blk_simp [iblk, idx3]
  unfold V
  after_reads_at
  blk_ext [idx3]

theorem iblk4 (n : Fin 128) : iblk m c 4 t (ix2 0 n) = m (c, main_arg4) (ix2 0 n) := by
  blk_simp [iblk, idx4]
  unfold V
  after_reads_at
  blk_ext [idx4]

theorem iblk5 (k n : Fin 1024) : iblk m c 5 t (ix2 k n) = m (c, main_arg5) (ix3 0 k n) := by
  blk_simp [iblk, idx5]
  unfold V
  after_reads_at
  blk_ext [idx5]

theorem iblk6 (n : Fin 1024) : iblk m c 6 t (ix2 0 n) = m (c, main_arg6) (ix2 1 n) := by
  blk_simp [iblk, idx6]
  unfold V
  after_reads_at
  blk_ext [idx6]

theorem iblk7 (n : Fin 1024) : iblk m c 7 t (ix2 0 n) = m (c, main_arg7) (ix2 1 n) := by
  blk_simp [iblk, idx7]
  unfold V
  after_reads_at
  blk_ext [idx7]

/-- The layer's output at position `p` of sequence `s`. -/
def yM (s : Fin 4) (p : Fin 1024) (j : Fin 1024) : EReal :=
  OutSpec.out (fun k => m (c, main_arg0) (ix3 s p k)) (fun k => m (c, main_arg1) (ix3 s p k)) (fun k => m (c, main_arg2) (ix3 s p k))
    (fun k => m (c, main_arg3) (ix3 1 ⟨1 + s.val, by omega⟩ ⟨2048 + k.val, by omega⟩)) (fun k => m (c, main_arg4) (ix2 0 k)) (fun n k => m (c, main_arg5) (ix3 0 n k))
    (fun k => m (c, main_arg6) (ix2 1 k)) (fun k => m (c, main_arg7) (ix2 1 k)) j

theorem y_at (i j : Fin 1024) : (dats m 0 c).after 8 t (ix2 i j) = yM m c (seqOf t) i j := by
  rw [after0_8]
  refine (out8_at _ _ _ _ _ _ _ _ i j).trans ?_
  unfold yRow yM
  simp only [iblk0, iblk1, iblk2, iblk3, iblk4, iblk5, iblk6, iblk7]
  rfl

theorem emb8 (t : Fin cfg0.N) (y : S1024x1024.Idx) : (win0_8.blk t).view.emb y = ix2 (rowOf t (y 0)) (y 1) := by
  blk_ext [idx8]
  show _ = 1024 * t.val + (y 0).val
  omega

theorem inSeqs_at (f : Fin 4 → Fin 1024 → Fin 1024 → EReal) (i : Fin 1024) (n : Fin 1024) :
    f (seqOf t) i n = OutSpec.inSeqs f (ix2 (rowOf t i) n) := by
  unfold OutSpec.inSeqs
  refine congrFun (congr (congrArg f (Fin.ext ?_)) (Fin.ext ?_)) n
  · show t.val = (1024 * t.val + i.val) / 1024
    omega
  · show i.val = (1024 * t.val + i.val) % 1024
    omega

theorem arr8 : (dats m 0 c).arrAt 8 cfg0.N = OutSpec.inSeqs (yM m c) := by
  refine (dats m 0 c).arrAt_eq_of_covers 8 _ (by decide +kernel) fun t hf y => ?_
  have h := (y_at m c t (y 0) (y 1)).trans (inSeqs_at t (yM m c) (y 0) (y 1))
  blk_simp
  refine (congrArg ((dats m 0 c).after 8 t) (ValueIdx.eq_ix2 y)).trans (h.trans ?_)
  exact (congrArg (OutSpec.inSeqs (yM m c)) (emb8 t y)).symm

end Cert.Kernel4Ideal.Blk

end
-- ==== Proof.LatRef.lean ====
module

public import proofs.«01_k».proof.Proof.OutSpec
public import proofs.«01_k».proof.Proof.Gen.Reference4Ideal.Run
public import Idealize.ShloMosaic.Lib.Pointwise

/-! The reference of the latent tokens' output projection at an index. -/

@[expose] public section

set_option maxRecDepth 16384

noncomputable section

namespace Cert.Reference4Ideal.At

open Cert.Reference4Ideal Cert.Reference4Ideal.Gen Cert.Reference4Ideal.Value Idealize.ShloMosaic Idealize.ShloMosaic.TcCoe Idealize.SL.Sem

/-- The heads, each under its RMS norm. -/
def normR (u : FVec Ideal S4x1024x8x128 .f32) (g : FVec Ideal S1x128 .f32) : FVec Ideal S4x1024x8x128 .f32 :=
  mulf (mulf u (broadcastInDim S4x1024x8x128 ![0, 1, 2, 3] bcast_S4x1024x8x1_S4x1024x8x128_0_1_2_3 (Host.rsqrt (addf (Host.divf (broadcastInDim S4x1024x8x1 ![0, 1, 2] bcast_S4x1024x8_S4x1024x8x1_0_1_2 (Host.reduceAdd (mulf u u) (constant S_ .f32 0x00000000#32) reducesTo_S4x1024x8x128_S4x1024x8_d3 h_S_)) (broadcastInDim S4x1024x8x1 ![] bcast_S_S4x1024x8x1 (constant S_ .f32 0x43000000#32))) (broadcastInDim S4x1024x8x1 ![] bcast_S_S4x1024x8x1 (constant S_ .f32 0x358637BD#32)))))) (broadcastInDim S4x1024x8x128 ![0, 1, 2, 3] bcast_S1x1x1x128_S4x1024x8x128_0_1_2_3 (broadcastInDim S1x1x1x128 ![3] bcast_S128_S1x1x1x128_3 (shapeCast _ g shapeCasts_S1x128_S128)))

/-- The heads of the rows, and the rows of the heads. -/
def splitR (o : FVec Ideal S4x1024x1024 .f32) : FVec Ideal S4x1024x8x128 .f32 := shapeCast _ o shapeCasts_S4x1024x1024_S4x1024x8x128
def flatR (u : FVec Ideal S4x1024x8x128 .f32) : FVec Ideal S4x1024x1024 .f32 := shapeCast _ u shapeCasts_S4x1024x8x128_S4x1024x1024

/-- The residual plus the gated branch. -/
def residR (x : FVec Ideal S4x1024x1024 .f32) (md : FVec Ideal S2x8x3072 .f32) (u : FVec Ideal S4x1024x1024 .f32) (sg : FVec Ideal S4x1024x1024 .bf16)
    (w : FVec Ideal S1x1024x1024 .f32) : FVec Ideal S4x1024x1024 .f32 :=
  addf (mulf (broadcastInDim S4x1024x1024 ![] bcast_S_S4x1024x1024 (constant S_ .f32 0x3FB504F3#32)) x) (mulf (broadcastInDim S4x1024x1024 ![0, 1, 2] bcast_S4x1x1024_S4x1024x1024_0_1_2 (broadcastInDim S4x1x1024 ![0, 2] bcast_S4x1024_S4x1x1024_0_2 (extractStridedSlice S4x1024 ![0, 2048] (shapeCast _ (extractStridedSlice S1x4x3072 ![1, 1, 0] md slices_S2x8x3072_S1x4x3072_1_1_0) shapeCasts_S1x4x3072_S4x3072) slices_S4x3072_S4x1024_0_2048))) (Host.dotGeneral dot_S4x1024x1024_S1024x1024_S4x1024x1024_2_0_01_1_n_n none (mulf u (extf .f32 sg bitsLt_bf16_f32)) (shapeCast _ w shapeCasts_S1x1024x1024_S1024x1024)))

/-- The rows' means. -/
def meanR (y : FVec Ideal S4x1024x1024 .f32) : FVec Ideal S4x1024x1 .f32 :=
  Host.divf (broadcastInDim S4x1024x1 ![0, 1] bcast_S4x1024_S4x1024x1_0_1 (Host.reduceAdd y (constant S_ .f32 0x00000000#32) reducesTo_S4x1024x1024_S4x1024_d2 h_S_)) (broadcastInDim S4x1024x1 ![] bcast_S_S4x1024x1 (constant S_ .f32 0x44800000#32))

/-- The rows less their means. -/
def centredR (y : FVec Ideal S4x1024x1024 .f32) (mu : FVec Ideal S4x1024x1 .f32) : FVec Ideal S4x1024x1024 .f32 :=
  subf y (broadcastInDim S4x1024x1024 ![0, 1, 2] bcast_S4x1024x1_S4x1024x1024_0_1_2 mu)

/-- The centred rows over the root of their variance, with gain and bias. -/
def lnormR (v : FVec Ideal S4x1024x1024 .f32) (var : FVec Ideal S4x1024x1 .f32) (lg lb : FVec Ideal S2x1024 .f32) : FVec Ideal S4x1024x1024 .f32 :=
  addf (mulf (mulf v (broadcastInDim S4x1024x1024 ![0, 1, 2] bcast_S4x1024x1_S4x1024x1024_0_1_2 (Host.rsqrt (addf var (broadcastInDim S4x1024x1 ![] bcast_S_S4x1024x1 (constant S_ .f32 0x3727C5AC#32)))))) (broadcastInDim S4x1024x1024 ![0, 1, 2] bcast_S1x1x1024_S4x1024x1024_0_1_2 (broadcastInDim S1x1x1024 ![2] bcast_S1024_S1x1x1024_2 (shapeCast _ (extractStridedSlice S1x1024 ![1, 0] lg slices_S2x1024_S1x1024_1_0) shapeCasts_S1x1024_S1024)))) (broadcastInDim S4x1024x1024 ![0, 1, 2] bcast_S1x1x1024_S4x1024x1024_0_1_2 (broadcastInDim S1x1x1024 ![2] bcast_S1024_S1x1x1024_2 (shapeCast _ (extractStridedSlice S1x1024 ![1, 0] lb slices_S2x1024_S1x1024_1_0) shapeCasts_S1x1024_S1024)))

/-- The layer norm of the rows. -/
def lnR (y : FVec Ideal S4x1024x1024 .f32) (lg lb : FVec Ideal S2x1024 .f32) : FVec Ideal S4x1024x1024 .f32 :=
  lnormR (centredR y (meanR y)) (meanR (mulf (centredR y (meanR y)) (centredR y (meanR y)))) lg lb

/-- One row a position. -/
def rows (u : FVec Ideal S4x1024x1024 .f32) : FVec Ideal S4096x1024 .f32 := shapeCast _ u shapeCasts_S4x1024x1024_S4096x1024

theorem normR_at (u : FVec Ideal S4x1024x8x128 .f32) (g : FVec Ideal S1x128 .f32) (s : Fin 4) (p : Fin 1024) (h : Fin 8) (d : Fin 128) :
    normR u g (ix4 s p h d) = u (ix4 s p h d) * Ideal.rsqrt (Ideal.div (∑ k, u (ix4 s p h k) * u (ix4 s p h k)) (Ideal.ofBits .f32 0x43000000#32) + Ideal.ofBits .f32 0x358637BD#32)
      * g (ix2 0 d) := by
  unfold normR
  pointwise

theorem splitR_at (o : FVec Ideal S4x1024x1024 .f32) (s : Fin 4) (p : Fin 1024) (h : Fin 8) (d : Fin 128) :
    splitR o (ix4 s p h d) = o (ix3 s p ⟨128 * h.val + d.val, by omega⟩) := by
  unfold splitR
  refine shapeCast_apply o _ _ (ix3 s p ⟨128 * h.val + d.val, by omega⟩) ?_
  rw [Shape.rowMajor_val_three, Shape.rowMajor_val_four]
  show (s.val * 1024 + p.val) * 1024 + (128 * h.val + d.val) = ((s.val * 1024 + p.val) * 8 + h.val) * 128 + d.val
  omega

theorem flatR_at (u : FVec Ideal S4x1024x8x128 .f32) (s : Fin 4) (p : Fin 1024) (n : Fin 1024) :
    flatR u (ix3 s p n) = u (ix4 s p ⟨n.val / 128, by omega⟩ (OutSpec.place n)) := by
  unfold flatR
  refine shapeCast_apply u _ _ (ix4 s p ⟨n.val / 128, by omega⟩ (OutSpec.place n)) ?_
  rw [Shape.rowMajor_val_three, Shape.rowMajor_val_four]
  show ((s.val * 1024 + p.val) * 8 + n.val / 128) * 128 + n.val % 128 = (s.val * 1024 + p.val) * 1024 + n.val
  omega

theorem heads_at (o : FVec Ideal S4x1024x1024 .f32) (g : FVec Ideal S1x128 .f32) (s : Fin 4) (p : Fin 1024) (n : Fin 1024) :
    flatR (normR (splitR o) g) (ix3 s p n) = OutSpec.heads (fun k => o (ix3 s p k)) (fun k => g (ix2 0 k)) n := by
  have hl : (⟨128 * (n.val / 128) + (OutSpec.place n).val, by have := (OutSpec.place n).isLt; omega⟩ : Fin 1024) = n := Fin.ext (Nat.div_add_mod n.val 128)
  rw [flatR_at, normR_at]
  simp only [splitR_at]
  rw [hl]
  rfl

theorem residR_at (x : FVec Ideal S4x1024x1024 .f32) (md : FVec Ideal S2x8x3072 .f32) (u : FVec Ideal S4x1024x1024 .f32) (sg : FVec Ideal S4x1024x1024 .bf16)
    (w : FVec Ideal S1x1024x1024 .f32) (s : Fin 4) (p : Fin 1024) (j : Fin 1024) :
    residR x md u sg w (ix3 s p j) = Spec.resid (fun k => x (ix3 s p k)) (fun k => md (ix3 1 ⟨1 + s.val, by omega⟩ ⟨2048 + k.val, by omega⟩))
      (fun n => u (ix3 s p n) * sg (ix3 s p n)) (fun n k => w (ix3 0 n k)) j := by
  unfold residR Spec.resid
  pointwise

theorem meanR_at (y : FVec Ideal S4x1024x1024 .f32) (s : Fin 4) (i : Fin 1024) : meanR y (ix3 s i 0) = Spec.mean fun k => y (ix3 s i k) := by
  unfold meanR Spec.mean
  pointwise

theorem centredR_at (y : FVec Ideal S4x1024x1024 .f32) (mu : FVec Ideal S4x1024x1 .f32) (s : Fin 4) (i : Fin 1024) (j : Fin 1024) :
    centredR y mu (ix3 s i j) = y (ix3 s i j) - mu (ix3 s i 0) := by
  unfold centredR
  pointwise

theorem lnR_at (y : FVec Ideal S4x1024x1024 .f32) (lg lb : FVec Ideal S2x1024 .f32) (s : Fin 4) (i : Fin 1024) (j : Fin 1024) :
    lnR y lg lb (ix3 s i j) = Spec.lnorm (fun k => y (ix3 s i k)) (fun k => lg (ix2 1 k)) (fun k => lb (ix2 1 k)) j := by
  have hm := meanR_at (mulf (centredR y (meanR y)) (centredR y (meanR y))) s i
  have hd : ∀ k, mulf (centredR y (meanR y)) (centredR y (meanR y)) (ix3 s i k) = centredR y (meanR y) (ix3 s i k) * centredR y (meanR y) (ix3 s i k) := fun k => rfl
  have hc : ∀ k, centredR y (meanR y) (ix3 s i k) = y (ix3 s i k) - Spec.mean fun k => y (ix3 s i k) := fun k => by rw [centredR_at, meanR_at]
  simp only [hd, hc] at hm
  unfold Spec.lnorm
  rw [← hm, ← hc]
  unfold lnR
  generalize meanR (mulf _ _) = w
  generalize centredR y (meanR y) = v
  unfold lnormR
  pointwise

theorem rows_at (u : FVec Ideal S4x1024x1024 .f32) (r : Fin 4096) (n : Fin 1024) :
    rows u (ix2 r n) = u (ix3 ⟨r.val / 1024, by omega⟩ ⟨r.val % 1024, Nat.mod_lt _ (Nat.succ_pos 1023)⟩ n) := by
  unfold rows
  refine shapeCast_apply u _ _ (ix3 ⟨r.val / 1024, by omega⟩ ⟨r.val % 1024, Nat.mod_lt _ (Nat.succ_pos 1023)⟩ n) ?_
  rw [Shape.rowMajor_val_three, Shape.rowMajor_val_two]
  show (r.val / 1024 * 1024 + r.val % 1024) * 1024 + n.val = r.val * 1024 + n.val
  omega

section

variable (o : FVec Ideal S4x1024x1024 .f32) (sg : FVec Ideal S4x1024x1024 .bf16) (x : FVec Ideal S4x1024x1024 .f32) (md : FVec Ideal S2x8x3072 .f32)
  (g : FVec Ideal S1x128 .f32) (w : FVec Ideal S1x1024x1024 .f32) (lg lb : FVec Ideal S2x1024 .f32)

/-- The reference's result before its rows are put one under another. -/
def yR : FVec Ideal S4x1024x1024 .f32 := lnR (residR x md (flatR (normR (splitR o) g)) sg w) lg lb

theorem yR_at (s : Fin 4) (p : Fin 1024) (j : Fin 1024) :
    yR o sg x md g w lg lb (ix3 s p j) = OutSpec.out (fun k => o (ix3 s p k)) (fun k => sg (ix3 s p k)) (fun k => x (ix3 s p k))
      (fun k => md (ix3 1 ⟨1 + s.val, by omega⟩ ⟨2048 + k.val, by omega⟩)) (fun k => g (ix2 0 k)) (fun n k => w (ix3 0 n k)) (fun k => lg (ix2 1 k)) (fun k => lb (ix2 1 k)) j := by
  unfold yR OutSpec.out
  refine (lnR_at _ lg lb s p j).trans (congrArg (fun q => Spec.lnorm q _ _ j) (funext fun k => ?_))
  refine (residR_at x md _ sg w s p k).trans ?_
  simp only [heads_at]

theorem rows_yR : rows (yR o sg x md g w lg lb) = OutSpec.inSeqs fun s p j => OutSpec.out (fun k => o (ix3 s p k)) (fun k => sg (ix3 s p k)) (fun k => x (ix3 s p k))
      (fun k => md (ix3 1 ⟨1 + s.val, by omega⟩ ⟨2048 + k.val, by omega⟩)) (fun k => g (ix2 0 k)) (fun n k => w (ix3 0 n k)) (fun k => lg (ix2 1 k)) (fun k => lb (ix2 1 k)) j := by
  funext i
  rw [ValueIdx.eq_ix2 i]
  exact (rows_at _ (i 0) (i 1)).trans (yR_at o sg x md g w lg lb _ _ _)

end

theorem res_eq (m : (ℓ : Loc nD τ sig) → Buf (Elt Ideal) ℓ) (c : Dev nD) :
    res_main_v59 m c = rows (yR (m (c, main_arg0)) (m (c, main_arg1)) (m (c, main_arg2)) (m (c, main_arg3)) (m (c, main_arg4)) (m (c, main_arg5)) (m (c, main_arg6))
      (m (c, main_arg7))) := rfl

end Cert.Reference4Ideal.At

end
-- ==== Proof.LatClaims.lean ====
module

public import proofs.«01_k».proof.Proof.LatOut
public import proofs.«01_k».proof.Proof.LatRef
public import proofs.«01_k».proof.Defs
public import proofs.«01_k».proof.Proof.Gen.Kernel4.Frame
public import Idealize.ShloMosaic.Lib.Quiescent

/-! The certificate's conjuncts about the recurrence's output projection of the latent tokens. -/

@[expose] public section

set_option maxRecDepth 16384

noncomputable section

namespace Cert.Proof

open Idealize.ShloMosaic Idealize.ShloMosaic.TcCoe Idealize.SL.Sem

theorem frame_p4 : Cert.quiescent_Kernel4 := fun m ρ _ => Cert.Kernel4.Gen.frame m ρ
theorem frame_pi4 : Cert.quiescent_Kernel4Ideal := fun m ρ _ => Cert.Kernel4Ideal.Gen.frame m ρ

theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

theorem preserves4 : Cert.preserves_Kernel4_Kernel4Ideal := trivial

theorem algebraic4 : Cert.algebraic_Kernel4Ideal_Reference4Ideal := by
  intro m ρ m' ρ' _ hagree
  refine ⟨fun c => (Cert.Kernel4Ideal.Gen.dats m 0 c).arrAt 8 Cert.Kernel4Ideal.cfg0.N, Cert.Kernel4Ideal.Value.run_blocks m ρ, ?_⟩
  refine (θ_run Cert.Reference4Ideal.defs _ _).mono (fun r h c => ?_) (Cert.Reference4Ideal.Value.run (F := Ideal) m' ρ')
  obtain ⟨a0, a1, a2, a3, a4, a5, a6, a7⟩ := hagree c
  obtain ⟨h0, hk⟩ := h c
  refine ⟨h0.trans ?_, hk⟩
  refine (Cert.Reference4Ideal.At.res_eq m' c).trans ((Cert.Reference4Ideal.At.rows_yR _ _ _ _ _ _ _ _).trans (Eq.trans ?_ (Cert.Kernel4Ideal.Blk.arr8 m c).symm))
  refine congrArg Cert.OutSpec.inSeqs (funext fun s => funext fun p => funext fun j => ?_)
  have e0 := fun k : Fin 1024 => congrFun a0 (ix3 s p k)
  have e1 := fun k : Fin 1024 => congrFun a1 (ix3 s p k)
  have e2 := fun k : Fin 1024 => congrFun a2 (ix3 s p k)
  have e3 := fun k : Fin 1024 => congrFun a3 (ix3 1 ⟨1 + s.val, by omega⟩ ⟨2048 + k.val, by omega⟩)
  have e4 := fun k : Fin 128 => congrFun a4 (ix2 0 k)
  have e5 := fun n k : Fin 1024 => congrFun a5 (ix3 0 n k)
  have e6 := fun k : Fin 1024 => congrFun a6 (ix2 1 k)
  have e7 := fun k : Fin 1024 => congrFun a7 (ix2 1 k)
  exact congrFun (congr (congr (congr (congr (congr (congr (congr (congrArg Cert.OutSpec.out (funext e0)) (funext e1)) (funext e2)) (funext e3)) (funext e4))
    (funext fun n => funext fun k => e5 n k)) (funext e6)) (funext e7)) j

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Claims
public import proofs.«01_k».proof.Proof.RecClaims
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.OutClaims
public import proofs.«01_k».proof.Proof.LatClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite.Gen.facts,
  frame_p, frame_pi, frame_pi', frame_ri, frame_ri', frame_p2, frame_pi2, frame_ri2, frame_p3, frame_pi3, frame_ri3, frame_p4, frame_pi4, frame_ri4,
  preserves, algebraic, preserves2, algebraic2, preserves3, algebraic3, preserves4, algebraic4⟩

end Cert.Proof

end
